-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_WFf2 (m : (ℓ : Loc Cert.WFf2.nD Cert.WFf2.τ Cert.WFf2.sig) → Buf (Elt Bits) ℓ) : Prop :=
  True

def Pre_WFf2Ideal (m : (ℓ : Loc Cert.WFf2Ideal.nD Cert.WFf2Ideal.τ Cert.WFf2Ideal.sig) → Buf (Elt Ideal) ℓ) : Prop :=
  True

def Pre_WFf2RefIdeal (m : (ℓ : Loc Cert.WFf2RefIdeal.nD Cert.WFf2RefIdeal.τ Cert.WFf2RefIdeal.sig) → Buf (Elt Ideal) ℓ) : Prop :=
  True

def Pre_WFf1 (m : (ℓ : Loc Cert.WFf1.nD Cert.WFf1.τ Cert.WFf1.sig) → Buf (Elt Bits) ℓ) : Prop :=
  True

def Pre_WFf1Ideal (m : (ℓ : Loc Cert.WFf1Ideal.nD Cert.WFf1Ideal.τ Cert.WFf1Ideal.sig) → Buf (Elt Ideal) ℓ) : Prop :=
  True

def Pre_WFf1RefIdeal (m : (ℓ : Loc Cert.WFf1RefIdeal.nD Cert.WFf1RefIdeal.τ Cert.WFf1RefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WGlu (m : (ℓ : Loc Cert.WGlu.nD Cert.WGlu.τ Cert.WGlu.sig) → Buf (Elt Bits) ℓ) : Prop :=
  True

def Pre_WGluIdeal (m : (ℓ : Loc Cert.WGluIdeal.nD Cert.WGluIdeal.τ Cert.WGluIdeal.sig) → Buf (Elt Ideal) ℓ) : Prop :=
  True

def Pre_WGluRefIdeal (m : (ℓ : Loc Cert.WGluRefIdeal.nD Cert.WGluRefIdeal.τ Cert.WGluRefIdeal.sig) → Buf (Elt Ideal) ℓ) : Prop :=
  True

def Pre_WQkv (m : (ℓ : Loc Cert.WQkv.nD Cert.WQkv.τ Cert.WQkv.sig) → Buf (Elt Bits) ℓ) : Prop :=
  True

def Pre_WQkvIdeal (m : (ℓ : Loc Cert.WQkvIdeal.nD Cert.WQkvIdeal.τ Cert.WQkvIdeal.sig) → Buf (Elt Ideal) ℓ) : Prop :=
  True

def Pre_WQkvRefIdeal (m : (ℓ : Loc Cert.WQkvRefIdeal.nD Cert.WQkvRefIdeal.τ Cert.WQkvRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_WFf2 [hWFf2 : Cert.WFf2.Facts] : Prop :=
  ∀ (m : (ℓ : Loc Cert.WFf2.nD Cert.WFf2.τ Cert.WFf2.sig) → Buf (Elt Bits) ℓ) (g : Dev Cert.WFf2.nD → PrngReg), Pre_WFf2 m →
    θ_run (Cert.WFf2.defs (F := Bits)) (onTc (τ := Cert.WFf2.τ) (Cert.WFf2.main (F := Bits))) ⟨m, fun _ => 0, g⟩ (fun r => (∀ c : Dev Cert.WFf2.nD,
      r.2.mem ((c.tc : Thread Cert.WFf2.nD Cert.WFf2.τ).loc Cert.WFf2.main_arg0) = m ((c.tc : Thread Cert.WFf2.nD Cert.WFf2.τ).loc Cert.WFf2.main_arg0)
      ∧ r.2.mem ((c.tc : Thread Cert.WFf2.nD Cert.WFf2.τ).loc Cert.WFf2.main_arg1) = m ((c.tc : Thread Cert.WFf2.nD Cert.WFf2.τ).loc Cert.WFf2.main_arg1))
      ∧ r.2.sem = fun _ => 0)

def quiescent_WFf2Ideal [hWFf2Ideal : Cert.WFf2Ideal.Facts] : Prop :=
  ∀ (m : (ℓ : Loc Cert.WFf2Ideal.nD Cert.WFf2Ideal.τ Cert.WFf2Ideal.sig) → Buf (Elt Ideal) ℓ) (g : Dev Cert.WFf2Ideal.nD → PrngReg), Pre_WFf2Ideal m →
    θ_run (Cert.WFf2Ideal.defs (F := Ideal)) (onTc (τ := Cert.WFf2Ideal.τ) (Cert.WFf2Ideal.main (F := Ideal))) ⟨m, fun _ => 0, g⟩ (fun r => (∀ c : Dev Cert.WFf2Ideal.nD,
      r.2.mem ((c.tc : Thread Cert.WFf2Ideal.nD Cert.WFf2Ideal.τ).loc Cert.WFf2Ideal.main_arg0) = m ((c.tc : Thread Cert.WFf2Ideal.nD Cert.WFf2Ideal.τ).loc Cert.WFf2Ideal.main_arg0)
      ∧ r.2.mem ((c.tc : Thread Cert.WFf2Ideal.nD Cert.WFf2Ideal.τ).loc Cert.WFf2Ideal.main_arg1) = m ((c.tc : Thread Cert.WFf2Ideal.nD Cert.WFf2Ideal.τ).loc Cert.WFf2Ideal.main_arg1))
      ∧ r.2.sem = fun _ => 0)

def quiescent_WFf2RefIdeal [hWFf2RefIdeal : Cert.WFf2RefIdeal.Facts] : Prop :=
  ∀ (m : (ℓ : Loc Cert.WFf2RefIdeal.nD Cert.WFf2RefIdeal.τ Cert.WFf2RefIdeal.sig) → Buf (Elt Ideal) ℓ) (g : Dev Cert.WFf2RefIdeal.nD → PrngReg), Pre_WFf2RefIdeal m →
    θ_run (Cert.WFf2RefIdeal.defs (F := Ideal)) (onTc (τ := Cert.WFf2RefIdeal.τ) (Cert.WFf2RefIdeal.main (F := Ideal))) ⟨m, fun _ => 0, g⟩ (fun r => (∀ c : Dev Cert.WFf2RefIdeal.nD,
      r.2.mem ((c.tc : Thread Cert.WFf2RefIdeal.nD Cert.WFf2RefIdeal.τ).loc Cert.WFf2RefIdeal.main_arg0) = m ((c.tc : Thread Cert.WFf2RefIdeal.nD Cert.WFf2RefIdeal.τ).loc Cert.WFf2RefIdeal.main_arg0)
      ∧ r.2.mem ((c.tc : Thread Cert.WFf2RefIdeal.nD Cert.WFf2RefIdeal.τ).loc Cert.WFf2RefIdeal.main_arg1) = m ((c.tc : Thread Cert.WFf2RefIdeal.nD Cert.WFf2RefIdeal.τ).loc Cert.WFf2RefIdeal.main_arg1))
      ∧ r.2.sem = fun _ => 0)

def quiescent_WFf1 [hWFf1 : Cert.WFf1.Facts] : Prop :=
  ∀ (m : (ℓ : Loc Cert.WFf1.nD Cert.WFf1.τ Cert.WFf1.sig) → Buf (Elt Bits) ℓ) (g : Dev Cert.WFf1.nD → PrngReg), Pre_WFf1 m →
    θ_run (Cert.WFf1.defs (F := Bits)) (onTc (τ := Cert.WFf1.τ) (Cert.WFf1.main (F := Bits))) ⟨m, fun _ => 0, g⟩ (fun r => (∀ c : Dev Cert.WFf1.nD,
      r.2.mem ((c.tc : Thread Cert.WFf1.nD Cert.WFf1.τ).loc Cert.WFf1.main_arg0) = m ((c.tc : Thread Cert.WFf1.nD Cert.WFf1.τ).loc Cert.WFf1.main_arg0)
      ∧ r.2.mem ((c.tc : Thread Cert.WFf1.nD Cert.WFf1.τ).loc Cert.WFf1.main_arg1) = m ((c.tc : Thread Cert.WFf1.nD Cert.WFf1.τ).loc Cert.WFf1.main_arg1)
      ∧ r.2.mem ((c.tc : Thread Cert.WFf1.nD Cert.WFf1.τ).loc Cert.WFf1.main_arg2) = m ((c.tc : Thread Cert.WFf1.nD Cert.WFf1.τ).loc Cert.WFf1.main_arg2))
      ∧ r.2.sem = fun _ => 0)

def quiescent_WFf1Ideal [hWFf1Ideal : Cert.WFf1Ideal.Facts] : Prop :=
  ∀ (m : (ℓ : Loc Cert.WFf1Ideal.nD Cert.WFf1Ideal.τ Cert.WFf1Ideal.sig) → Buf (Elt Ideal) ℓ) (g : Dev Cert.WFf1Ideal.nD → PrngReg), Pre_WFf1Ideal m →
    θ_run (Cert.WFf1Ideal.defs (F := Ideal)) (onTc (τ := Cert.WFf1Ideal.τ) (Cert.WFf1Ideal.main (F := Ideal))) ⟨m, fun _ => 0, g⟩ (fun r => (∀ c : Dev Cert.WFf1Ideal.nD,
      r.2.mem ((c.tc : Thread Cert.WFf1Ideal.nD Cert.WFf1Ideal.τ).loc Cert.WFf1Ideal.main_arg0) = m ((c.tc : Thread Cert.WFf1Ideal.nD Cert.WFf1Ideal.τ).loc Cert.WFf1Ideal.main_arg0)
      ∧ r.2.mem ((c.tc : Thread Cert.WFf1Ideal.nD Cert.WFf1Ideal.τ).loc Cert.WFf1Ideal.main_arg1) = m ((c.tc : Thread Cert.WFf1Ideal.nD Cert.WFf1Ideal.τ).loc Cert.WFf1Ideal.main_arg1)
      ∧ r.2.mem ((c.tc : Thread Cert.WFf1Ideal.nD Cert.WFf1Ideal.τ).loc Cert.WFf1Ideal.main_arg2) = m ((c.tc : Thread Cert.WFf1Ideal.nD Cert.WFf1Ideal.τ).loc Cert.WFf1Ideal.main_arg2))
      ∧ r.2.sem = fun _ => 0)

def quiescent_WFf1RefIdeal [hWFf1RefIdeal : Cert.WFf1RefIdeal.Facts] : Prop :=
  ∀ (m : (ℓ : Loc Cert.WFf1RefIdeal.nD Cert.WFf1RefIdeal.τ Cert.WFf1RefIdeal.sig) → Buf (Elt Ideal) ℓ) (g : Dev Cert.WFf1RefIdeal.nD → PrngReg), Pre_WFf1RefIdeal m →
    θ_run (Cert.WFf1RefIdeal.defs (F := Ideal)) (onTc (τ := Cert.WFf1RefIdeal.τ) (Cert.WFf1RefIdeal.main (F := Ideal))) ⟨m, fun _ => 0, g⟩ (fun r => (∀ c : Dev Cert.WFf1RefIdeal.nD,
      r.2.mem ((c.tc : Thread Cert.WFf1RefIdeal.nD Cert.WFf1RefIdeal.τ).loc Cert.WFf1RefIdeal.main_arg0) = m ((c.tc : Thread Cert.WFf1RefIdeal.nD Cert.WFf1RefIdeal.τ).loc Cert.WFf1RefIdeal.main_arg0)
      ∧ r.2.mem ((c.tc : Thread Cert.WFf1RefIdeal.nD Cert.WFf1RefIdeal.τ).loc Cert.WFf1RefIdeal.main_arg1) = m ((c.tc : Thread Cert.WFf1RefIdeal.nD Cert.WFf1RefIdeal.τ).loc Cert.WFf1RefIdeal.main_arg1)
      ∧ r.2.mem ((c.tc : Thread Cert.WFf1RefIdeal.nD Cert.WFf1RefIdeal.τ).loc Cert.WFf1RefIdeal.main_arg2) = m ((c.tc : Thread Cert.WFf1RefIdeal.nD Cert.WFf1RefIdeal.τ).loc Cert.WFf1RefIdeal.main_arg2))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WGlu [hWGlu : Cert.WGlu.Facts] : Prop :=
  ∀ (m : (ℓ : Loc Cert.WGlu.nD Cert.WGlu.τ Cert.WGlu.sig) → Buf (Elt Bits) ℓ) (g : Dev Cert.WGlu.nD → PrngReg), Pre_WGlu m →
    θ_run (Cert.WGlu.defs (F := Bits)) (onTc (τ := Cert.WGlu.τ) (Cert.WGlu.main (F := Bits))) ⟨m, fun _ => 0, g⟩ (fun r => (∀ c : Dev Cert.WGlu.nD,
      r.2.mem ((c.tc : Thread Cert.WGlu.nD Cert.WGlu.τ).loc Cert.WGlu.main_arg0) = m ((c.tc : Thread Cert.WGlu.nD Cert.WGlu.τ).loc Cert.WGlu.main_arg0)
      ∧ r.2.mem ((c.tc : Thread Cert.WGlu.nD Cert.WGlu.τ).loc Cert.WGlu.main_arg1) = m ((c.tc : Thread Cert.WGlu.nD Cert.WGlu.τ).loc Cert.WGlu.main_arg1)
      ∧ r.2.mem ((c.tc : Thread Cert.WGlu.nD Cert.WGlu.τ).loc Cert.WGlu.main_arg2) = m ((c.tc : Thread Cert.WGlu.nD Cert.WGlu.τ).loc Cert.WGlu.main_arg2))
      ∧ r.2.sem = fun _ => 0)

def quiescent_WGluIdeal [hWGluIdeal : Cert.WGluIdeal.Facts] : Prop :=
  ∀ (m : (ℓ : Loc Cert.WGluIdeal.nD Cert.WGluIdeal.τ Cert.WGluIdeal.sig) → Buf (Elt Ideal) ℓ) (g : Dev Cert.WGluIdeal.nD → PrngReg), Pre_WGluIdeal m →
    θ_run (Cert.WGluIdeal.defs (F := Ideal)) (onTc (τ := Cert.WGluIdeal.τ) (Cert.WGluIdeal.main (F := Ideal))) ⟨m, fun _ => 0, g⟩ (fun r => (∀ c : Dev Cert.WGluIdeal.nD,
      r.2.mem ((c.tc : Thread Cert.WGluIdeal.nD Cert.WGluIdeal.τ).loc Cert.WGluIdeal.main_arg0) = m ((c.tc : Thread Cert.WGluIdeal.nD Cert.WGluIdeal.τ).loc Cert.WGluIdeal.main_arg0)
      ∧ r.2.mem ((c.tc : Thread Cert.WGluIdeal.nD Cert.WGluIdeal.τ).loc Cert.WGluIdeal.main_arg1) = m ((c.tc : Thread Cert.WGluIdeal.nD Cert.WGluIdeal.τ).loc Cert.WGluIdeal.main_arg1)
      ∧ r.2.mem ((c.tc : Thread Cert.WGluIdeal.nD Cert.WGluIdeal.τ).loc Cert.WGluIdeal.main_arg2) = m ((c.tc : Thread Cert.WGluIdeal.nD Cert.WGluIdeal.τ).loc Cert.WGluIdeal.main_arg2))
      ∧ r.2.sem = fun _ => 0)

def quiescent_WGluRefIdeal [hWGluRefIdeal : Cert.WGluRefIdeal.Facts] : Prop :=
  ∀ (m : (ℓ : Loc Cert.WGluRefIdeal.nD Cert.WGluRefIdeal.τ Cert.WGluRefIdeal.sig) → Buf (Elt Ideal) ℓ) (g : Dev Cert.WGluRefIdeal.nD → PrngReg), Pre_WGluRefIdeal m →
    θ_run (Cert.WGluRefIdeal.defs (F := Ideal)) (onTc (τ := Cert.WGluRefIdeal.τ) (Cert.WGluRefIdeal.main (F := Ideal))) ⟨m, fun _ => 0, g⟩ (fun r => (∀ c : Dev Cert.WGluRefIdeal.nD,
      r.2.mem ((c.tc : Thread Cert.WGluRefIdeal.nD Cert.WGluRefIdeal.τ).loc Cert.WGluRefIdeal.main_arg0) = m ((c.tc : Thread Cert.WGluRefIdeal.nD Cert.WGluRefIdeal.τ).loc Cert.WGluRefIdeal.main_arg0)
      ∧ r.2.mem ((c.tc : Thread Cert.WGluRefIdeal.nD Cert.WGluRefIdeal.τ).loc Cert.WGluRefIdeal.main_arg1) = m ((c.tc : Thread Cert.WGluRefIdeal.nD Cert.WGluRefIdeal.τ).loc Cert.WGluRefIdeal.main_arg1)
      ∧ r.2.mem ((c.tc : Thread Cert.WGluRefIdeal.nD Cert.WGluRefIdeal.τ).loc Cert.WGluRefIdeal.main_arg2) = m ((c.tc : Thread Cert.WGluRefIdeal.nD Cert.WGluRefIdeal.τ).loc Cert.WGluRefIdeal.main_arg2))
      ∧ r.2.sem = fun _ => 0)

def quiescent_WQkv [hWQkv : Cert.WQkv.Facts] : Prop :=
  ∀ (m : (ℓ : Loc Cert.WQkv.nD Cert.WQkv.τ Cert.WQkv.sig) → Buf (Elt Bits) ℓ) (g : Dev Cert.WQkv.nD → PrngReg), Pre_WQkv m →
    θ_run (Cert.WQkv.defs (F := Bits)) (onTc (τ := Cert.WQkv.τ) (Cert.WQkv.main (F := Bits))) ⟨m, fun _ => 0, g⟩ (fun r => (∀ c : Dev Cert.WQkv.nD,
      r.2.mem ((c.tc : Thread Cert.WQkv.nD Cert.WQkv.τ).loc Cert.WQkv.main_arg0) = m ((c.tc : Thread Cert.WQkv.nD Cert.WQkv.τ).loc Cert.WQkv.main_arg0)
      ∧ r.2.mem ((c.tc : Thread Cert.WQkv.nD Cert.WQkv.τ).loc Cert.WQkv.main_arg1) = m ((c.tc : Thread Cert.WQkv.nD Cert.WQkv.τ).loc Cert.WQkv.main_arg1)
      ∧ r.2.mem ((c.tc : Thread Cert.WQkv.nD Cert.WQkv.τ).loc Cert.WQkv.main_arg2) = m ((c.tc : Thread Cert.WQkv.nD Cert.WQkv.τ).loc Cert.WQkv.main_arg2))
      ∧ r.2.sem = fun _ => 0)

def quiescent_WQkvIdeal [hWQkvIdeal : Cert.WQkvIdeal.Facts] : Prop :=
  ∀ (m : (ℓ : Loc Cert.WQkvIdeal.nD Cert.WQkvIdeal.τ Cert.WQkvIdeal.sig) → Buf (Elt Ideal) ℓ) (g : Dev Cert.WQkvIdeal.nD → PrngReg), Pre_WQkvIdeal m →
    θ_run (Cert.WQkvIdeal.defs (F := Ideal)) (onTc (τ := Cert.WQkvIdeal.τ) (Cert.WQkvIdeal.main (F := Ideal))) ⟨m, fun _ => 0, g⟩ (fun r => (∀ c : Dev Cert.WQkvIdeal.nD,
      r.2.mem ((c.tc : Thread Cert.WQkvIdeal.nD Cert.WQkvIdeal.τ).loc Cert.WQkvIdeal.main_arg0) = m ((c.tc : Thread Cert.WQkvIdeal.nD Cert.WQkvIdeal.τ).loc Cert.WQkvIdeal.main_arg0)
      ∧ r.2.mem ((c.tc : Thread Cert.WQkvIdeal.nD Cert.WQkvIdeal.τ).loc Cert.WQkvIdeal.main_arg1) = m ((c.tc : Thread Cert.WQkvIdeal.nD Cert.WQkvIdeal.τ).loc Cert.WQkvIdeal.main_arg1)
      ∧ r.2.mem ((c.tc : Thread Cert.WQkvIdeal.nD Cert.WQkvIdeal.τ).loc Cert.WQkvIdeal.main_arg2) = m ((c.tc : Thread Cert.WQkvIdeal.nD Cert.WQkvIdeal.τ).loc Cert.WQkvIdeal.main_arg2))
      ∧ r.2.sem = fun _ => 0)

def quiescent_WQkvRefIdeal [hWQkvRefIdeal : Cert.WQkvRefIdeal.Facts] : Prop :=
  ∀ (m : (ℓ : Loc Cert.WQkvRefIdeal.nD Cert.WQkvRefIdeal.τ Cert.WQkvRefIdeal.sig) → Buf (Elt Ideal) ℓ) (g : Dev Cert.WQkvRefIdeal.nD → PrngReg), Pre_WQkvRefIdeal m →
    θ_run (Cert.WQkvRefIdeal.defs (F := Ideal)) (onTc (τ := Cert.WQkvRefIdeal.τ) (Cert.WQkvRefIdeal.main (F := Ideal))) ⟨m, fun _ => 0, g⟩ (fun r => (∀ c : Dev Cert.WQkvRefIdeal.nD,
      r.2.mem ((c.tc : Thread Cert.WQkvRefIdeal.nD Cert.WQkvRefIdeal.τ).loc Cert.WQkvRefIdeal.main_arg0) = m ((c.tc : Thread Cert.WQkvRefIdeal.nD Cert.WQkvRefIdeal.τ).loc Cert.WQkvRefIdeal.main_arg0)
      ∧ r.2.mem ((c.tc : Thread Cert.WQkvRefIdeal.nD Cert.WQkvRefIdeal.τ).loc Cert.WQkvRefIdeal.main_arg1) = m ((c.tc : Thread Cert.WQkvRefIdeal.nD Cert.WQkvRefIdeal.τ).loc Cert.WQkvRefIdeal.main_arg1)
      ∧ r.2.mem ((c.tc : Thread Cert.WQkvRefIdeal.nD Cert.WQkvRefIdeal.τ).loc Cert.WQkvRefIdeal.main_arg2) = m ((c.tc : Thread Cert.WQkvRefIdeal.nD Cert.WQkvRefIdeal.τ).loc Cert.WQkvRefIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v32_0)) (v1 : (c : Dev Cert.MixIdeal.nD) → Buf (Elt Ideal) ((c.tc : Thread Cert.MixIdeal.nD Cert.MixIdeal.τ).loc Cert.MixIdeal.main_v32_1)) (v2 : (c : Dev Cert.MixIdeal.nD) → Buf (Elt Ideal) ((c.tc : Thread Cert.MixIdeal.nD Cert.MixIdeal.τ).loc Cert.MixIdeal.main_v32_2)) (v3 : (c : Dev Cert.MixIdeal.nD) → Buf (Elt Ideal) ((c.tc : Thread Cert.MixIdeal.nD Cert.MixIdeal.τ).loc Cert.MixIdeal.main_v32_3)) (v4 : (c : Dev Cert.MixIdeal.nD) → Buf (Elt Ideal) ((c.tc : Thread Cert.MixIdeal.nD Cert.MixIdeal.τ).loc Cert.MixIdeal.main_v32_4)) (v5 : (c : Dev Cert.MixIdeal.nD) → Buf (Elt Ideal) ((c.tc : Thread Cert.MixIdeal.nD Cert.MixIdeal.τ).loc Cert.MixIdeal.main_v32_5)) (v6 : (c : Dev Cert.MixIdeal.nD) → Buf (Elt Ideal) ((c.tc : Thread Cert.MixIdeal.nD Cert.MixIdeal.τ).loc Cert.MixIdeal.main_v32_6)) (v7 : (c : Dev Cert.MixIdeal.nD) → Buf (Elt Ideal) ((c.tc : Thread Cert.MixIdeal.nD Cert.MixIdeal.τ).loc Cert.MixIdeal.main_v32_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v32_0) = v0 c
          ∧ r.2.mem ((c.tc : Thread Cert.MixIdeal.nD Cert.MixIdeal.τ).loc Cert.MixIdeal.main_v32_1) = v1 c
          ∧ r.2.mem ((c.tc : Thread Cert.MixIdeal.nD Cert.MixIdeal.τ).loc Cert.MixIdeal.main_v32_2) = v2 c
          ∧ r.2.mem ((c.tc : Thread Cert.MixIdeal.nD Cert.MixIdeal.τ).loc Cert.MixIdeal.main_v32_3) = v3 c
          ∧ r.2.mem ((c.tc : Thread Cert.MixIdeal.nD Cert.MixIdeal.τ).loc Cert.MixIdeal.main_v32_4) = v4 c
          ∧ r.2.mem ((c.tc : Thread Cert.MixIdeal.nD Cert.MixIdeal.τ).loc Cert.MixIdeal.main_v32_5) = v5 c
          ∧ r.2.mem ((c.tc : Thread Cert.MixIdeal.nD Cert.MixIdeal.τ).loc Cert.MixIdeal.main_v32_6) = v6 c
          ∧ r.2.mem ((c.tc : Thread Cert.MixIdeal.nD Cert.MixIdeal.τ).loc Cert.MixIdeal.main_v32_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v95) = v0 c
          ∧ r.2.mem ((c.tc : Thread Cert.MixRefIdeal.nD Cert.MixRefIdeal.τ).loc Cert.MixRefIdeal.main_v96) = v1 c
          ∧ r.2.mem ((c.tc : Thread Cert.MixRefIdeal.nD Cert.MixRefIdeal.τ).loc Cert.MixRefIdeal.main_v97) = v2 c
          ∧ r.2.mem ((c.tc : Thread Cert.MixRefIdeal.nD Cert.MixRefIdeal.τ).loc Cert.MixRefIdeal.main_v92) = v3 c
          ∧ r.2.mem ((c.tc : Thread Cert.MixRefIdeal.nD Cert.MixRefIdeal.τ).loc Cert.MixRefIdeal.main_v98) = v4 c
          ∧ r.2.mem ((c.tc : Thread Cert.MixRefIdeal.nD Cert.MixRefIdeal.τ).loc Cert.MixRefIdeal.main_v68) = v5 c
          ∧ r.2.mem ((c.tc : Thread Cert.MixRefIdeal.nD Cert.MixRefIdeal.τ).loc Cert.MixRefIdeal.main_v65) = v6 c
          ∧ r.2.mem ((c.tc : Thread Cert.MixRefIdeal.nD Cert.MixRefIdeal.τ).loc Cert.MixRefIdeal.main_v94) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v18_0)) (v1 : (c : Dev Cert.FfnIdeal.nD) → Buf (Elt Ideal) ((c.tc : Thread Cert.FfnIdeal.nD Cert.FfnIdeal.τ).loc Cert.FfnIdeal.main_v18_1)) (v2 : (c : Dev Cert.FfnIdeal.nD) → Buf (Elt Ideal) ((c.tc : Thread Cert.FfnIdeal.nD Cert.FfnIdeal.τ).loc Cert.FfnIdeal.main_v18_2)) (v3 : (c : Dev Cert.FfnIdeal.nD) → Buf (Elt Ideal) ((c.tc : Thread Cert.FfnIdeal.nD Cert.FfnIdeal.τ).loc Cert.FfnIdeal.main_v18_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18_0) = v0 c
          ∧ r.2.mem ((c.tc : Thread Cert.FfnIdeal.nD Cert.FfnIdeal.τ).loc Cert.FfnIdeal.main_v18_1) = v1 c
          ∧ r.2.mem ((c.tc : Thread Cert.FfnIdeal.nD Cert.FfnIdeal.τ).loc Cert.FfnIdeal.main_v18_2) = v2 c
          ∧ r.2.mem ((c.tc : Thread Cert.FfnIdeal.nD Cert.FfnIdeal.τ).loc Cert.FfnIdeal.main_v18_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_v50) = v1 c
          ∧ r.2.mem ((c.tc : Thread Cert.FfnRefIdeal.nD Cert.FfnRefIdeal.τ).loc Cert.FfnRefIdeal.main_v52) = v2 c
          ∧ r.2.mem ((c.tc : Thread Cert.FfnRefIdeal.nD Cert.FfnRefIdeal.τ).loc Cert.FfnRefIdeal.main_v33) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v36) = v0 c
          ∧ r.2.mem ((c.tc : Thread Cert.InRefIdeal.nD Cert.InRefIdeal.τ).loc Cert.InRefIdeal.main_v19) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_WFf2_WFf2Ideal : Prop :=
  True

def algebraic_WFf2Ideal_WFf2RefIdeal [hWFf2Ideal : Cert.WFf2Ideal.Facts] [hWFf2RefIdeal : Cert.WFf2RefIdeal.Facts] : Prop :=
  ∀ (m : (ℓ : Loc Cert.WFf2Ideal.nD Cert.WFf2Ideal.τ Cert.WFf2Ideal.sig) → Buf (Elt Ideal) ℓ) (g : Dev Cert.WFf2Ideal.nD → PrngReg)
    (m' : (ℓ : Loc Cert.WFf2RefIdeal.nD Cert.WFf2RefIdeal.τ Cert.WFf2RefIdeal.sig) → Buf (Elt Ideal) ℓ) (g' : Dev Cert.WFf2RefIdeal.nD → PrngReg), Pre_WFf2Ideal m →
    (∀ c : Dev Cert.WFf2Ideal.nD,
      m' ((c.tc : Thread Cert.WFf2RefIdeal.nD Cert.WFf2RefIdeal.τ).loc Cert.WFf2RefIdeal.main_arg0) = m ((c.tc : Thread Cert.WFf2Ideal.nD Cert.WFf2Ideal.τ).loc Cert.WFf2Ideal.main_arg0)
      ∧ m' ((c.tc : Thread Cert.WFf2RefIdeal.nD Cert.WFf2RefIdeal.τ).loc Cert.WFf2RefIdeal.main_arg1) = m ((c.tc : Thread Cert.WFf2Ideal.nD Cert.WFf2Ideal.τ).loc Cert.WFf2Ideal.main_arg1)) →
    ∃ (v0 : (c : Dev Cert.WFf2Ideal.nD) → Buf (Elt Ideal) ((c.tc : Thread Cert.WFf2Ideal.nD Cert.WFf2Ideal.τ).loc Cert.WFf2Ideal.main_v2)),
      θ_run (Cert.WFf2Ideal.defs (F := Ideal)) (onTc (τ := Cert.WFf2Ideal.τ) (Cert.WFf2Ideal.main (F := Ideal))) ⟨m, fun _ => 0, g⟩ (fun r => ∀ c : Dev Cert.WFf2Ideal.nD,
          r.2.mem ((c.tc : Thread Cert.WFf2Ideal.nD Cert.WFf2Ideal.τ).loc Cert.WFf2Ideal.main_v2) = v0 c
          ∧ r.2.mem ((c.tc : Thread Cert.WFf2Ideal.nD Cert.WFf2Ideal.τ).loc Cert.WFf2Ideal.main_arg0) = m ((c.tc : Thread Cert.WFf2Ideal.nD Cert.WFf2Ideal.τ).loc Cert.WFf2Ideal.main_arg0)
          ∧ r.2.mem ((c.tc : Thread Cert.WFf2Ideal.nD Cert.WFf2Ideal.τ).loc Cert.WFf2Ideal.main_arg1) = m ((c.tc : Thread Cert.WFf2Ideal.nD Cert.WFf2Ideal.τ).loc Cert.WFf2Ideal.main_arg1))
      ∧ θ_run (Cert.WFf2RefIdeal.defs (F := Ideal)) (onTc (τ := Cert.WFf2RefIdeal.τ) (Cert.WFf2RefIdeal.main (F := Ideal))) ⟨m', fun _ => 0, g'⟩ (fun r => ∀ c : Dev Cert.WFf2RefIdeal.nD,
          r.2.mem ((c.tc : Thread Cert.WFf2RefIdeal.nD Cert.WFf2RefIdeal.τ).loc Cert.WFf2RefIdeal.main_v6) = v0 c
          ∧ r.2.mem ((c.tc : Thread Cert.WFf2RefIdeal.nD Cert.WFf2RefIdeal.τ).loc Cert.WFf2RefIdeal.main_arg0) = m' ((c.tc : Thread Cert.WFf2RefIdeal.nD Cert.WFf2RefIdeal.τ).loc Cert.WFf2RefIdeal.main_arg0)
          ∧ r.2.mem ((c.tc : Thread Cert.WFf2RefIdeal.nD Cert.WFf2RefIdeal.τ).loc Cert.WFf2RefIdeal.main_arg1) = m' ((c.tc : Thread Cert.WFf2RefIdeal.nD Cert.WFf2RefIdeal.τ).loc Cert.WFf2RefIdeal.main_arg1))

def preserves_WFf1_WFf1Ideal : Prop :=
  True

def algebraic_WFf1Ideal_WFf1RefIdeal [hWFf1Ideal : Cert.WFf1Ideal.Facts] [hWFf1RefIdeal : Cert.WFf1RefIdeal.Facts] : Prop :=
  ∀ (m : (ℓ : Loc Cert.WFf1Ideal.nD Cert.WFf1Ideal.τ Cert.WFf1Ideal.sig) → Buf (Elt Ideal) ℓ) (g : Dev Cert.WFf1Ideal.nD → PrngReg)
    (m' : (ℓ : Loc Cert.WFf1RefIdeal.nD Cert.WFf1RefIdeal.τ Cert.WFf1RefIdeal.sig) → Buf (Elt Ideal) ℓ) (g' : Dev Cert.WFf1RefIdeal.nD → PrngReg), Pre_WFf1Ideal m →
    (∀ c : Dev Cert.WFf1Ideal.nD,
      m' ((c.tc : Thread Cert.WFf1RefIdeal.nD Cert.WFf1RefIdeal.τ).loc Cert.WFf1RefIdeal.main_arg0) = m ((c.tc : Thread Cert.WFf1Ideal.nD Cert.WFf1Ideal.τ).loc Cert.WFf1Ideal.main_arg0)
      ∧ m' ((c.tc : Thread Cert.WFf1RefIdeal.nD Cert.WFf1RefIdeal.τ).loc Cert.WFf1RefIdeal.main_arg1) = m ((c.tc : Thread Cert.WFf1Ideal.nD Cert.WFf1Ideal.τ).loc Cert.WFf1Ideal.main_arg1)
      ∧ m' ((c.tc : Thread Cert.WFf1RefIdeal.nD Cert.WFf1RefIdeal.τ).loc Cert.WFf1RefIdeal.main_arg2) = m ((c.tc : Thread Cert.WFf1Ideal.nD Cert.WFf1Ideal.τ).loc Cert.WFf1Ideal.main_arg2)) →
    ∃ (v0 : (c : Dev Cert.WFf1Ideal.nD) → Buf (Elt Ideal) ((c.tc : Thread Cert.WFf1Ideal.nD Cert.WFf1Ideal.τ).loc Cert.WFf1Ideal.main_v14)),
      θ_run (Cert.WFf1Ideal.defs (F := Ideal)) (onTc (τ := Cert.WFf1Ideal.τ) (Cert.WFf1Ideal.main (F := Ideal))) ⟨m, fun _ => 0, g⟩ (fun r => ∀ c : Dev Cert.WFf1Ideal.nD,
          r.2.mem ((c.tc : Thread Cert.WFf1Ideal.nD Cert.WFf1Ideal.τ).loc Cert.WFf1Ideal.main_v14) = v0 c
          ∧ r.2.mem ((c.tc : Thread Cert.WFf1Ideal.nD Cert.WFf1Ideal.τ).loc Cert.WFf1Ideal.main_arg0) = m ((c.tc : Thread Cert.WFf1Ideal.nD Cert.WFf1Ideal.τ).loc Cert.WFf1Ideal.main_arg0)
          ∧ r.2.mem ((c.tc : Thread Cert.WFf1Ideal.nD Cert.WFf1Ideal.τ).loc Cert.WFf1Ideal.main_arg1) = m ((c.tc : Thread Cert.WFf1Ideal.nD Cert.WFf1Ideal.τ).loc Cert.WFf1Ideal.main_arg1)
          ∧ r.2.mem ((c.tc : Thread Cert.WFf1Ideal.nD Cert.WFf1Ideal.τ).loc Cert.WFf1Ideal.main_arg2) = m ((c.tc : Thread Cert.WFf1Ideal.nD Cert.WFf1Ideal.τ).loc Cert.WFf1Ideal.main_arg2))
      ∧ θ_run (Cert.WFf1RefIdeal.defs (F := Ideal)) (onTc (τ := Cert.WFf1RefIdeal.τ) (Cert.WFf1RefIdeal.main (F := Ideal))) ⟨m', fun _ => 0, g'⟩ (fun r => ∀ c : Dev Cert.WFf1RefIdeal.nD,
          r.2.mem ((c.tc : Thread Cert.WFf1RefIdeal.nD Cert.WFf1RefIdeal.τ).loc Cert.WFf1RefIdeal.main_v18) = v0 c
          ∧ r.2.mem ((c.tc : Thread Cert.WFf1RefIdeal.nD Cert.WFf1RefIdeal.τ).loc Cert.WFf1RefIdeal.main_arg0) = m' ((c.tc : Thread Cert.WFf1RefIdeal.nD Cert.WFf1RefIdeal.τ).loc Cert.WFf1RefIdeal.main_arg0)
          ∧ r.2.mem ((c.tc : Thread Cert.WFf1RefIdeal.nD Cert.WFf1RefIdeal.τ).loc Cert.WFf1RefIdeal.main_arg1) = m' ((c.tc : Thread Cert.WFf1RefIdeal.nD Cert.WFf1RefIdeal.τ).loc Cert.WFf1RefIdeal.main_arg1)
          ∧ r.2.mem ((c.tc : Thread Cert.WFf1RefIdeal.nD Cert.WFf1RefIdeal.τ).loc Cert.WFf1RefIdeal.main_arg2) = m' ((c.tc : Thread Cert.WFf1RefIdeal.nD Cert.WFf1RefIdeal.τ).loc Cert.WFf1RefIdeal.main_arg2))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v2)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v2) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v4) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WGlu_WGluIdeal : Prop :=
  True

def algebraic_WGluIdeal_WGluRefIdeal [hWGluIdeal : Cert.WGluIdeal.Facts] [hWGluRefIdeal : Cert.WGluRefIdeal.Facts] : Prop :=
  ∀ (m : (ℓ : Loc Cert.WGluIdeal.nD Cert.WGluIdeal.τ Cert.WGluIdeal.sig) → Buf (Elt Ideal) ℓ) (g : Dev Cert.WGluIdeal.nD → PrngReg)
    (m' : (ℓ : Loc Cert.WGluRefIdeal.nD Cert.WGluRefIdeal.τ Cert.WGluRefIdeal.sig) → Buf (Elt Ideal) ℓ) (g' : Dev Cert.WGluRefIdeal.nD → PrngReg), Pre_WGluIdeal m →
    (∀ c : Dev Cert.WGluIdeal.nD,
      m' ((c.tc : Thread Cert.WGluRefIdeal.nD Cert.WGluRefIdeal.τ).loc Cert.WGluRefIdeal.main_arg0) = m ((c.tc : Thread Cert.WGluIdeal.nD Cert.WGluIdeal.τ).loc Cert.WGluIdeal.main_arg0)
      ∧ m' ((c.tc : Thread Cert.WGluRefIdeal.nD Cert.WGluRefIdeal.τ).loc Cert.WGluRefIdeal.main_arg1) = m ((c.tc : Thread Cert.WGluIdeal.nD Cert.WGluIdeal.τ).loc Cert.WGluIdeal.main_arg1)
      ∧ m' ((c.tc : Thread Cert.WGluRefIdeal.nD Cert.WGluRefIdeal.τ).loc Cert.WGluRefIdeal.main_arg2) = m ((c.tc : Thread Cert.WGluIdeal.nD Cert.WGluIdeal.τ).loc Cert.WGluIdeal.main_arg2)) →
    ∃ (v0 : (c : Dev Cert.WGluIdeal.nD) → Buf (Elt Ideal) ((c.tc : Thread Cert.WGluIdeal.nD Cert.WGluIdeal.τ).loc Cert.WGluIdeal.main_v14)),
      θ_run (Cert.WGluIdeal.defs (F := Ideal)) (onTc (τ := Cert.WGluIdeal.τ) (Cert.WGluIdeal.main (F := Ideal))) ⟨m, fun _ => 0, g⟩ (fun r => ∀ c : Dev Cert.WGluIdeal.nD,
          r.2.mem ((c.tc : Thread Cert.WGluIdeal.nD Cert.WGluIdeal.τ).loc Cert.WGluIdeal.main_v14) = v0 c
          ∧ r.2.mem ((c.tc : Thread Cert.WGluIdeal.nD Cert.WGluIdeal.τ).loc Cert.WGluIdeal.main_arg0) = m ((c.tc : Thread Cert.WGluIdeal.nD Cert.WGluIdeal.τ).loc Cert.WGluIdeal.main_arg0)
          ∧ r.2.mem ((c.tc : Thread Cert.WGluIdeal.nD Cert.WGluIdeal.τ).loc Cert.WGluIdeal.main_arg1) = m ((c.tc : Thread Cert.WGluIdeal.nD Cert.WGluIdeal.τ).loc Cert.WGluIdeal.main_arg1)
          ∧ r.2.mem ((c.tc : Thread Cert.WGluIdeal.nD Cert.WGluIdeal.τ).loc Cert.WGluIdeal.main_arg2) = m ((c.tc : Thread Cert.WGluIdeal.nD Cert.WGluIdeal.τ).loc Cert.WGluIdeal.main_arg2))
      ∧ θ_run (Cert.WGluRefIdeal.defs (F := Ideal)) (onTc (τ := Cert.WGluRefIdeal.τ) (Cert.WGluRefIdeal.main (F := Ideal))) ⟨m', fun _ => 0, g'⟩ (fun r => ∀ c : Dev Cert.WGluRefIdeal.nD,
          r.2.mem ((c.tc : Thread Cert.WGluRefIdeal.nD Cert.WGluRefIdeal.τ).loc Cert.WGluRefIdeal.main_v16) = v0 c
          ∧ r.2.mem ((c.tc : Thread Cert.WGluRefIdeal.nD Cert.WGluRefIdeal.τ).loc Cert.WGluRefIdeal.main_arg0) = m' ((c.tc : Thread Cert.WGluRefIdeal.nD Cert.WGluRefIdeal.τ).loc Cert.WGluRefIdeal.main_arg0)
          ∧ r.2.mem ((c.tc : Thread Cert.WGluRefIdeal.nD Cert.WGluRefIdeal.τ).loc Cert.WGluRefIdeal.main_arg1) = m' ((c.tc : Thread Cert.WGluRefIdeal.nD Cert.WGluRefIdeal.τ).loc Cert.WGluRefIdeal.main_arg1)
          ∧ r.2.mem ((c.tc : Thread Cert.WGluRefIdeal.nD Cert.WGluRefIdeal.τ).loc Cert.WGluRefIdeal.main_arg2) = m' ((c.tc : Thread Cert.WGluRefIdeal.nD Cert.WGluRefIdeal.τ).loc Cert.WGluRefIdeal.main_arg2))

def preserves_WQkv_WQkvIdeal : Prop :=
  True

def algebraic_WQkvIdeal_WQkvRefIdeal [hWQkvIdeal : Cert.WQkvIdeal.Facts] [hWQkvRefIdeal : Cert.WQkvRefIdeal.Facts] : Prop :=
  ∀ (m : (ℓ : Loc Cert.WQkvIdeal.nD Cert.WQkvIdeal.τ Cert.WQkvIdeal.sig) → Buf (Elt Ideal) ℓ) (g : Dev Cert.WQkvIdeal.nD → PrngReg)
    (m' : (ℓ : Loc Cert.WQkvRefIdeal.nD Cert.WQkvRefIdeal.τ Cert.WQkvRefIdeal.sig) → Buf (Elt Ideal) ℓ) (g' : Dev Cert.WQkvRefIdeal.nD → PrngReg), Pre_WQkvIdeal m →
    (∀ c : Dev Cert.WQkvIdeal.nD,
      m' ((c.tc : Thread Cert.WQkvRefIdeal.nD Cert.WQkvRefIdeal.τ).loc Cert.WQkvRefIdeal.main_arg0) = m ((c.tc : Thread Cert.WQkvIdeal.nD Cert.WQkvIdeal.τ).loc Cert.WQkvIdeal.main_arg0)
      ∧ m' ((c.tc : Thread Cert.WQkvRefIdeal.nD Cert.WQkvRefIdeal.τ).loc Cert.WQkvRefIdeal.main_arg1) = m ((c.tc : Thread Cert.WQkvIdeal.nD Cert.WQkvIdeal.τ).loc Cert.WQkvIdeal.main_arg1)
      ∧ m' ((c.tc : Thread Cert.WQkvRefIdeal.nD Cert.WQkvRefIdeal.τ).loc Cert.WQkvRefIdeal.main_arg2) = m ((c.tc : Thread Cert.WQkvIdeal.nD Cert.WQkvIdeal.τ).loc Cert.WQkvIdeal.main_arg2)) →
    ∃ (v0 : (c : Dev Cert.WQkvIdeal.nD) → Buf (Elt Ideal) ((c.tc : Thread Cert.WQkvIdeal.nD Cert.WQkvIdeal.τ).loc Cert.WQkvIdeal.main_v14)),
      θ_run (Cert.WQkvIdeal.defs (F := Ideal)) (onTc (τ := Cert.WQkvIdeal.τ) (Cert.WQkvIdeal.main (F := Ideal))) ⟨m, fun _ => 0, g⟩ (fun r => ∀ c : Dev Cert.WQkvIdeal.nD,
          r.2.mem ((c.tc : Thread Cert.WQkvIdeal.nD Cert.WQkvIdeal.τ).loc Cert.WQkvIdeal.main_v14) = v0 c
          ∧ r.2.mem ((c.tc : Thread Cert.WQkvIdeal.nD Cert.WQkvIdeal.τ).loc Cert.WQkvIdeal.main_arg0) = m ((c.tc : Thread Cert.WQkvIdeal.nD Cert.WQkvIdeal.τ).loc Cert.WQkvIdeal.main_arg0)
          ∧ r.2.mem ((c.tc : Thread Cert.WQkvIdeal.nD Cert.WQkvIdeal.τ).loc Cert.WQkvIdeal.main_arg1) = m ((c.tc : Thread Cert.WQkvIdeal.nD Cert.WQkvIdeal.τ).loc Cert.WQkvIdeal.main_arg1)
          ∧ r.2.mem ((c.tc : Thread Cert.WQkvIdeal.nD Cert.WQkvIdeal.τ).loc Cert.WQkvIdeal.main_arg2) = m ((c.tc : Thread Cert.WQkvIdeal.nD Cert.WQkvIdeal.τ).loc Cert.WQkvIdeal.main_arg2))
      ∧ θ_run (Cert.WQkvRefIdeal.defs (F := Ideal)) (onTc (τ := Cert.WQkvRefIdeal.τ) (Cert.WQkvRefIdeal.main (F := Ideal))) ⟨m', fun _ => 0, g'⟩ (fun r => ∀ c : Dev Cert.WQkvRefIdeal.nD,
          r.2.mem ((c.tc : Thread Cert.WQkvRefIdeal.nD Cert.WQkvRefIdeal.τ).loc Cert.WQkvRefIdeal.main_v16) = v0 c
          ∧ r.2.mem ((c.tc : Thread Cert.WQkvRefIdeal.nD Cert.WQkvRefIdeal.τ).loc Cert.WQkvRefIdeal.main_arg0) = m' ((c.tc : Thread Cert.WQkvRefIdeal.nD Cert.WQkvRefIdeal.τ).loc Cert.WQkvRefIdeal.main_arg0)
          ∧ r.2.mem ((c.tc : Thread Cert.WQkvRefIdeal.nD Cert.WQkvRefIdeal.τ).loc Cert.WQkvRefIdeal.main_arg1) = m' ((c.tc : Thread Cert.WQkvRefIdeal.nD Cert.WQkvRefIdeal.τ).loc Cert.WQkvRefIdeal.main_arg1)
          ∧ r.2.mem ((c.tc : Thread Cert.WQkvRefIdeal.nD Cert.WQkvRefIdeal.τ).loc Cert.WQkvRefIdeal.main_arg2) = m' ((c.tc : Thread Cert.WQkvRefIdeal.nD Cert.WQkvRefIdeal.τ).loc Cert.WQkvRefIdeal.main_arg2))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)
      ∧ m' ((c.tc : Thread Cert.FwdRefIdeal.nD Cert.FwdRefIdeal.τ).loc Cert.FwdRefIdeal.main_arg10) = m ((c.tc : Thread Cert.FwdIdeal.nD Cert.FwdIdeal.τ).loc Cert.FwdIdeal.main_arg10)) →
    ∃ (v0 : (c : Dev Cert.FwdIdeal.nD) → Buf (Elt Ideal) ((c.tc : Thread Cert.FwdIdeal.nD Cert.FwdIdeal.τ).loc Cert.FwdIdeal.main_v9_0)) (v1 : (c : Dev Cert.FwdIdeal.nD) → Buf (Elt Ideal) ((c.tc : Thread Cert.FwdIdeal.nD Cert.FwdIdeal.τ).loc Cert.FwdIdeal.main_v9_1)) (v2 : (c : Dev Cert.FwdIdeal.nD) → Buf (Elt Ideal) ((c.tc : Thread Cert.FwdIdeal.nD Cert.FwdIdeal.τ).loc Cert.FwdIdeal.main_v9_2)) (v3 : (c : Dev Cert.FwdIdeal.nD) → Buf (Elt Ideal) ((c.tc : Thread Cert.FwdIdeal.nD Cert.FwdIdeal.τ).loc Cert.FwdIdeal.main_v9_3)) (v4 : (c : Dev Cert.FwdIdeal.nD) → Buf (Elt Ideal) ((c.tc : Thread Cert.FwdIdeal.nD Cert.FwdIdeal.τ).loc Cert.FwdIdeal.main_v9_4)) (v5 : (c : Dev Cert.FwdIdeal.nD) → Buf (Elt Ideal) ((c.tc : Thread Cert.FwdIdeal.nD Cert.FwdIdeal.τ).loc Cert.FwdIdeal.main_v9_5)) (v6 : (c : Dev Cert.FwdIdeal.nD) → Buf (Elt Ideal) ((c.tc : Thread Cert.FwdIdeal.nD Cert.FwdIdeal.τ).loc Cert.FwdIdeal.main_v9_6)) (v7 : (c : Dev Cert.FwdIdeal.nD) → Buf (Elt Ideal) ((c.tc : Thread Cert.FwdIdeal.nD Cert.FwdIdeal.τ).loc Cert.FwdIdeal.main_v9_7)) (v8 : (c : Dev Cert.FwdIdeal.nD) → Buf (Elt Ideal) ((c.tc : Thread Cert.FwdIdeal.nD Cert.FwdIdeal.τ).loc Cert.FwdIdeal.main_v9_8)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v9_0) = v0 c
          ∧ r.2.mem ((c.tc : Thread Cert.FwdIdeal.nD Cert.FwdIdeal.τ).loc Cert.FwdIdeal.main_v9_1) = v1 c
          ∧ r.2.mem ((c.tc : Thread Cert.FwdIdeal.nD Cert.FwdIdeal.τ).loc Cert.FwdIdeal.main_v9_2) = v2 c
          ∧ r.2.mem ((c.tc : Thread Cert.FwdIdeal.nD Cert.FwdIdeal.τ).loc Cert.FwdIdeal.main_v9_3) = v3 c
          ∧ r.2.mem ((c.tc : Thread Cert.FwdIdeal.nD Cert.FwdIdeal.τ).loc Cert.FwdIdeal.main_v9_4) = v4 c
          ∧ r.2.mem ((c.tc : Thread Cert.FwdIdeal.nD Cert.FwdIdeal.τ).loc Cert.FwdIdeal.main_v9_5) = v5 c
          ∧ r.2.mem ((c.tc : Thread Cert.FwdIdeal.nD Cert.FwdIdeal.τ).loc Cert.FwdIdeal.main_v9_6) = v6 c
          ∧ r.2.mem ((c.tc : Thread Cert.FwdIdeal.nD Cert.FwdIdeal.τ).loc Cert.FwdIdeal.main_v9_7) = v7 c
          ∧ r.2.mem ((c.tc : Thread Cert.FwdIdeal.nD Cert.FwdIdeal.τ).loc Cert.FwdIdeal.main_v9_8) = v8 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v21) = v0 c
          ∧ r.2.mem ((c.tc : Thread Cert.FwdRefIdeal.nD Cert.FwdRefIdeal.τ).loc Cert.FwdRefIdeal.main_v59) = v1 c
          ∧ r.2.mem ((c.tc : Thread Cert.FwdRefIdeal.nD Cert.FwdRefIdeal.τ).loc Cert.FwdRefIdeal.main_v60) = v2 c
          ∧ r.2.mem ((c.tc : Thread Cert.FwdRefIdeal.nD Cert.FwdRefIdeal.τ).loc Cert.FwdRefIdeal.main_v61) = v3 c
          ∧ r.2.mem ((c.tc : Thread Cert.FwdRefIdeal.nD Cert.FwdRefIdeal.τ).loc Cert.FwdRefIdeal.main_v62) = v4 c
          ∧ r.2.mem ((c.tc : Thread Cert.FwdRefIdeal.nD Cert.FwdRefIdeal.τ).loc Cert.FwdRefIdeal.main_v63) = v5 c
          ∧ r.2.mem ((c.tc : Thread Cert.FwdRefIdeal.nD Cert.FwdRefIdeal.τ).loc Cert.FwdRefIdeal.main_v54) = v6 c
          ∧ r.2.mem ((c.tc : Thread Cert.FwdRefIdeal.nD Cert.FwdRefIdeal.τ).loc Cert.FwdRefIdeal.main_v64) = v7 c
          ∧ r.2.mem ((c.tc : Thread Cert.FwdRefIdeal.nD Cert.FwdRefIdeal.τ).loc Cert.FwdRefIdeal.main_v58) = v8 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9)
          ∧ r.2.mem ((c.tc : Thread Cert.FwdRefIdeal.nD Cert.FwdRefIdeal.τ).loc Cert.FwdRefIdeal.main_arg10) = m' ((c.tc : Thread Cert.FwdRefIdeal.nD Cert.FwdRefIdeal.τ).loc Cert.FwdRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)) (v3 : (c : Dev Cert.ProjIdeal.nD) → Buf (Elt Ideal) ((c.tc : Thread Cert.ProjIdeal.nD Cert.ProjIdeal.τ).loc Cert.ProjIdeal.main_v7_3)) (v4 : (c : Dev Cert.ProjIdeal.nD) → Buf (Elt Ideal) ((c.tc : Thread Cert.ProjIdeal.nD Cert.ProjIdeal.τ).loc Cert.ProjIdeal.main_v7_4)) (v5 : (c : Dev Cert.ProjIdeal.nD) → Buf (Elt Ideal) ((c.tc : Thread Cert.ProjIdeal.nD Cert.ProjIdeal.τ).loc Cert.ProjIdeal.main_v7_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_v7_3) = v3 c
          ∧ r.2.mem ((c.tc : Thread Cert.ProjIdeal.nD Cert.ProjIdeal.τ).loc Cert.ProjIdeal.main_v7_4) = v4 c
          ∧ r.2.mem ((c.tc : Thread Cert.ProjIdeal.nD Cert.ProjIdeal.τ).loc Cert.ProjIdeal.main_v7_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v55) = v0 c
          ∧ r.2.mem ((c.tc : Thread Cert.ProjRefIdeal.nD Cert.ProjRefIdeal.τ).loc Cert.ProjRefIdeal.main_v56) = v1 c
          ∧ r.2.mem ((c.tc : Thread Cert.ProjRefIdeal.nD Cert.ProjRefIdeal.τ).loc Cert.ProjRefIdeal.main_v58) = v2 c
          ∧ r.2.mem ((c.tc : Thread Cert.ProjRefIdeal.nD Cert.ProjRefIdeal.τ).loc Cert.ProjRefIdeal.main_v60) = v3 c
          ∧ r.2.mem ((c.tc : Thread Cert.ProjRefIdeal.nD Cert.ProjRefIdeal.τ).loc Cert.ProjRefIdeal.main_v62) = v4 c
          ∧ r.2.mem ((c.tc : Thread Cert.ProjRefIdeal.nD Cert.ProjRefIdeal.τ).loc Cert.ProjRefIdeal.main_v54) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hWFf2 : Cert.WFf2.Facts) (hWFf2Ideal : Cert.WFf2Ideal.Facts) (hWFf2RefIdeal : Cert.WFf2RefIdeal.Facts) (hWFf1 : Cert.WFf1.Facts) (hWFf1Ideal : Cert.WFf1Ideal.Facts) (hWFf1RefIdeal : Cert.WFf1RefIdeal.Facts) (hWOut : Cert.WOut.Facts) (hWOutIdeal : Cert.WOutIdeal.Facts) (hWOutRefIdeal : Cert.WOutRefIdeal.Facts) (hWGlu : Cert.WGlu.Facts) (hWGluIdeal : Cert.WGluIdeal.Facts) (hWGluRefIdeal : Cert.WGluRefIdeal.Facts) (hWQkv : Cert.WQkv.Facts) (hWQkvIdeal : Cert.WQkvIdeal.Facts) (hWQkvRefIdeal : Cert.WQkvRefIdeal.Facts) (hFwd : Cert.Fwd.Facts) (hFwdIdeal : Cert.FwdIdeal.Facts) (hFwdRefIdeal : Cert.FwdRefIdeal.Facts) (hProj : Cert.Proj.Facts) (hProjIdeal : Cert.ProjIdeal.Facts) (hProjRefIdeal : Cert.ProjRefIdeal.Facts) (hPre_mix_finite : Cert.Pre_mix_finite.Facts),
    quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ quiescent_WFf2 (hWFf2 := hWFf2)
    ∧ quiescent_WFf2Ideal (hWFf2Ideal := hWFf2Ideal)
    ∧ quiescent_WFf2RefIdeal (hWFf2RefIdeal := hWFf2RefIdeal)
    ∧ quiescent_WFf1 (hWFf1 := hWFf1)
    ∧ quiescent_WFf1Ideal (hWFf1Ideal := hWFf1Ideal)
    ∧ quiescent_WFf1RefIdeal (hWFf1RefIdeal := hWFf1RefIdeal)
    ∧ quiescent_WOut (hWOut := hWOut)
    ∧ quiescent_WOutIdeal (hWOutIdeal := hWOutIdeal)
    ∧ quiescent_WOutRefIdeal (hWOutRefIdeal := hWOutRefIdeal)
    ∧ quiescent_WGlu (hWGlu := hWGlu)
    ∧ quiescent_WGluIdeal (hWGluIdeal := hWGluIdeal)
    ∧ quiescent_WGluRefIdeal (hWGluRefIdeal := hWGluRefIdeal)
    ∧ quiescent_WQkv (hWQkv := hWQkv)
    ∧ quiescent_WQkvIdeal (hWQkvIdeal := hWQkvIdeal)
    ∧ quiescent_WQkvRefIdeal (hWQkvRefIdeal := hWQkvRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Proj (hProj := hProj)
    ∧ quiescent_ProjIdeal (hProjIdeal := hProjIdeal)
    ∧ quiescent_ProjRefIdeal (hProjRefIdeal := hProjRefIdeal)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
    ∧ preserves_WFf2_WFf2Ideal
    ∧ algebraic_WFf2Ideal_WFf2RefIdeal (hWFf2Ideal := hWFf2Ideal) (hWFf2RefIdeal := hWFf2RefIdeal)
    ∧ preserves_WFf1_WFf1Ideal
    ∧ algebraic_WFf1Ideal_WFf1RefIdeal (hWFf1Ideal := hWFf1Ideal) (hWFf1RefIdeal := hWFf1RefIdeal)
    ∧ preserves_WOut_WOutIdeal
    ∧ algebraic_WOutIdeal_WOutRefIdeal (hWOutIdeal := hWOutIdeal) (hWOutRefIdeal := hWOutRefIdeal)
    ∧ preserves_WGlu_WGluIdeal
    ∧ algebraic_WGluIdeal_WGluRefIdeal (hWGluIdeal := hWGluIdeal) (hWGluRefIdeal := hWGluRefIdeal)
    ∧ preserves_WQkv_WQkvIdeal
    ∧ algebraic_WQkvIdeal_WQkvRefIdeal (hWQkvIdeal := hWQkvIdeal) (hWQkvRefIdeal := hWQkvRefIdeal)
    ∧ preserves_Fwd_FwdIdeal
    ∧ algebraic_FwdIdeal_FwdRefIdeal (hFwdIdeal := hFwdIdeal) (hFwdRefIdeal := hFwdRefIdeal)
    ∧ preserves_Proj_ProjIdeal
    ∧ algebraic_ProjIdeal_ProjRefIdeal (hProjIdeal := hProjIdeal) (hProjRefIdeal := hProjRefIdeal)
-- ==== Pre_mix_finite.lean ====
abbrev S8192x1024 : Shape := ⟨2, ![8192, 1024]⟩
abbrev S8192x5632 : Shape := ⟨2, ![8192, 5632]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg6 : FVec F S1x1024 .f32) (main_arg8 : FVec F S1024x1024 .f32) (main_arg9 : FVec F S1024x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg6
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x1024 .f32 := Host.absf main_arg8
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg9
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S8192x1024 .f32) (main_arg1 : FVec F S8192x5632 .f32) (main_arg2 : FVec F S8192x1024 .f32) (main_arg3 : FVec F S8192x1024 .f32) (main_arg4 : FVec F S1x1024 .f32) (main_arg5 : FVec F S1x1024 .f32) (main_arg6 : FVec F S1x1024 .f32) (main_arg7 : FVec F S1024x1024 .f32) (main_arg8 : FVec F S1024x1024 .f32) (main_arg9 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg5
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg6 main_arg8 main_arg9 main_v13 main_v16
-- ==== Mix.lean ====
abbrev S8192x1024 : Shape := ⟨2, ![8192, 1024]⟩
abbrev S8192x5632 : Shape := ⟨2, ![8192, 5632]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 63
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x5632, .bf16⟩
  | .hbm, ⟨50, _⟩ => ⟨S8192x1024, .bf16⟩
  | .hbm, ⟨51, _⟩ => ⟨S8192x1024, .bf16⟩
  | .hbm, ⟨52, _⟩ => ⟨S1024x1024, .bf16⟩
  | .hbm, ⟨53, _⟩ => ⟨S1024x1024, .bf16⟩
  | .hbm, ⟨54, _⟩ => ⟨S1024x1024, .bf16⟩
  | .hbm, ⟨55, _⟩ => ⟨S8192x1024, .bf16⟩
  | .hbm, ⟨56, _⟩ => ⟨S8192x1024, .bf16⟩
  | .hbm, ⟨57, _⟩ => ⟨S8192x1024, .bf16⟩
  | .hbm, ⟨58, _⟩ => ⟨S8192x1024, .f32⟩
  | .hbm, ⟨59, _⟩ => ⟨S8192x2048, .bf16⟩
  | .hbm, ⟨60, _⟩ => ⟨S1x1024, .f32⟩
  | .hbm, ⟨61, _⟩ => ⟨S1x1024, .f32⟩
  | .hbm, ⟨62, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S512x1024, .f32⟩
  | .local _ .vmem, ⟨29, _⟩ => ⟨S512x2048, .bf16⟩
  | .local _ .vmem, ⟨30, _⟩ => ⟨S512x2048, .bf16⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v32_2 : Ref sig .tc := ⟨.hbm, 57, rfl⟩
abbrev main_v32_3 : Ref sig .tc := ⟨.hbm, 58, rfl⟩
abbrev main_v32_4 : Ref sig .tc := ⟨.hbm, 59, rfl⟩
abbrev main_v32_5 : Ref sig .tc := ⟨.hbm, 60, rfl⟩
abbrev main_v32_6 : Ref sig .tc := ⟨.hbm, 61, rfl⟩
abbrev main_v32_7 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem20_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MixRefIdeal.lean ====
abbrev S8192x1024 : Shape := ⟨2, ![8192, 1024]⟩
abbrev S8192x5632 : Shape := ⟨2, ![8192, 5632]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024 : Shape := ⟨1, ![1024]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S8192x5632, .f32⟩
  | 2 => ⟨S8192x1024, .f32⟩
  | 3 => ⟨S8192x1024, .f32⟩
  | 4 => ⟨S1x1024, .f32⟩
  | 5 => ⟨S1x1024, .f32⟩
  | 6 => ⟨S1x1024, .f32⟩
  | 7 => ⟨S1024x1024, .f32⟩
  | 8 => ⟨S1024x1024, .f32⟩
  | 9 => ⟨S1024x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x2048, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x2048, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S_, .f32⟩
  | 106 => ⟨S1024, .f32⟩
  | 107 => ⟨S1x1024, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S8192x1024, .f32⟩
  | 115 => ⟨S8192x1024, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S_, .f32⟩
  | 11 => ⟨S1024, .f32⟩
  | 12 => ⟨S1x1024, .f32⟩
  | 13 => ⟨S8192x1024, .bf16⟩
  | 14 => ⟨S8192x1024, .bf16⟩
  | 15 => ⟨S8192x1024, .bf16⟩
  | 16 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v26_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v26_1 : Ref sig .tc := ⟨.hbm, 53, rfl⟩
abbrev main_v26_0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_12 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_13 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_v87 : Ref sig .tc := ⟨.hbm, 130, rfl⟩
abbrev main_cst_17 : Ref sig .tc := ⟨.hbm, 131, rfl⟩
abbrev main_v88 : Ref sig .tc := ⟨.hbm, 132, rfl⟩
abbrev main_v89 : Ref sig .tc := ⟨.hbm, 133, rfl⟩
abbrev main_cst_18 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_19 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x1024 : Shape := ⟨2, ![512, 1024]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 30
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x1024, .bf16⟩
  | .hbm, ⟨22, _⟩ => ⟨S8192x4096, .bf16⟩
  | .hbm, ⟨23, _⟩ => ⟨S1024x4096, .bf16⟩
  | .hbm, ⟨24, _⟩ => ⟨S4096x1024, .bf16⟩
  | .hbm, ⟨25, _⟩ => ⟨S4096x1024, .bf16⟩
  | .hbm, ⟨26, _⟩ => ⟨S8192x4096, .bf16⟩
  | .hbm, ⟨27, _⟩ => ⟨S8192x1024, .f32⟩
  | .hbm, ⟨28, _⟩ => ⟨S8192x1024, .bf16⟩
  | .hbm, ⟨29, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S4096x1024, .bf16⟩
  | .local _ .vmem, ⟨10, _⟩ => ⟨S4096x1024, .bf16⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .i1⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x4096, .bf16⟩
  | .hbm, ⟨71, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== In.lean ====
abbrev S8192x5632 : Shape := ⟨2, ![8192, 5632]⟩
abbrev S8192x1024 : Shape := ⟨2, ![8192, 1024]⟩
abbrev S1x1024 : Shape := ⟨2, ![1, 1024]⟩
abbrev S1024x5632 : Shape := ⟨2, ![1024, 5632]⟩
abbrev S8192x1536 : Shape := ⟨2, ![8192, 1536]⟩
abbrev S8192x2048 : Shape := ⟨2, ![8192, 2048]⟩
abbrev S512x1536 : Shape := ⟨2, ![512, 1536]⟩
abbrev S512x2048 : Shape := ⟨2, ![512, 2048]⟩
abbrev S512x1024 : Shape := ⟨2, ![512, 1024]⟩
abbrev S1024x1536 : Shape := ⟨2, ![1024, 1536]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S8192x1024, .f32⟩
  | .hbm, ⟨5, _⟩ => ⟨S8192x5632, .bf16⟩
  | .hbm, ⟨6, _⟩ => ⟨S8192x1536, .bf16⟩
  | .hbm, ⟨7, _⟩ => ⟨S8192x2048, .bf16⟩
  | .hbm, ⟨8, _⟩ => ⟨S8192x2048, .bf16⟩
  | .hbm, ⟨9, _⟩ => ⟨S1024x5632, .bf16⟩
  | .hbm, ⟨10, _⟩ => ⟨S8192x1024, .f32⟩
  | .hbm, ⟨11, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x5632, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InRefIdeal.lean ====
abbrev S8192x5632 : Shape := ⟨2, ![8192, 5632]⟩
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== WFf2.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFf2RefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== WFf1.lean ====
abbrev S8192x1024 : Shape := ⟨2, ![8192, 1024]⟩
abbrev S1x1024 : Shape := ⟨2, ![1, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S8x1024x512 : Shape := ⟨3, ![8, 1024, 512]⟩
abbrev S2048x1024 : Shape := ⟨2, ![2048, 1024]⟩
abbrev S2048x2048 : Shape := ⟨2, ![2048, 2048]⟩
abbrev S4x1024x512 : Shape := ⟨3, ![4, 1024, 512]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 21
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x4096, .bf16⟩
  | .hbm, ⟨20, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFf1RefIdeal.lean ====
abbrev S8192x1024 : Shape := ⟨2, ![8192, 1024]⟩
abbrev S1x1024 : Shape := ⟨2, ![1, 1024]⟩
abbrev S8192x4096 : Shape := ⟨2, ![8192, 4096]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S4096x1024, .f32⟩
  | .hbm, ⟨22, _⟩ => ⟨S1024x4096, .f32⟩
  | .hbm, ⟨23, _⟩ => ⟨S1024x8x512, .f32⟩
  | .hbm, ⟨24, _⟩ => ⟨S8x1024x512, .f32⟩
  | .hbm, ⟨25, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== WOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WGlu.lean ====
abbrev S8192x1024 : Shape := ⟨2, ![8192, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x2048, .bf16⟩
  | .hbm, ⟨20, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WGluRefIdeal.lean ====
abbrev S8192x1024 : Shape := ⟨2, ![8192, 1024]⟩
abbrev S1x1024 : Shape := ⟨2, ![1, 1024]⟩
abbrev S8192x2048 : Shape := ⟨2, ![8192, 2048]⟩
abbrev S_ : Shape := ⟨0, ![]⟩
abbrev S1024x2048 : Shape := ⟨2, ![1024, 2048]⟩
abbrev S8192 : Shape := ⟨1, ![8192]⟩
abbrev S8192x1 : Shape := ⟨2, ![8192, 1]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .f32⟩
  | .hbm, ⟨3, _⟩ => ⟨S_, .f32⟩
  | .hbm, ⟨4, _⟩ => ⟨S1024x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S2048x1024, .f32⟩
  | .hbm, ⟨22, _⟩ => ⟨S1024x2048, .f32⟩
  | .hbm, ⟨23, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== WQkv.lean ====
abbrev S8192x1024 : Shape := ⟨2, ![8192, 1024]⟩
abbrev S1x1024 : Shape := ⟨2, ![1, 1024]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1536, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1536, .bf16⟩
  | .hbm, ⟨20, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WQkvRefIdeal.lean ====
abbrev S8192x1024 : Shape := ⟨2, ![8192, 1024]⟩
abbrev S1x1024 : Shape := ⟨2, ![1, 1024]⟩
abbrev S8192x1536 : Shape := ⟨2, ![8192, 1536]⟩
abbrev S_ : Shape := ⟨0, ![]⟩
abbrev S1024x1536 : Shape := ⟨2, ![1024, 1536]⟩
abbrev S8192 : Shape := ⟨1, ![8192]⟩
abbrev S8192x1 : Shape := ⟨2, ![8192, 1]⟩
abbrev S1536x1024 : Shape := ⟨2, ![1536, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1536, .f32⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1536, .f32⟩
  | .hbm, ⟨21, _⟩ => ⟨S1536x1024, .f32⟩
  | .hbm, ⟨22, _⟩ => ⟨S1024x1536, .f32⟩
  | .hbm, ⟨23, _⟩ => ⟨S1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Fwd.lean ====
abbrev S8192x1024 : Shape := ⟨2, ![8192, 1024]⟩
abbrev S8192x5632 : Shape := ⟨2, ![8192, 5632]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S8192x4096 : Shape := ⟨2, ![8192, 4096]⟩
abbrev S32x8x128 : Shape := ⟨3, ![32, 8, 128]⟩
abbrev S256x1024 : Shape := ⟨2, ![256, 1024]⟩
abbrev S256x512 : Shape := ⟨2, ![256, 512]⟩
abbrev S256x4096 : Shape := ⟨2, ![256, 4096]⟩
abbrev S1x8x128 : Shape := ⟨3, ![1, 8, 128]⟩
abbrev S256 : Shape := ⟨1, ![256]⟩
abbrev S256x1 : Shape := ⟨2, ![256, 1]⟩
abbrev S512x1024 : Shape := ⟨2, ![512, 1024]⟩
abbrev S8x128 : Shape := ⟨2, ![8, 128]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 29
  | .vmem => 41
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x5632, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1024x4096, .f32⟩
  | .hbm, ⟨9, _⟩ => ⟨S4096x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x5632, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x4096, .bf16⟩
  | .hbm, ⟨18, _⟩ => ⟨S4096x1024, .bf16⟩
  | .hbm, ⟨19, _⟩ => ⟨S4096x1024, .bf16⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x4096, .bf16⟩
  | .hbm, ⟨25, _⟩ => ⟨S8192x1024, .bf16⟩
  | .hbm, ⟨26, _⟩ => ⟨S8192x1024, .f32⟩
  | .hbm, ⟨27, _⟩ => ⟨S8192x1024, .bf16⟩
  | .hbm, ⟨28, _⟩ => ⟨S32x8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S4096x1024, .bf16⟩
  | .local _ .vmem, ⟨19, _⟩ => ⟨S4096x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x4096, .bf16⟩
  | .local _ .vmem, ⟨31, _⟩ => ⟨S256x4096, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .f32⟩
  | .local _ .vmem, ⟨35, _⟩ => ⟨S256x1024, .f32⟩
  | .local _ .vmem, ⟨36, _⟩ => ⟨S256x1024, .bf16⟩
  | .local _ .vmem, ⟨37, _⟩ => ⟨S256x1024, .bf16⟩
  | .local _ .vmem, ⟨38, _⟩ => ⟨S1x8x128, .f32⟩
  | .local _ .vmem, ⟨39, _⟩ => ⟨S1x8x128, .f32⟩
  | .local _ .vmem, ⟨40, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== FwdRefIdeal.lean ====
abbrev S8192x1024 : Shape := ⟨2, ![8192, 1024]⟩
abbrev S8192x5632 : Shape := ⟨2, ![8192, 5632]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S32x256 : Shape := ⟨2, ![32, 256]⟩
abbrev S32 : Shape := ⟨1, ![32]⟩
abbrev S32x1x1 : Shape := ⟨3, ![32, 1, 1]⟩
abbrev S32x8x128 : Shape := ⟨3, ![32, 8, 128]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x5632, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1024x4096, .f32⟩
  | .hbm, ⟨9, _⟩ => ⟨S4096x1024, .f32⟩
  | .hbm, ⟨10, _⟩ => ⟨S8192x1024, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S32x256, .f32⟩
  | .hbm, ⟨83, _⟩ => ⟨S_, .f32⟩
  | .hbm, ⟨84, _⟩ => ⟨S32, .f32⟩
  | .hbm, ⟨85, _⟩ => ⟨S32x1x1, .f32⟩
  | .hbm, ⟨86, _⟩ => ⟨S32x8x128, .f32⟩
  | .hbm, ⟨87, _⟩ => ⟨S8192x1024, .bf16⟩
  | .hbm, ⟨88, _⟩ => ⟨S8192x1024, .bf16⟩
  | .hbm, ⟨89, _⟩ => ⟨S8192x1024, .bf16⟩
  | .hbm, ⟨90, _⟩ => ⟨S8192x4096, .bf16⟩
  | .hbm, ⟨91, _⟩ => ⟨S8192x1024, .bf16⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_cst : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S1024x5632 : Shape := ⟨2, ![1024, 5632]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x5632 : Shape := ⟨2, ![8192, 5632]⟩
abbrev S8192x256 : Shape := ⟨2, ![8192, 256]⟩
abbrev S512x1024 : Shape := ⟨2, ![512, 1024]⟩
abbrev S512x5632 : Shape := ⟨2, ![512, 5632]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩

abbrev nBuf : Space → Nat
  | .hbm => 18
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1x64, .f32⟩
  | .hbm, ⟨4, _⟩ => ⟨S1x64, .f32⟩
  | .hbm, ⟨5, _⟩ => ⟨S1024x5632, .bf16⟩
  | .hbm, ⟨6, _⟩ => ⟨S1x1x1x64, .f32⟩
  | .hbm, ⟨7, _⟩ => ⟨S1x1x2x64, .f32⟩
  | .hbm, ⟨8, _⟩ => ⟨S1x128, .f32⟩
  | .hbm, ⟨9, _⟩ => ⟨S1x1x1x64, .f32⟩
  | .hbm, ⟨10, _⟩ => ⟨S1x1x2x64, .f32⟩
  | .hbm, ⟨11, _⟩ => ⟨S1x128, .f32⟩
  | .hbm, ⟨12, _⟩ => ⟨S8192x5632, .bf16⟩
  | .hbm, ⟨13, _⟩ => ⟨S8192x1024, .bf16⟩
  | .hbm, ⟨14, _⟩ => ⟨S8192x1024, .bf16⟩
  | .hbm, ⟨15, _⟩ => ⟨S8192x256, .bf16⟩
  | .hbm, ⟨16, _⟩ => ⟨S8192x256, .bf16⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S1x128, .f32⟩
  | .local _ .vmem, ⟨5, _⟩ => ⟨S1x128, .f32⟩
  | .local _ .vmem, ⟨6, _⟩ => ⟨S512x5632, .bf16⟩
  | .local _ .vmem, ⟨7, _⟩ => ⟨S512x5632, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x1024, .f32⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S8192x1024 : Shape := ⟨2, ![8192, 1024]⟩
abbrev S1x1024 : Shape := ⟨2, ![1, 1024]⟩
abbrev S1024x5632 : Shape := ⟨2, ![1024, 5632]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x16x64 : Shape := ⟨3, ![8192, 16, 64]⟩
abbrev S8192x16 : Shape := ⟨2, ![8192, 16]⟩
abbrev S8192x16x1 : Shape := ⟨3, ![8192, 16, 1]⟩
abbrev S1x1x64 : Shape := ⟨3, ![1, 1, 64]⟩
abbrev S8192x256 : Shape := ⟨2, ![8192, 256]⟩
abbrev S8192x4x64 : Shape := ⟨3, ![8192, 4, 64]⟩
abbrev S8192x4 : Shape := ⟨2, ![8192, 4]⟩
abbrev S8192x4x1 : Shape := ⟨3, ![8192, 4, 1]⟩
abbrev S8192x2048 : Shape := ⟨2, ![8192, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1x64, .f32⟩
  | .hbm, ⟨4, _⟩ => ⟨S1x64, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x1024, .f32⟩
  | .hbm, ⟨22, _⟩ => ⟨S8192x16x64, .f32⟩
  | .hbm, ⟨23, _⟩ => ⟨S8192x16x64, .f32⟩
  | .hbm, ⟨24, _⟩ => ⟨S_, .f32⟩
  | .hbm, ⟨25, _⟩ => ⟨S8192x16, .f32⟩
  | .hbm, ⟨26, _⟩ => ⟨S8192x16x1, .f32⟩
  | .hbm, ⟨27, _⟩ => ⟨S_, .f32⟩
  | .hbm, ⟨28, _⟩ => ⟨S8192x16x1, .f32⟩
  | .hbm, ⟨29, _⟩ => ⟨S8192x16x1, .f32⟩
  | .hbm, ⟨30, _⟩ => ⟨S_, .f32⟩
  | .hbm, ⟨31, _⟩ => ⟨S8192x16x1, .f32⟩
  | .hbm, ⟨32, _⟩ => ⟨S8192x16x1, .f32⟩
  | .hbm, ⟨33, _⟩ => ⟨S8192x16x1, .f32⟩
  | .hbm, ⟨34, _⟩ => ⟨S8192x16x64, .f32⟩
  | .hbm, ⟨35, _⟩ => ⟨S8192x16x64, .f32⟩
  | .hbm, ⟨36, _⟩ => ⟨S1x1x64, .f32⟩
  | .hbm, ⟨37, _⟩ => ⟨S8192x16x64, .f32⟩
  | .hbm, ⟨38, _⟩ => ⟨S8192x16x64, .f32⟩
  | .hbm, ⟨39, _⟩ => ⟨S_, .f32⟩
  | .hbm, ⟨40, _⟩ => ⟨S8192x16x64, .f32⟩
  | .hbm, ⟨41, _⟩ => ⟨S8192x16x64, .f32⟩
  | .hbm, ⟨42, _⟩ => ⟨S8192x256, .f32⟩
  | .hbm, ⟨43, _⟩ => ⟨S8192x4x64, .f32⟩
  | .hbm, ⟨44, _⟩ => ⟨S8192x4x64, .f32⟩
  | .hbm, ⟨45, _⟩ => ⟨S_, .f32⟩
  | .hbm, ⟨46, _⟩ => ⟨S8192x4, .f32⟩
  | .hbm, ⟨47, _⟩ => ⟨S8192x4x1, .f32⟩
  | .hbm, ⟨48, _⟩ => ⟨S_, .f32⟩
  | .hbm, ⟨49, _⟩ => ⟨S8192x4x1, .f32⟩
  | .hbm, ⟨50, _⟩ => ⟨S8192x4x1, .f32⟩
  | .hbm, ⟨51, _⟩ => ⟨S_, .f32⟩
  | .hbm, ⟨52, _⟩ => ⟨S8192x4x1, .f32⟩
  | .hbm, ⟨53, _⟩ => ⟨S8192x4x1, .f32⟩
  | .hbm, ⟨54, _⟩ => ⟨S8192x4x1, .f32⟩
  | .hbm, ⟨55, _⟩ => ⟨S8192x4x64, .f32⟩
  | .hbm, ⟨56, _⟩ => ⟨S8192x4x64, .f32⟩
  | .hbm, ⟨57, _⟩ => ⟨S1x1x64, .f32⟩
  | .hbm, ⟨58, _⟩ => ⟨S8192x4x64, .f32⟩
  | .hbm, ⟨59, _⟩ => ⟨S8192x4x64, .f32⟩
  | .hbm, ⟨60, _⟩ => ⟨S8192x2048, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x5632, .bf16⟩
  | .hbm, ⟨73, _⟩ => ⟨S8192x1024, .bf16⟩
  | .hbm, ⟨74, _⟩ => ⟨S8192x1024, .f32⟩
  | .hbm, ⟨75, _⟩ => ⟨S8192x1024, .bf16⟩
  | .hbm, ⟨76, _⟩ => ⟨S8192x256, .f32⟩
  | .hbm, ⟨77, _⟩ => ⟨S8192x256, .bf16⟩
  | .hbm, ⟨78, _⟩ => ⟨S8192x256, .f32⟩
  | .hbm, ⟨79, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Proof.Scalars.lean ====
/- Facts about single extended reals and finite sums of them that the two gradients below are compared with. -/
module

public import Idealize.ShloMosaic.PureOps.Ideal
public import Idealize.ShloMosaic.Lib.Pointwise

@[expose] public section

noncomputable section

namespace Cert.Scalars

open Idealize.ShloMosaic

/-- The word of the float 1024 reads as the real number 1024. -/
theorem ofBits_1024 : Ideal.ofBits .f32 0x44800000#32 = ((1024 : ℝ) : EReal) := by
  simp [Ideal.ofBits, Ideal.ieee, -EReal.coe_mul]; norm_num

/-- The word of the float -1/2 reads as the real number -1/2. -/
theorem ofBits_neg_half : Ideal.ofBits .f32 0xBF000000#32 = ((-(1/2) : ℝ) : EReal) := by
  simp [Ideal.ofBits, Ideal.ieee, -EReal.coe_mul]; norm_num

/-- The word of the constant added under the square roots reads as a positive real number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A nonnegative real factor is taken out of a finite sum. -/
theorem sum_mul_coe {n : ℕ} (f : Fin n → EReal) (r : ℝ) (h : 0 ≤ r) : ∑ k, f k * (r : EReal) = (∑ k, f k) * (r : EReal) := by
  classical
  induction (Finset.univ : Finset (Fin n)) using Finset.induction_on with
  | empty => simp
  | insert a s ha ih =>
    rw [Finset.sum_insert ha, Finset.sum_insert ha, ih,
      EReal.right_distrib_of_nonneg_of_ne_top (EReal.coe_nonneg.2 h) (EReal.coe_ne_top r)]

/-- Adding an extended real times a real to itself doubles the real. -/
theorem mul_coe_add_self (a : EReal) (c : ℝ) : a * (c : EReal) + a * (c : EReal) = a * ((2 * c : ℝ) : EReal) := by
  induction a with
  | bot =>
    rcases lt_trichotomy c 0 with h | h | h
    · rw [EReal.bot_mul_coe_of_neg h, EReal.bot_mul_coe_of_neg (by linarith)]; rfl
    · simp [h]
    · rw [EReal.bot_mul_coe_of_pos h, EReal.bot_mul_coe_of_pos (by linarith)]; rfl
  | coe a => norm_cast; ring
  | top =>
    rcases lt_trichotomy c 0 with h | h | h
    · rw [EReal.top_mul_coe_of_neg h, EReal.top_mul_coe_of_neg (by linarith)]; rfl
    · simp [h]
    · rw [EReal.top_mul_coe_of_pos h, EReal.top_mul_coe_of_pos (by linarith)]; rfl

/-- The square of an extended real is not negative. -/
theorem mul_self_nonneg (a : EReal) : 0 ≤ a * a := by
  induction a with
  | bot => simp
  | coe a => exact_mod_cast _root_.mul_self_nonneg a
  | top => simp

/-- Dividing by the float 1024 is multiplying by 1/1024. -/
theorem div_1024 (x : EReal) : Ideal.div x (Ideal.ofBits .f32 0x44800000#32) = x * ((1 / 1024 : ℝ) : EReal) := by
  rw [ofBits_1024, Ideal.div_coe (by norm_num)]

/-- The reciprocal root of a row: one over the root of the mean of the squares plus the small constant. -/
def rs (x : Fin 1024 → EReal) : EReal :=
  Ideal.rsqrt (Ideal.div (∑ k, x k * x k) (Ideal.ofBits .f32 0x44800000#32) + Ideal.ofBits .f32 0x358637BD#32)

/-- The mean of the squares of a row plus the small constant. -/
def ms (x : Fin 1024 → EReal) : EReal :=
  Ideal.div (∑ k, x k * x k) (Ideal.ofBits .f32 0x44800000#32) + Ideal.ofBits .f32 0x358637BD#32

/-- Either the mean of the squares is infinite and the reciprocal root is zero, or both are positive reals, the second squared
the inverse of the first. -/
theorem rs_cases (x : Fin 1024 → EReal) : (ms x = ⊤ ∧ rs x = 0) ∨ ∃ u r : ℝ, 0 < u ∧ 0 < r ∧ r * r = 1 / u ∧ ms x = (u : EReal) ∧ rs x = (r : EReal) := by
  obtain ⟨e, he, hE⟩ := ofBits_eps
  have hs : 0 ≤ ∑ k, x k * x k := Finset.sum_nonneg fun k _ => mul_self_nonneg (x k)
  have hm : rs x = Ideal.rsqrt (ms x) := rfl
  rw [hm]; unfold ms; rw [div_1024, hE]
  revert hs; generalize (∑ k, x k * x k) = s; intro hs
  induction s with
  | bot => simp at hs
  | top =>
    left
    rw [EReal.top_mul_coe_of_pos (by norm_num), EReal.top_add_coe]
    exact ⟨rfl, rfl⟩
  | coe s =>
    right
    have hs' : 0 ≤ s := EReal.coe_nonneg.1 hs
    have hu : 0 < s * (1 / 1024) + e := by positivity
    refine ⟨s * (1 / 1024) + e, (Real.sqrt (s * (1 / 1024) + e))⁻¹, hu, inv_pos.2 (Real.sqrt_pos.2 hu), ?_, by norm_cast, ?_⟩
    · rw [← mul_inv, Real.mul_self_sqrt hu.le]; exact (one_div _).symm
    · rw [← EReal.coe_mul, ← EReal.coe_add, Ideal.rsqrt_coe, if_neg (not_lt.2 hu.le), if_neg hu.ne']

/-- THE GRADIENT THROUGH A ROOT-MEAN-SQUARE NORM, one element: what the kernel computes (`r (d - x̂ mean (d x̂))`) is the sum of
the two terms of the derivative (`d r + (x b + b x)/…`), at every extended real. -/
theorem rms_bwd (x d : Fin 1024 → EReal) (j : Fin 1024) :
    rs x * (d j - x j * rs x * Ideal.div (∑ k, d k * (x k * rs x)) (Ideal.ofBits .f32 0x44800000#32))
      = d j * rs x + x j * Ideal.div ((∑ k, x k * d k) * (Ideal.ofBits .f32 0xBF000000#32 * Ideal.div (rs x) (ms x))) (Ideal.ofBits .f32 0x44800000#32)
        + Ideal.div ((∑ k, x k * d k) * (Ideal.ofBits .f32 0xBF000000#32 * Ideal.div (rs x) (ms x))) (Ideal.ofBits .f32 0x44800000#32) * x j := by
  rw [div_1024, div_1024, ofBits_neg_half]
  rcases rs_cases x with ⟨hu, hr⟩ | ⟨u, r, hu0, hr0, hru, hu, hr⟩
  · simp [hu, hr, Ideal.div]
  · rw [hu, hr, Ideal.div_coe hu0.ne']
    have h1 : ∑ k, d k * (x k * (r : EReal)) = (∑ k, x k * d k) * (r : EReal) := by
      rw [← sum_mul_coe _ _ hr0.le]
      exact Finset.sum_congr rfl fun k _ => by rw [mul_comm (x k) (d k), mul_assoc]
    rw [h1]
    generalize (∑ k, x k * d k) = S
    generalize x j = X
    generalize d j = D
    rw [sub_eq_add_neg, EReal.left_distrib_of_nonneg_of_ne_top (EReal.coe_nonneg.2 hr0.le) (EReal.coe_ne_top r), add_assoc]
    refine congrArg₂ (· + ·) (mul_comm _ _) ?_
    have e1 : (r : EReal) * -(X * (r : EReal) * (S * (r : EReal) * ((1 / 1024 : ℝ) : EReal)))
        = X * S * ((-(r * r * r * (1 / 1024)) : ℝ) : EReal) := by
      rw [mul_neg, EReal.coe_neg, mul_neg]
      congr 1
      simp only [EReal.coe_mul]
      ac_rfl
    have e2 : X * (S * (((-(1 / 2) : ℝ) : EReal) * ((r : EReal) * ((1 / u : ℝ) : EReal))) * ((1 / 1024 : ℝ) : EReal))
        = X * S * ((-(r * r * r * (1 / 2048)) : ℝ) : EReal) := by
      have : (-(r * r * r * (1 / 2048)) : ℝ) = -(1 / 2) * (r * (1 / u)) * (1 / 1024) := by rw [← hru]; ring
      rw [this]
      simp only [EReal.coe_mul]
      ac_rfl
    rw [e1, mul_comm _ X, e2, mul_coe_add_self]
    congr 2
    ring

/-- A function of five arguments takes equal values at equal arguments. -/
theorem congr5 {α₀ α₁ α₂ α₃ α₄ β : Type} (f : α₀ → α₁ → α₂ → α₃ → α₄ → β) {x₀ y₀ : α₀} {x₁ y₁ : α₁} {x₂ y₂ : α₂} {x₃ y₃ : α₃} {x₄ y₄ : α₄}
    (e₀ : x₀ = y₀) (e₁ : x₁ = y₁) (e₂ : x₂ = y₂) (e₃ : x₃ = y₃) (e₄ : x₄ = y₄) : f x₀ x₁ x₂ x₃ x₄ = f y₀ y₁ y₂ y₃ y₄ := by
  subst e₀ e₁ e₂ e₃ e₄; rfl

/-- The positive part vanishes where its argument is not positive, so the test of the reference may be dropped. -/
theorem relu_sel (a X : EReal) (c : EReal) : X * (c * max a 0) = if 0 < a then X * (c * max a 0) else 0 := by
  by_cases h : 0 < a
  · rw [if_pos h]
  · rw [if_neg h, max_eq_right (not_lt.1 h), mul_zero, mul_zero]

end Cert.Scalars

end
-- ==== Proof.MixScalars.lean ====
/- Facts about single extended reals and rows of them that the gradient of the mixing layer is compared with: the logistic function, the
gradient through it, and the gradient through the layer norm. -/
module

public import proofs.«01_k».proof.Proof.Scalars

@[expose] public section

noncomputable section

namespace Cert.Scalars

open Idealize.ShloMosaic

/-- The extended real is a real number. -/
def IsR (x : EReal) : Prop := ∃ r : ℝ, x = (r : EReal)

theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩

/-- A finite sum of reals, read as an extended real. -/
theorem coe_sum {n : ℕ} (f : Fin n → ℝ) : ∑ k, (f k : EReal) = ((∑ k, f k : ℝ) : EReal) := by
  classical
  induction (Finset.univ : Finset (Fin n)) using Finset.induction_on with
  | empty => simp
  | insert a s ha ih => rw [Finset.sum_insert ha, Finset.sum_insert ha, ih, EReal.coe_add]

theorem IsR.sum {n : ℕ} {f : Fin n → EReal} (h : ∀ k, IsR (f k)) : IsR (∑ k, f k) := by
  choose g hg using h
  exact ⟨∑ k, g k, by rw [← coe_sum]; exact Finset.sum_congr rfl fun k _ => hg k⟩

/-- An extended real whose magnitude is below the infinite one is a real number. -/
theorem isR_of_abs_lt {x : EReal} (h : max x (-x) < ⊤) : IsR x := by
  induction x with
  | bot => simp at h
  | coe r => exact ⟨r, rfl⟩
  | top => simp at h

/-- The logistic function is a real number everywhere. -/
theorem isR_logistic (x : EReal) : IsR (Ideal.logistic x) := by
  induction x with
  | bot =>
    have h : (1 : EReal) + ⊤ = ⊤ := EReal.coe_add_top 1
    exact ⟨0, by simp [Ideal.logistic, Ideal.div, h]⟩
  | coe r => exact ⟨_, Ideal.logistic_coe r⟩
  | top => exact ⟨1, by simp [Ideal.logistic, Ideal.div]⟩

/-- The gradient through `h ↦ h · logistic h`, as the kernel groups it and as the product rule gives it. -/
theorem silu_bwd {h d : EReal} (hh : IsR h) (hd : IsR d) :
    d * (Ideal.logistic h * (1 + h * (1 - Ideal.logistic h))) = d * Ideal.logistic h + h * d * (Ideal.logistic h * (1 - Ideal.logistic h)) := by
  obtain ⟨s, hs⟩ := isR_logistic h
  rw [hs]
  obtain ⟨h, rfl⟩ := hh
  obtain ⟨d, rfl⟩ := hd
  norm_cast
  ring

/-- A row less its mean. -/
def cen (x : Fin 1024 → EReal) (k : Fin 1024) : EReal := x k - Ideal.div (∑ k, x k) (Ideal.ofBits .f32 0x44800000#32)

/-- A row normalised: less its mean, over its spread. -/
def xh (x : Fin 1024 → EReal) (k : Fin 1024) : EReal := cen x k * rs (cen x)

/-- A row after the layer norm's scale and shift. -/
def aff (x g b : Fin 1024 → EReal) (k : Fin 1024) : EReal := xh x k * g k + b k

/-- The gradient through the activation, as the kernel groups it. -/
def silK (d h : EReal) : EReal := d * (Ideal.logistic h * (1 + h * (1 - Ideal.logistic h)))

/-- The gradient through the layer norm, as the kernel groups it. -/
def lnK (x e : Fin 1024 → EReal) (j : Fin 1024) : EReal :=
  rs (cen x) * (e j - Ideal.div (∑ k, e k) (Ideal.ofBits .f32 0x44800000#32)
    - xh x j * Ideal.div (∑ k, e k * xh x k) (Ideal.ofBits .f32 0x44800000#32))

/-- What the mean of the squares passes back to each element, over the element. -/
def lnB (x e : Fin 1024 → EReal) : EReal :=
  Ideal.div ((∑ k, cen x k * e k) * (Ideal.ofBits .f32 0xBF000000#32 * Ideal.div (rs (cen x)) (ms (cen x)))) (Ideal.ofBits .f32 0x44800000#32)

/-- The gradient of the row less its mean. -/
def lnC (x e : Fin 1024 → EReal) (j : Fin 1024) : EReal := e j * rs (cen x) + cen x j * lnB x e + lnB x e * cen x j

/-- The gradient through the layer norm, as the chain rule gives it. -/
def lnR (x e : Fin 1024 → EReal) (j : Fin 1024) : EReal := lnC x e j + Ideal.div (∑ k, -lnC x e k) (Ideal.ofBits .f32 0x44800000#32)

theorem isR_cen {x : Fin 1024 → EReal} (hx : ∀ k, IsR (x k)) (k : Fin 1024) : IsR (cen x k) := by
  unfold cen; rw [div_1024]
  exact (hx k).sub ((IsR.sum hx).mul ⟨_, rfl⟩)

/-- A row of reals has real reciprocal spread, whose square is the inverse of its square. -/
theorem rs_real {x : Fin 1024 → EReal} (hx : ∀ k, IsR (x k)) :
    ∃ u r : ℝ, 0 < u ∧ 0 < r ∧ r * r = 1 / u ∧ ms x = (u : EReal) ∧ rs x = (r : EReal) := by
  rcases rs_cases x with ⟨h, -⟩ | h
  · exfalso
    choose y hy using hx
    obtain ⟨e, -, hE⟩ := ofBits_eps
    unfold ms at h
    rw [div_1024, hE, show ∑ k, x k * x k = ((∑ k, y k * y k : ℝ) : EReal) from by
      rw [← coe_sum]; exact Finset.sum_congr rfl fun k _ => by rw [hy k, EReal.coe_mul]] at h
    norm_cast at h
    exact EReal.coe_ne_top _ h
  · exact h

theorem isR_xh {x : Fin 1024 → EReal} (hx : ∀ k, IsR (x k)) (k : Fin 1024) : IsR (xh x k) := by
  obtain ⟨u, r, -, -, -, -, hr⟩ := rs_real (isR_cen hx)
  exact (isR_cen hx k).mul ⟨r, hr⟩

theorem isR_aff {x g b : Fin 1024 → EReal} (hx : ∀ k, IsR (x k)) (hg : ∀ k, IsR (g k)) (hb : ∀ k, IsR (b k)) (k : Fin 1024) :
    IsR (aff x g b k) := ((isR_xh hx k).mul (hg k)).add (hb k)

theorem isR_silK {d h : EReal} (hd : IsR d) (hh : IsR h) : IsR (silK d h) :=
  hd.mul ((isR_logistic h).mul (IsR.add ⟨1, rfl⟩ (hh.mul (IsR.sub ⟨1, rfl⟩ (isR_logistic h)))))

/-- THE GRADIENT THROUGH A LAYER NORM, one element: the kernel's form is the chain rule's, on rows of reals. -/
theorem ln_bwd {x e : Fin 1024 → EReal} (hx : ∀ k, IsR (x k)) (he : ∀ k, IsR (e k)) (j : Fin 1024) : lnK x e j = lnR x e j := by
  obtain ⟨u, r, hu0, hr0, hru, hu, hr⟩ := rs_real (isR_cen hx)
  have hc := isR_cen hx
  have hz : ∀ c : Fin 1024 → ℝ, (∀ k, cen x k = (c k : EReal)) → ∑ k, c k = 0 := by
    intro c h
    choose y hy using hx
    have h1 : ∀ k, c k = y k - (∑ k, y k) * (1 / 1024) := by
      intro k
      have := h k
      unfold cen at this
      rw [div_1024, show ∑ k, x k = ((∑ k, y k : ℝ) : EReal) from by
        rw [← coe_sum]; exact Finset.sum_congr rfl fun k _ => hy k, hy k] at this
      exact_mod_cast this.symm
    simp only [h1, Finset.sum_sub_distrib, Finset.sum_const, Finset.card_univ, Fintype.card_fin, nsmul_eq_mul]
    push_cast; ring
  choose c hcc using hc
  choose d hd using he
  have hz := hz c hcc
  have hB : lnB x e = (((∑ k, c k * d k) * (-(1 / 2) * (r * (1 / u))) * (1 / 1024) : ℝ) : EReal) := by
    unfold lnB
    rw [div_1024, ofBits_neg_half, hu, hr, Ideal.div_coe hu0.ne', show ∑ k, cen x k * e k = ((∑ k, c k * d k : ℝ) : EReal) from by
      rw [← coe_sum]; exact Finset.sum_congr rfl fun k _ => by rw [hcc k, hd k, EReal.coe_mul]]
    norm_cast
  have hC : ∀ k, lnC x e k = ((d k * r + 2 * c k * ((∑ k, c k * d k) * (-(1 / 2) * (r * (1 / u))) * (1 / 1024)) : ℝ) : EReal) := by
    intro k
    unfold lnC
    rw [hB, hcc k, hd k, hr]
    norm_cast
    ring
  unfold lnR lnK xh
  rw [div_1024, div_1024, div_1024, hr]
  simp only [hC, hcc, hd, ← EReal.coe_neg, ← EReal.coe_mul, coe_sum, ← EReal.coe_sub, ← EReal.coe_add]
  refine congrArg _ ?_
  have s1 : ∑ k, d k * (c k * r) = (∑ k, c k * d k) * r := by
    rw [Finset.sum_mul]; exact Finset.sum_congr rfl fun k _ => by ring
  generalize hS : (∑ k, c k * d k) = S at *
  have s2 : ∑ k, -(d k * r + 2 * c k * (S * (-(1 / 2) * (r * (1 / u))) * (1 / 1024))) = -((∑ k, d k) * r) := by
    rw [Finset.sum_neg_distrib, Finset.sum_add_distrib, ← Finset.sum_mul, ← Finset.sum_mul, ← Finset.mul_sum, hz]; ring
  rw [s1, s2, ← hru]
  ring

/-- Functions of several arguments take equal values at equal arguments. -/
theorem congr3 {α₀ α₁ α₂ β : Type} (f : α₀ → α₁ → α₂ → β) {x₀ y₀ : α₀} {x₁ y₁ : α₁} {x₂ y₂ : α₂}
    (e₀ : x₀ = y₀) (e₁ : x₁ = y₁) (e₂ : x₂ = y₂) :
    f x₀ x₁ x₂ = f y₀ y₁ y₂ := by
  subst e₀ e₁ e₂; rfl
theorem congr4 {α₀ α₁ α₂ α₃ β : Type} (f : α₀ → α₁ → α₂ → α₃ → β) {x₀ y₀ : α₀} {x₁ y₁ : α₁} {x₂ y₂ : α₂} {x₃ y₃ : α₃}
    (e₀ : x₀ = y₀) (e₁ : x₁ = y₁) (e₂ : x₂ = y₂) (e₃ : x₃ = y₃) :
    f x₀ x₁ x₂ x₃ = f y₀ y₁ y₂ y₃ := by
  subst e₀ e₁ e₂ e₃; rfl
theorem congr8 {α₀ α₁ α₂ α₃ α₄ α₅ α₆ α₇ β : Type} (f : α₀ → α₁ → α₂ → α₃ → α₄ → α₅ → α₆ → α₇ → β) {x₀ y₀ : α₀} {x₁ y₁ : α₁} {x₂ y₂ : α₂} {x₃ y₃ : α₃} {x₄ y₄ : α₄} {x₅ y₅ : α₅} {x₆ y₆ : α₆} {x₇ y₇ : α₇}
    (e₀ : x₀ = y₀) (e₁ : x₁ = y₁) (e₂ : x₂ = y₂) (e₃ : x₃ = y₃) (e₄ : x₄ = y₄) (e₅ : x₅ = y₅) (e₆ : x₆ = y₆) (e₇ : x₇ = y₇) :
    f x₀ x₁ x₂ x₃ x₄ x₅ x₆ x₇ = f y₀ y₁ y₂ y₃ y₄ y₅ y₆ y₇ := by
  subst e₀ e₁ e₂ e₃ e₄ e₅ e₆ e₇; rfl
theorem congr10 {α₀ α₁ α₂ α₃ α₄ α₅ α₆ α₇ α₈ α₉ β : Type} (f : α₀ → α₁ → α₂ → α₃ → α₄ → α₅ → α₆ → α₇ → α₈ → α₉ → β) {x₀ y₀ : α₀} {x₁ y₁ : α₁} {x₂ y₂ : α₂} {x₃ y₃ : α₃} {x₄ y₄ : α₄} {x₅ y₅ : α₅} {x₆ y₆ : α₆} {x₇ y₇ : α₇} {x₈ y₈ : α₈} {x₉ y₉ : α₉}
    (e₀ : x₀ = y₀) (e₁ : x₁ = y₁) (e₂ : x₂ = y₂) (e₃ : x₃ = y₃) (e₄ : x₄ = y₄) (e₅ : x₅ = y₅) (e₆ : x₆ = y₆) (e₇ : x₇ = y₇) (e₈ : x₈ = y₈) (e₉ : x₉ = y₉) :
    f x₀ x₁ x₂ x₃ x₄ x₅ x₆ x₇ x₈ x₉ = f y₀ y₁ y₂ y₃ y₄ y₅ y₆ y₇ y₈ y₉ := by
  subst e₀ e₁ e₂ e₃ e₄ e₅ e₆ e₇ e₈ e₉; rfl

end Cert.Scalars

end
-- ==== Proof.MixPure.lean ====
/- What the body of the mixing layer's gradient stores, read at an index, over blocks that are variables. -/
module

public import proofs.«01_k».proof.Proof.Gen.MixIdeal.Skeleton
public import proofs.«01_k».proof.Proof.MixScalars
public import Idealize.ShloMosaic.Lib.Pointwise

@[expose] public section

set_option maxRecDepth 16384

noncomputable section

namespace Cert.MixIdeal.Work

open Cert.MixIdeal Cert.MixIdeal.Gen Idealize.ShloMosaic Idealize.ShloMosaic.TcCoe Idealize.SL.Sem

variable (B0 B5 : FVec Ideal S512x1024 .bf16) (P Q : FVec Ideal S512x512 .bf16) (WA WC WO : FVec Ideal S1024x1024 .bf16)
  (X : FVec Ideal S512x1024 .f32) (G B : FVec Ideal S1x1024 .f32) (U V D : FVec Ideal S512x1024 .f32) (R : FVec Ideal S512x1 .f32)

/-- The gradient of the merged rows. -/
theorem pay4_at (r : Fin 512) (k : Fin 1024) : (show EReal from k0_pay4 (F := Ideal) B0 WO (ix2 r k)) = ∑ l : Fin 1024, B0 (ix2 r l) * WO (ix2 k l) := by
  pointwise [k0_pay4]

/-- Two strips of gate values side by side. -/
def gB (P Q : FVec Ideal S512x512 .bf16) : FVec Ideal S512x1024 .bf16 :=
  concatenate S512x1024 1 [⟨S512x512, P⟩, ⟨S512x512, Q⟩] concatenates_S512x512_S512x512_S512x1024_d1

/-- The gates: the logistic function of the gate values. -/
theorem pay5_at (r : Fin 512) (k : Fin 1024) : (show EReal from k0_pay5 (F := Ideal) P Q (ix2 r k)) = Ideal.logistic (gB P Q (ix2 r k)) := by
  pointwise [k0_pay5, gB]
  simp only [zero_sub]
  rfl
theorem pay6_at (r : Fin 512) (k : Fin 1024) : (show EReal from k0_pay6 (F := Ideal) P Q (ix2 r k)) = Ideal.logistic (gB P Q (ix2 r k)) := by
  pointwise [k0_pay6, gB]
  simp only [zero_sub]
  rfl

/-- The gradients of the two branches' rows. -/
theorem pay7_at (r : Fin 512) (k : Fin 1024) : (show EReal from k0_pay7 (F := Ideal) B0 WO P Q (ix2 r k))
    = (∑ l : Fin 1024, B0 (ix2 r l) * WO (ix2 k l)) * Ideal.logistic (gB P Q (ix2 r k)) := by
  pointwise [k0_pay7, pay4_at, pay5_at]
theorem pay8_at (r : Fin 512) (k : Fin 1024) : (show EReal from k0_pay8 (F := Ideal) B0 WO P Q (ix2 r k))
    = (∑ l : Fin 1024, B0 (ix2 r l) * WO (ix2 k l)) * Ideal.logistic (gB P Q (ix2 r k)) := by
  pointwise [k0_pay8, pay4_at, pay6_at]
theorem pay9_at (r : Fin 512) (k : Fin 1024) : (show EReal from k0_pay9 (F := Ideal) U (ix2 r k)) = U (ix2 r k) := by
  pointwise [k0_pay9]

/-- The gradients of the two gates' values. -/
theorem pay10_at (r : Fin 512) (k : Fin 1024) : (show EReal from k0_pay10 (F := Ideal) (k0_pay4 (F := Ideal) B0 WO) (k0_pay5 (F := Ideal) P Q) B5 (ix2 r k))
    = (∑ l : Fin 1024, B0 (ix2 r l) * WO (ix2 k l)) * B5 (ix2 r k)
      * (Ideal.logistic (gB P Q (ix2 r k)) * (1 - Ideal.logistic (gB P Q (ix2 r k)))) := by
  pointwise [k0_pay10, pay4_at, pay5_at]
  exact mul_assoc _ _ _
theorem pay11_at (r : Fin 512) (k : Fin 1024) : (show EReal from k0_pay11 (F := Ideal) (k0_pay4 (F := Ideal) B0 WO) (k0_pay6 (F := Ideal) P Q) B5 (ix2 r k))
    = (∑ l : Fin 1024, B0 (ix2 r l) * WO (ix2 k l)) * B5 (ix2 r k)
      * (Ideal.logistic (gB P Q (ix2 r k)) * (1 - Ideal.logistic (gB P Q (ix2 r k)))) := by
  pointwise [k0_pay11, pay4_at, pay6_at]
  exact mul_assoc _ _ _

/-- The gradients of the two branches' rows before their output weights. -/
theorem pay12_at (E : FVec Ideal S512x1024 .bf16) (r : Fin 512) (k : Fin 1024) : (show EReal from k0_pay12 (F := Ideal) E WA (ix2 r k))
    = ∑ l : Fin 1024, E (ix2 r l) * WA (ix2 k l) := by
  pointwise [k0_pay12]
theorem pay13_at (r : Fin 512) (k : Fin 1024) : (show EReal from k0_pay13 (F := Ideal) U WC (ix2 r k)) = ∑ l : Fin 1024, U (ix2 r l) * WC (ix2 k l) := by
  pointwise [k0_pay13, pay9_at]

/-- The normalised rows. -/
theorem pay16_at (r : Fin 512) (k : Fin 1024) : (show EReal from k0_pay16 (F := Ideal) X (ix2 r k)) = Scalars.xh (fun k => X (ix2 r k)) k := by
  pointwise [k0_pay16, k0_pay15, k0_pay14]
  rfl

/-- The gradient through the activation. -/
theorem pay17_at (r : Fin 512) (k : Fin 1024) : (show EReal from k0_pay17 (F := Ideal) U X G B (ix2 r k))
    = Scalars.silK (U (ix2 r k)) (Scalars.aff (fun k => X (ix2 r k)) (fun k => G (ix2 0 k)) (fun k => B (ix2 0 k)) k) := by
  pointwise [k0_pay17, k0_pay16, k0_pay15, k0_pay14]
  simp only [zero_sub]
  rfl

/-- The block's parts of the gradients of the norm's scale and shift, and of the bias before it. -/
theorem pay19_at (z : Fin 1) (k : Fin 1024) : (show EReal from k0_pay19 (F := Ideal) U X G B (ix2 z k))
    = ∑ r : Fin 512, k0_pay17 (F := Ideal) U X G B (ix2 r k) * Scalars.xh (fun k => X (ix2 r k)) k := by
  pointwise [k0_pay19, pay16_at]
theorem pay21_at (z : Fin 1) (k : Fin 1024) : (show EReal from k0_pay21 (F := Ideal) V G (ix2 z k)) = G (ix2 z k) + ∑ r : Fin 512, V (ix2 r k) := by
  pointwise [k0_pay21]
theorem pay23_at (z : Fin 1) (k : Fin 1024) : (show EReal from k0_pay23 (F := Ideal) R U V G B (ix2 z k))
    = B (ix2 z k) + ∑ r : Fin 512, k0_pay22 (F := Ideal) R U V G (ix2 r k) := by
  pointwise [k0_pay23]
theorem pay20_at (z : Fin 1) (k : Fin 1024) : (show EReal from k0_pay20 (F := Ideal) (k0_pay18 (F := Ideal) G) B (ix2 z k)) = G (ix2 z k) + B (ix2 z k) := by
  pointwise [k0_pay20, k0_pay18]

/-- The gradient through the layer norm. -/
theorem pay22_at (r : Fin 512) (k : Fin 1024) : (show EReal from k0_pay22 (F := Ideal) (k0_pay15 (F := Ideal) X) (k0_pay16 (F := Ideal) X) U G (ix2 r k))
    = Scalars.lnK (fun k => X (ix2 r k)) (fun k => U (ix2 r k) * G (ix2 0 k)) k := by
  pointwise [k0_pay22, k0_pay16, k0_pay15, k0_pay14]
  rfl

/-- The running sums start at zero. -/
theorem pay1_at (y : S1x1024.Idx) : k0_pay1 (F := Ideal) y = 0 := by
  pointwise [k0_pay1]
theorem pay2_at (y : S1x1024.Idx) : k0_pay2 (F := Ideal) y = 0 := by
  pointwise [k0_pay2]
theorem pay3_at (y : S1x1024.Idx) : k0_pay3 (F := Ideal) y = 0 := by
  pointwise [k0_pay3]

end Cert.MixIdeal.Work

end
-- ==== Proof.MixRef.lean ====
/- The reference of the mixing layer's gradient, cut into the stages its mathematics has, and each stage read at an index. -/
module

public import proofs.«01_k».proof.Proof.Gen.MixRefIdeal.Run
public import proofs.«01_k».proof.Proof.MixScalars
public import Idealize.ShloMosaic.Lib.Pointwise

@[expose] public section

set_option maxRecDepth 16384

noncomputable section

namespace Cert.MixRefIdeal.Work

open Cert.MixRefIdeal Cert.MixRefIdeal.Gen Idealize.ShloMosaic Idealize.ShloMosaic.TcCoe Idealize.SL.Sem

/-- The rows before the norm. -/
def h1R (H : FVec Ideal S8192x1024 .f32) (BD : FVec Ideal S1x1024 .f32) : FVec Ideal S8192x1024 .f32 :=
  addf H (broadcastInDim S8192x1024 ![0, 1] bcast_S1x1024_S8192x1024_0_1 BD)

/-- The rows less their means. -/
def xcR (X : FVec Ideal S8192x1024 .f32) : FVec Ideal S8192x1024 .f32 :=
  subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))

/-- The mean of the squares of each row plus the small constant. -/
def msR (C : FVec Ideal S8192x1024 .f32) : FVec Ideal S8192x1 .f32 :=
  addf (Host.divf (broadcastInDim S8192x1 ![0] bcast_S8192_S8192x1_0 (Host.reduceAdd (mulf C C) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The rows over their spreads. -/
def xnR (C : FVec Ideal S8192x1024 .f32) : FVec Ideal S8192x1024 .f32 :=
  mulf C (broadcastInDim S8192x1024 ![0, 1] bcast_S8192x1_S8192x1024_0_1 (Host.rsqrt (msR C)))

/-- The rows after the norm's scale and shift. -/
def h2R (C : FVec Ideal S8192x1024 .f32) (LG LB : FVec Ideal S1x1024 .f32) : FVec Ideal S8192x1024 .f32 :=
  addf (mulf (xnR C) (broadcastInDim S8192x1024 ![0, 1] bcast_S1x1024_S8192x1024_0_1 LG)) (broadcastInDim S8192x1024 ![0, 1] bcast_S1x1024_S8192x1024_0_1 LB)

/-- The logistic function. -/
def sgR (X : FVec Ideal S8192x1024 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf X)))

/-- Its derivative, from its values. -/
def dsR (X : FVec Ideal S8192x1024 .f32) : FVec Ideal S8192x1024 .f32 :=
  mulf X (subf (broadcastInDim S8192x1024 ![] bcast_S_S8192x1024 (constant S_ .f32 0x3F800000#32)) X)

/-- A product of rows with a weight, and of rows with a weight's transpose. -/
def fwdR (X : FVec Ideal S8192x1024 .f32) (W : FVec Ideal S1024x1024 .f32) : FVec Ideal S8192x1024 .f32 :=
  Host.dotGeneral dot_S8192x1024_S1024x1024_S8192x1024_1_0_0_1_n_n none X W
def bwdR (X : FVec Ideal S8192x1024 .f32) (W : FVec Ideal S1024x1024 .f32) : FVec Ideal S8192x1024 .f32 :=
  Host.dotGeneral dot_S8192x1024_S1024x1024_S8192x1024_1_1_0_0_n_n none X W

/-- The two gates' values, of the projected rows. -/
def gaR (PR : FVec Ideal S8192x5632 .f32) : FVec Ideal S8192x1024 .f32 :=
  extractStridedSlice S8192x1024 ![0, 0] (extractStridedSlice S8192x2048 ![0, 3584] PR slices_S8192x5632_S8192x2048_0_3584) slices_S8192x2048_S8192x1024_0_0
def gcR (PR : FVec Ideal S8192x5632 .f32) : FVec Ideal S8192x1024 .f32 :=
  extractStridedSlice S8192x1024 ![0, 1024] (extractStridedSlice S8192x2048 ![0, 3584] PR slices_S8192x5632_S8192x2048_0_3584) slices_S8192x2048_S8192x1024_0_1024

/-- The convolution branch's rows after its output weight. -/
def convR (H2 : FVec Ideal S8192x1024 .f32) (WC : FVec Ideal S1024x1024 .f32) : FVec Ideal S8192x1024 .f32 :=
  fwdR (mulf H2 (sgR H2)) WC

/-- The gradient of a gate's values: of the merged rows' gradient, the branch and the gate. -/
def dgtR (DM A S : FVec Ideal S8192x1024 .f32) : FVec Ideal S8192x1024 .f32 := mulf (mulf DM A) (dsR S)

/-- The two gradients side by side. -/
def catR (A B : FVec Ideal S8192x1024 .f32) : FVec Ideal S8192x2048 .f32 :=
  concatenate S8192x2048 1 [⟨S8192x1024, A⟩, ⟨S8192x1024, B⟩] concatenates_S8192x1024_S8192x1024_S8192x2048_d1

/-- The gradient through the activation. -/
def dh2R (H2 D3 : FVec Ideal S8192x1024 .f32) : FVec Ideal S8192x1024 .f32 :=
  addf (mulf D3 (sgR H2)) (mulf (mulf H2 D3) (dsR (sgR H2)))

/-- The sum over the rows. -/
def colR (X : FVec Ideal S8192x1024 .f32) : FVec Ideal S1x1024 .f32 :=
  shapeCast _ (Host.reduceAdd X (constant S_ .f32 0x00000000#32) reducesTo_S8192x1024_S1024_d0 h_S_) shapeCasts_S1024_S1x1024

/-- The gradient of the normalised rows. -/
def dxnR (D : FVec Ideal S8192x1024 .f32) (LG : FVec Ideal S1x1024 .f32) : FVec Ideal S8192x1024 .f32 :=
  mulf D (broadcastInDim S8192x1024 ![0, 1] bcast_S1x1024_S8192x1024_0_1 LG)

/-- What the mean of the squares passes back to each element of a row, over the element. -/
def bR (C E : FVec Ideal S8192x1024 .f32) : FVec Ideal S8192x1024 .f32 :=
  broadcastInDim S8192x1024 ![0] bcast_S8192_S8192x1024_0 (Host.reduceAdd (Host.divf (mulf (shapeCast _ (Host.reduceAdd (mulf C E) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msR C)) (msR C)))) (broadcastInDim S8192x1 ![] bcast_S_S8192x1 (constant S_ .f32 0x44800000#32))) (constant S_ .f32 0x00000000#32) reducesTo_S8192x1_S8192_d1 h_S_)

/-- The gradient of the rows less their means. -/
def dcR (C E : FVec Ideal S8192x1024 .f32) : FVec Ideal S8192x1024 .f32 :=
  addf (addf (mulf E (broadcastInDim S8192x1024 ![0, 1] bcast_S8192x1_S8192x1024_0_1 (Host.rsqrt (msR C)))) (mulf C (bR C E))) (mulf (bR C E) C)

/-- The gradient of the rows before the norm. -/
def dh1R (Q : FVec Ideal S8192x1024 .f32) : FVec Ideal S8192x1024 .f32 :=
  addf Q (broadcastInDim S8192x1024 ![0] bcast_S8192_S8192x1024_0 (Host.reduceAdd (Host.divf (shapeCast _ (Host.reduceAdd (Host.negf Q) (constant S_ .f32 0x00000000#32) reducesTo_S8192x1024_S8192_d1 h_S_) shapeCasts_S8192_S8192x1) (broadcastInDim S8192x1 ![] bcast_S_S8192x1 (constant S_ .f32 0x44800000#32))) (constant S_ .f32 0x00000000#32) reducesTo_S8192x1_S8192_d1 h_S_))

section
variable (m : (ℓ : Loc nD τ sig) → Buf (Elt Ideal) ℓ) (c : Dev nD)

/-- The reference's arguments. -/
abbrev aDX : FVec Ideal S8192x1024 .f32 := m ((c.tc : Thread nD τ).loc main_arg0)
abbrev aPR : FVec Ideal S8192x5632 .f32 := m ((c.tc : Thread nD τ).loc main_arg1)
abbrev aO : FVec Ideal S8192x1024 .f32 := m ((c.tc : Thread nD τ).loc main_arg2)
abbrev aH : FVec Ideal S8192x1024 .f32 := m ((c.tc : Thread nD τ).loc main_arg3)
abbrev aBD : FVec Ideal S1x1024 .f32 := m ((c.tc : Thread nD τ).loc main_arg4)
abbrev aLG : FVec Ideal S1x1024 .f32 := m ((c.tc : Thread nD τ).loc main_arg5)
abbrev aLB : FVec Ideal S1x1024 .f32 := m ((c.tc : Thread nD τ).loc main_arg6)
abbrev aWA : FVec Ideal S1024x1024 .f32 := m ((c.tc : Thread nD τ).loc main_arg7)
abbrev aWC : FVec Ideal S1024x1024 .f32 := m ((c.tc : Thread nD τ).loc main_arg8)
abbrev aWO : FVec Ideal S1024x1024 .f32 := m ((c.tc : Thread nD τ).loc main_arg9)

end

section
variable (DX : FVec Ideal S8192x1024 .f32) (PR : FVec Ideal S8192x5632 .f32) (O H : FVec Ideal S8192x1024 .f32)
  (BD LG LB : FVec Ideal S1x1024 .f32) (WA WC WO : FVec Ideal S1024x1024 .f32)

/-- The reference's gradients, over its arguments: of the attention branch's rows, of the convolution branch's, of the attention
before its output weight, of the gates' values, through the activation, of the norm's scale and shift, of the rows before the norm and
of the bias. -/
def DA : FVec Ideal S8192x1024 .f32 := mulf (sgR (gaR PR)) (bwdR DX WO)
def DC : FVec Ideal S8192x1024 .f32 := mulf (sgR (gcR PR)) (bwdR DX WO)
def DO : FVec Ideal S8192x1024 .f32 := bwdR (DA DX PR WO) WA
def C1 : FVec Ideal S8192x1024 .f32 := xcR (h1R H BD)
def H2 : FVec Ideal S8192x1024 .f32 := h2R (C1 H BD) LG LB
def DG : FVec Ideal S8192x2048 .f32 :=
  catR (dgtR (bwdR DX WO) (fwdR O WA) (sgR (gaR PR))) (dgtR (bwdR DX WO) (convR (H2 H BD LG LB) WC) (sgR (gcR PR)))
def D2 : FVec Ideal S8192x1024 .f32 := dh2R (H2 H BD LG LB) (bwdR (DC DX PR WO) WC)
def DLG : FVec Ideal S1x1024 .f32 := colR (mulf (xnR (C1 H BD)) (D2 DX PR H BD LG LB WC WO))
def DLB : FVec Ideal S1x1024 .f32 := colR (D2 DX PR H BD LG LB WC WO)
def DH : FVec Ideal S8192x1024 .f32 := dh1R (dcR (C1 H BD) (dxnR (D2 DX PR H BD LG LB WC WO) LG))
def DBD : FVec Ideal S1x1024 .f32 := colR (DH DX PR H BD LG LB WC WO)

end

set_option maxHeartbeats 2000000 in
/-- The reference's run, its eight results by their stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = truncf .bf16 (DA (aDX m c) (aPR m c) (aWO m c)) bitsLt_bf16_f32
      ∧ r.2.mem ((c.tc : Thread nD τ).loc main_v96) = truncf .bf16 (DC (aDX m c) (aPR m c) (aWO m c)) bitsLt_bf16_f32
      ∧ r.2.mem ((c.tc : Thread nD τ).loc main_v97) = truncf .bf16 (DO (aDX m c) (aPR m c) (aWA m c) (aWO m c)) bitsLt_bf16_f32
      ∧ r.2.mem ((c.tc : Thread nD τ).loc main_v92) = DH (aDX m c) (aPR m c) (aH m c) (aBD m c) (aLG m c) (aLB m c) (aWC m c) (aWO m c)
      ∧ r.2.mem ((c.tc : Thread nD τ).loc main_v98) = truncf .bf16 (DG (aDX m c) (aPR m c) (aO m c) (aH m c) (aBD m c) (aLG m c) (aLB m c) (aWA m c) (aWC m c) (aWO m c)) bitsLt_bf16_f32
      ∧ r.2.mem ((c.tc : Thread nD τ).loc main_v68) = DLG (aDX m c) (aPR m c) (aH m c) (aBD m c) (aLG m c) (aLB m c) (aWC m c) (aWO m c)
      ∧ r.2.mem ((c.tc : Thread nD τ).loc main_v65) = DLB (aDX m c) (aPR m c) (aH m c) (aBD m c) (aLG m c) (aLB m c) (aWC m c) (aWO m c)
      ∧ r.2.mem ((c.tc : Thread nD τ).loc main_v94) = DBD (aDX m c) (aPR m c) (aH m c) (aBD m c) (aLG m c) (aLB m c) (aWC m c) (aWO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Value.run m ρ)
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  · delta DA sgR gaR bwdR; rfl
  · delta DC sgR gcR bwdR; rfl
  · delta DO DA sgR gaR bwdR; rfl
  · delta Value.res_main_v92 DH D2 H2 C1 DC dh1R dcR bR dxnR dh2R dsR sgR gcR bwdR h2R xnR msR xcR h1R; rfl
  · delta Value.res_main_v98 DG catR dgtR convR fwdR bwdR H2 C1 dsR sgR gcR gaR h2R xnR msR xcR h1R; rfl
  · delta Value.res_main_v68 DLG colR D2 H2 C1 DC dh2R dsR sgR gcR bwdR h2R xnR msR xcR h1R; rfl
  · delta Value.res_main_v65 DLB colR D2 H2 C1 DC dh2R dsR sgR gcR bwdR h2R xnR msR xcR h1R; rfl
  · delta Value.res_main_v94 DBD DH colR D2 H2 C1 DC dh1R dcR bR dxnR dh2R dsR sgR gcR bwdR h2R xnR msR xcR h1R; rfl

variable (X C E D A B S H2 D3 : FVec Ideal S8192x1024 .f32) (G LG LB BD : FVec Ideal S1x1024 .f32) (W : FVec Ideal S1024x1024 .f32)
  (PR : FVec Ideal S8192x5632 .f32)

/-- The rows before the norm, read at an index. -/
theorem h1R_at (r : Fin 8192) (k : Fin 1024) : h1R X BD (ix2 r k) = X (ix2 r k) + BD (ix2 0 k) := by
  pointwise [h1R]

/-- The rows less their means, read at an index. -/
theorem xcR_at (r : Fin 8192) (k : Fin 1024) : xcR X (ix2 r k) = Scalars.cen (fun k => X (ix2 r k)) k := by
  pointwise [xcR]
  rfl

/-- The mean of the squares, read at a row. -/
theorem msR_at (r : Fin 8192) (z : Fin 1) : msR C (ix2 r z) = Scalars.ms fun k => C (ix2 r k) := by
  pointwise [msR, Scalars.ms]

/-- The rows over their spreads, read at an index. -/
theorem xnR_at (r : Fin 8192) (k : Fin 1024) : xnR C (ix2 r k) = C (ix2 r k) * Scalars.rs fun k => C (ix2 r k) := by
  pointwise [xnR, msR_at]
  rfl

/-- The rows after the norm's scale and shift, read at an index. -/
theorem h2R_at (r : Fin 8192) (k : Fin 1024) : h2R C LG LB (ix2 r k)
    = C (ix2 r k) * (Scalars.rs fun k => C (ix2 r k)) * LG (ix2 0 k) + LB (ix2 0 k) := by
  pointwise [h2R, xnR_at]

/-- The logistic function and its derivative, read at an index. -/
theorem sgR_at (r : Fin 8192) (k : Fin 1024) : sgR X (ix2 r k) = Ideal.logistic (X (ix2 r k)) := by
  pointwise [sgR]
  rfl
theorem dsR_at (r : Fin 8192) (k : Fin 1024) : dsR X (ix2 r k) = X (ix2 r k) * (1 - X (ix2 r k)) := by
  pointwise [dsR]

/-- The product with a weight's transpose, read at an index. -/
theorem bwdR_at (r : Fin 8192) (k : Fin 1024) : bwdR X W (ix2 r k) = ∑ l : Fin 1024, X (ix2 r l) * W (ix2 k l) := by
  pointwise [bwdR]

/-- The gates' values, read at an index. -/
theorem gaR_at (r : Fin 8192) (k : Fin 1024) : gaR PR (ix2 r k) = PR (ix2 r ⟨3584 + k.val, by omega⟩) := by
  pointwise [gaR]
theorem gcR_at (r : Fin 8192) (k : Fin 1024) : gcR PR (ix2 r k) = PR (ix2 r ⟨3584 + (1024 + k.val), by omega⟩) := by
  pointwise [gcR]

/-- The gradient of a gate's values, read at an index. -/
theorem dgtR_at (r : Fin 8192) (k : Fin 1024) : dgtR D A S (ix2 r k) = D (ix2 r k) * A (ix2 r k) * (S (ix2 r k) * (1 - S (ix2 r k))) := by
  pointwise [dgtR, dsR_at]

/-- Both gates' gradients side by side, read at an index. -/
theorem catR_at (A B : FVec Ideal S8192x1024 .f32) (r : Fin 8192) (l : Fin 2048) :
    catR A B (ix2 r l) = if h : l.val < 1024 then A (ix2 r ⟨l.val, h⟩) else B (ix2 r ⟨l.val - 1024, by omega⟩) := by
  pointwise [catR]

/-- The gradient through the activation, read at an index. -/
theorem dh2R_at (r : Fin 8192) (k : Fin 1024) : dh2R H2 D3 (ix2 r k)
    = D3 (ix2 r k) * Ideal.logistic (H2 (ix2 r k)) + H2 (ix2 r k) * D3 (ix2 r k) * (Ideal.logistic (H2 (ix2 r k)) * (1 - Ideal.logistic (H2 (ix2 r k)))) := by
  pointwise [dh2R, sgR_at, dsR_at]

/-- The sum over the rows, read at an index. -/
theorem colR_at (z : Fin 1) (k : Fin 1024) : colR X (ix2 z k) = ∑ r : Fin 8192, X (ix2 r k) := by
  pointwise [colR]

/-- The gradient of the normalised rows, read at an index. -/
theorem dxnR_at (r : Fin 8192) (k : Fin 1024) : dxnR D LG (ix2 r k) = D (ix2 r k) * LG (ix2 0 k) := by
  pointwise [dxnR]

/-- The gradient of the rows less their means, read at an index. -/
theorem dcR_at (r : Fin 8192) (k : Fin 1024) : dcR (xcR X) E (ix2 r k) = Scalars.lnC (fun k => X (ix2 r k)) (fun k => E (ix2 r k)) k := by
  pointwise [dcR, bR, msR_at, xcR_at]
  simp only [Finset.univ_unique, Finset.sum_singleton]
  rfl

/-- The gradient of the rows before the norm, read at an index. -/
theorem dh1R_at (r : Fin 8192) (k : Fin 1024) : dh1R (dcR (xcR X) E) (ix2 r k) = Scalars.lnR (fun k => X (ix2 r k)) (fun k => E (ix2 r k)) k := by
  pointwise [dh1R, dcR_at]
  simp only [Finset.univ_unique, Finset.sum_singleton]
  rfl

end Cert.MixRefIdeal.Work

end
-- ==== Proof.MixValue.lean ====
/- What the mixing layer's gradient's eight output arrays hold after the run. -/
module

public import proofs.«01_k».proof.Proof.Gen.MixIdeal.Value
public import proofs.«01_k».proof.Proof.MixPure
public import proofs.«01_k».proof.Proof.MixRef
public import Idealize.ShloMosaic.Lib.Pipeline.ValueKit
public import Idealize.ShloMosaic.Lib.Claim

@[expose] public section

set_option maxRecDepth 16384

noncomputable section

namespace Cert.MixIdeal.Work

open Cert.MixIdeal Cert.MixIdeal.Gen Idealize.ShloMosaic Idealize.ShloMosaic.TcCoe Idealize.SL.Sem
open Idealize.ShloMosaic.Pipeline (Dat)
open Scalars (IsR)

section
variable (B0 A' E : FVec Ideal S512x1024 .bf16) (P Q : FVec Ideal S512x512 .bf16) (W' WO' : FVec Ideal S1024x1024 .bf16)
  (X' U : FVec Ideal S512x1024 .f32) (G' B' : FVec Ideal S1x1024 .f32)
  (DX A D X g : FVec Ideal S8192x1024 .f32) (W WO : FVec Ideal S1024x1024 .f32) (LG LB : FVec Ideal S1x1024 .f32) (r : Fin 512) (R : Fin 8192)

/-- A row of a block's gradients of the two branches is the row of the whole gradient, when the rows they are computed from agree. -/
theorem da_row (e0 : ∀ k, B0 (ix2 r k) = DX (ix2 R k)) (eo : ∀ f k, WO' (ix2 f k) = WO (ix2 f k)) (eg : ∀ k, gB P Q (ix2 r k) = g (ix2 R k)) (k : Fin 1024) :
    (show EReal from k0_pay7 (F := Ideal) B0 WO' P Q (ix2 r k)) = mulf (MixRefIdeal.Work.sgR g) (MixRefIdeal.Work.bwdR DX WO) (ix2 R k) := by
  refine (pay7_at _ _ _ _ _ _).trans ((mul_comm _ _).trans ?_)
  refine Ideal.mul_congr ?_ ?_
  · rw [MixRefIdeal.Work.sgR_at, eg]
  · rw [MixRefIdeal.Work.bwdR_at]
    exact Finset.sum_congr rfl fun l _ => Ideal.mul_congr (e0 l) (eo k l)
theorem dc_row (e0 : ∀ k, B0 (ix2 r k) = DX (ix2 R k)) (eo : ∀ f k, WO' (ix2 f k) = WO (ix2 f k)) (eg : ∀ k, gB P Q (ix2 r k) = g (ix2 R k)) (k : Fin 1024) :
    (show EReal from k0_pay8 (F := Ideal) B0 WO' P Q (ix2 r k)) = mulf (MixRefIdeal.Work.sgR g) (MixRefIdeal.Work.bwdR DX WO) (ix2 R k) := by
  refine (pay8_at _ _ _ _ _ _).trans ((mul_comm _ _).trans ?_)
  refine Ideal.mul_congr ?_ ?_
  · rw [MixRefIdeal.Work.sgR_at, eg]
  · rw [MixRefIdeal.Work.bwdR_at]
    exact Finset.sum_congr rfl fun l _ => Ideal.mul_congr (e0 l) (eo k l)

/-- The same of the gradients of the two gates' values. -/
theorem dga_row (e0 : ∀ k, B0 (ix2 r k) = DX (ix2 R k)) (eo : ∀ f k, WO' (ix2 f k) = WO (ix2 f k)) (eg : ∀ k, gB P Q (ix2 r k) = g (ix2 R k))
    (ea : ∀ k, A' (ix2 r k) = A (ix2 R k)) (k : Fin 1024) :
    (show EReal from k0_pay10 (F := Ideal) (k0_pay4 B0 WO') (k0_pay5 P Q) A' (ix2 r k))
      = MixRefIdeal.Work.dgtR (MixRefIdeal.Work.bwdR DX WO) A (MixRefIdeal.Work.sgR g) (ix2 R k) := by
  refine (pay10_at _ _ _ _ _ _ _).trans ?_
  rw [MixRefIdeal.Work.dgtR_at, MixRefIdeal.Work.sgR_at, MixRefIdeal.Work.bwdR_at, eg]
  exact Ideal.mul_congr (Ideal.mul_congr (Finset.sum_congr rfl fun l _ => Ideal.mul_congr (e0 l) (eo k l)) (ea k)) rfl
theorem dgc_row (e0 : ∀ k, B0 (ix2 r k) = DX (ix2 R k)) (eo : ∀ f k, WO' (ix2 f k) = WO (ix2 f k)) (eg : ∀ k, gB P Q (ix2 r k) = g (ix2 R k))
    (ea : ∀ k, A' (ix2 r k) = A (ix2 R k)) (k : Fin 1024) :
    (show EReal from k0_pay11 (F := Ideal) (k0_pay4 B0 WO') (k0_pay6 P Q) A' (ix2 r k))
      = MixRefIdeal.Work.dgtR (MixRefIdeal.Work.bwdR DX WO) A (MixRefIdeal.Work.sgR g) (ix2 R k) := by
  refine (pay11_at _ _ _ _ _ _ _).trans ?_
  rw [MixRefIdeal.Work.dgtR_at, MixRefIdeal.Work.sgR_at, MixRefIdeal.Work.bwdR_at, eg]
  exact Ideal.mul_congr (Ideal.mul_congr (Finset.sum_congr rfl fun l _ => Ideal.mul_congr (e0 l) (eo k l)) (ea k)) rfl

/-- The same of the products with the branches' output weights. -/
theorem do_row (ed : ∀ k, (show EReal from E (ix2 r k)) = D (ix2 R k)) (ew : ∀ f k, W' (ix2 f k) = W (ix2 f k)) (k : Fin 1024) :
    (show EReal from k0_pay12 (F := Ideal) E W' (ix2 r k)) = MixRefIdeal.Work.bwdR D W (ix2 R k) := by
  refine (pay12_at _ _ _ _).trans ?_
  rw [MixRefIdeal.Work.bwdR_at]
  exact Finset.sum_congr rfl fun l _ => Ideal.mul_congr (ed l) (ew k l)
theorem d3_row (ed : ∀ k, (show EReal from U (ix2 r k)) = D (ix2 R k)) (ew : ∀ f k, W' (ix2 f k) = W (ix2 f k)) (k : Fin 1024) :
    (show EReal from k0_pay13 (F := Ideal) U W' (ix2 r k)) = MixRefIdeal.Work.bwdR D W (ix2 R k) := by
  refine (pay13_at _ _ _ _).trans ?_
  rw [MixRefIdeal.Work.bwdR_at]
  exact Finset.sum_congr rfl fun l _ => Ideal.mul_congr (ed l) (ew k l)

/-- The norm's output at an index is the scalars' row after scale and shift. -/
theorem h2_aff (k : Fin 1024) : MixRefIdeal.Work.h2R (MixRefIdeal.Work.xcR X) LG LB (ix2 R k)
    = Scalars.aff (fun k => X (ix2 R k)) (fun k => LG (ix2 0 k)) (fun k => LB (ix2 0 k)) k := by
  rw [MixRefIdeal.Work.h2R_at]
  simp only [MixRefIdeal.Work.xcR_at]
  rfl

/-- The same of the gradient through the activation, on rows of reals. -/
theorem d2_row (eu : ∀ k, (show EReal from U (ix2 r k)) = D (ix2 R k)) (ex : ∀ k, X' (ix2 r k) = X (ix2 R k))
    (eg : ∀ k, G' (ix2 0 k) = LG (ix2 0 k)) (eb : ∀ k, B' (ix2 0 k) = LB (ix2 0 k))
    (hx : ∀ i, IsR (X i)) (hg : ∀ i, IsR (LG i)) (hb : ∀ i, IsR (LB i)) (hd : ∀ i, IsR (D i)) (k : Fin 1024) :
    (show EReal from k0_pay17 (F := Ideal) U X' G' B' (ix2 r k))
      = MixRefIdeal.Work.dh2R (MixRefIdeal.Work.h2R (MixRefIdeal.Work.xcR X) LG LB) D (ix2 R k) := by
  refine (pay17_at _ _ _ _ _ _).trans ?_
  rw [MixRefIdeal.Work.dh2R_at, h2_aff]
  simp only [ex, eg, eb]
  rw [show U (ix2 r k) = D (ix2 R k) from eu k]
  exact Scalars.silu_bwd (Scalars.isR_aff (fun k => hx _) (fun k => hg _) (fun k => hb _) k) (hd _)

/-- The same of the gradient through the norm, on rows of reals. -/
theorem dh_row (eu : ∀ k, (show EReal from U (ix2 r k)) = D (ix2 R k)) (ex : ∀ k, X' (ix2 r k) = X (ix2 R k))
    (eg : ∀ k, G' (ix2 0 k) = LG (ix2 0 k)) (hx : ∀ i, IsR (X i)) (hg : ∀ i, IsR (LG i)) (hd : ∀ i, IsR (D i)) (k : Fin 1024) :
    (show EReal from k0_pay22 (F := Ideal) (k0_pay15 X') (k0_pay16 X') U G' (ix2 r k))
      = MixRefIdeal.Work.dh1R (MixRefIdeal.Work.dcR (MixRefIdeal.Work.xcR X) (MixRefIdeal.Work.dxnR D LG)) (ix2 R k) := by
  refine (pay22_at _ _ _ _ _).trans ?_
  rw [MixRefIdeal.Work.dh1R_at]
  have eu' : ∀ k, U (ix2 r k) = D (ix2 R k) := eu
  simp only [ex, eg, eu', MixRefIdeal.Work.dxnR_at]
  exact Scalars.ln_bwd (fun k => hx _) (fun k => (hd _).mul (hg _)) k

/-- The same of one row's part of the gradient of the norm's scale. -/
theorem dlg_row (k : Fin 1024) (eu : (show EReal from U (ix2 r k)) = D (ix2 R k)) (ex : ∀ k, X' (ix2 r k) = X (ix2 R k)) :
    (show EReal from U (ix2 r k)) * Scalars.xh (fun k => X' (ix2 r k)) k
      = mulf (MixRefIdeal.Work.xnR (MixRefIdeal.Work.xcR X)) D (ix2 R k) := by
  rw [eu]
  simp only [ex]
  refine (mul_comm _ _).trans (Ideal.mul_congr ?_ rfl)
  rw [MixRefIdeal.Work.xnR_at]
  simp only [MixRefIdeal.Work.xcR_at]
  rfl

end

variable (m : (ℓ : Loc nD τ sig) → Buf (Elt Ideal) ℓ)

/-- Where each block lies: blocks of 512 rows (the gates' in columns 7 to 10 of 512), and the whole arrays of the weights, the norm's
parameters and their gradients. -/
theorem idx : ∀ t : Fin cfg0.N, win0_0.index t = ![t.val, 0] ∧ win0_1.index t = ![t.val, 7] ∧ win0_2.index t = ![t.val, 8]
    ∧ win0_3.index t = ![t.val, 9] ∧ win0_4.index t = ![t.val, 10] ∧ win0_5.index t = ![t.val, 0] ∧ win0_6.index t = ![t.val, 0]
    ∧ win0_7.index t = ![t.val, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![0, 0]
    ∧ win0_19.index t = ![0, 0] ∧ win0_20.index t = ![0, 0] :=
  (by decide +kernel : ∀ t : Fin grid0.N, _)

/-- The arguments. -/
abbrev aDX (c : Dev nD) : FVec Ideal S8192x1024 .f32 := m ((c : Thread nD τ).loc main_arg0)
abbrev aPR (c : Dev nD) : FVec Ideal S8192x5632 .f32 := m ((c : Thread nD τ).loc main_arg1)
abbrev aO (c : Dev nD) : FVec Ideal S8192x1024 .f32 := m ((c : Thread nD τ).loc main_arg2)
abbrev aH (c : Dev nD) : FVec Ideal S8192x1024 .f32 := m ((c : Thread nD τ).loc main_arg3)
abbrev aBD (c : Dev nD) : FVec Ideal S1x1024 .f32 := m ((c : Thread nD τ).loc main_arg4)
abbrev aLG (c : Dev nD) : FVec Ideal S1x1024 .f32 := m ((c : Thread nD τ).loc main_arg5)
abbrev aLB (c : Dev nD) : FVec Ideal S1x1024 .f32 := m ((c : Thread nD τ).loc main_arg6)
abbrev aWA (c : Dev nD) : FVec Ideal S1024x1024 .f32 := m ((c : Thread nD τ).loc main_arg7)
abbrev aWC (c : Dev nD) : FVec Ideal S1024x1024 .f32 := m ((c : Thread nD τ).loc main_arg8)
abbrev aWO (c : Dev nD) : FVec Ideal S1024x1024 .f32 := m ((c : Thread nD τ).loc main_arg9)

/-- The rows before the norm and the two branches' rows, computed on the host. -/
abbrev aH1 (c : Dev nD) : FVec Ideal S8192x1024 .f32 := MixRefIdeal.Work.h1R (aH m c) (aBD m c)
abbrev aH2 (c : Dev nD) : FVec Ideal S8192x1024 .f32 := MixRefIdeal.Work.h2R (MixRefIdeal.Work.xcR (aH1 m c)) (aLG m c) (aLB m c)
abbrev aAT (c : Dev nD) : FVec Ideal S8192x1024 .f32 := MixRefIdeal.Work.fwdR (aO m c) (aWA m c)
abbrev aCV (c : Dev nD) : FVec Ideal S8192x1024 .f32 := MixRefIdeal.Work.convR (aH2 m c) (aWC m c)

theorem row_lt (t : Fin cfg0.N) (r : Fin 512) : t.val * 512 + r.val < 8192 := by
  have := t.isLt; have : cfg0.N = 16 := N_0; omega

/-- The row of the whole arrays that is a point's row. -/
abbrev row (t : Fin cfg0.N) (r : Fin 512) : Fin 8192 := ⟨t.val * 512 + r.val, row_lt t r⟩

theorem blk0 (c : Dev nD) (t : Fin cfg0.N) (r : Fin 512) (k : Fin 1024) :
    (show EReal from iblk m c 0 t (ix2 r k)) = aDX m c (ix2 (row t r) k) := by
  blk_simp [iblk]
  entry_read
  show aDX m c _ = _
  blk_ext [idx t]
theorem blk1 (c : Dev nD) (t : Fin cfg0.N) (r l : Fin 512) :
    (show EReal from iblk m c 1 t (ix2 r l)) = aPR m c (ix2 (row t r) ⟨3584 + l.val, by omega⟩) := by
  blk_simp [iblk]
  entry_read
  show aPR m c _ = _
  blk_ext [idx t]
theorem blk2 (c : Dev nD) (t : Fin cfg0.N) (r l : Fin 512) :
    (show EReal from iblk m c 2 t (ix2 r l)) = aPR m c (ix2 (row t r) ⟨4096 + l.val, by omega⟩) := by
  blk_simp [iblk]
  entry_read
  show aPR m c _ = _
  blk_ext [idx t]
theorem blk3 (c : Dev nD) (t : Fin cfg0.N) (r l : Fin 512) :
    (show EReal from iblk m c 3 t (ix2 r l)) = aPR m c (ix2 (row t r) ⟨4608 + l.val, by omega⟩) := by
  blk_simp [iblk]
  entry_read
  show aPR m c _ = _
  blk_ext [idx t]
theorem blk4 (c : Dev nD) (t : Fin cfg0.N) (r l : Fin 512) :
    (show EReal from iblk m c 4 t (ix2 r l)) = aPR m c (ix2 (row t r) ⟨5120 + l.val, by omega⟩) := by
  blk_simp [iblk]
  entry_read
  show aPR m c _ = _
  blk_ext [idx t]
theorem blk5 (c : Dev nD) (t : Fin cfg0.N) (r : Fin 512) (k : Fin 1024) :
    (show EReal from iblk m c 5 t (ix2 r k)) = aAT m c (ix2 (row t r) k) := by
  blk_simp [iblk]
  entry_read
  show aAT m c _ = _
  blk_ext [idx t]
theorem blk6 (c : Dev nD) (t : Fin cfg0.N) (r : Fin 512) (k : Fin 1024) :
    (show EReal from iblk m c 6 t (ix2 r k)) = aCV m c (ix2 (row t r) k) := by
  blk_simp [iblk]
  entry_read
  show aCV m c _ = _
  blk_ext [idx t]
theorem blk7 (c : Dev nD) (t : Fin cfg0.N) (r : Fin 512) (k : Fin 1024) :
    (show EReal from iblk m c 7 t (ix2 r k)) = aH1 m c (ix2 (row t r) k) := by
  blk_simp [iblk]
  entry_read
  show aH1 m c _ = _
  blk_ext [idx t]
theorem blk8 (c : Dev nD) (t : Fin cfg0.N) (z : Fin 1) (k : Fin 1024) :
    (show EReal from iblk m c 8 t (ix2 z k)) = aLG m c (ix2 z k) := by
  blk_point [iblk, V, idx t]
theorem blk9 (c : Dev nD) (t : Fin cfg0.N) (z : Fin 1) (k : Fin 1024) :
    (show EReal from iblk m c 9 t (ix2 z k)) = aLB m c (ix2 z k) := by
  blk_point [iblk, V, idx t]
theorem blk10 (c : Dev nD) (t : Fin cfg0.N) (f k : Fin 1024) :
    (show EReal from iblk m c 10 t (ix2 f k)) = aWA m c (ix2 f k) := by
  blk_simp [iblk]
  entry_read
  show aWA m c _ = _
  blk_ext [idx t]
theorem blk11 (c : Dev nD) (t : Fin cfg0.N) (f k : Fin 1024) :
    (show EReal from iblk m c 11 t (ix2 f k)) = aWC m c (ix2 f k) := by
  blk_simp [iblk]
  entry_read
  show aWC m c _ = _
  blk_ext [idx t]
theorem blk12 (c : Dev nD) (t : Fin cfg0.N) (f k : Fin 1024) :
    (show EReal from iblk m c 12 t (ix2 f k)) = aWO m c (ix2 f k) := by
  blk_simp [iblk]
  entry_read
  show aWO m c _ = _
  blk_ext [idx t]

/-- The two strips of each gate's values are the rows of the projected array's columns for that gate. -/
theorem ga_at (c : Dev nD) (t : Fin cfg0.N) (r : Fin 512) (k : Fin 1024) :
    (show EReal from gB (iblk m c 1 t) (iblk m c 2 t) (ix2 r k)) = MixRefIdeal.Work.gaR (aPR m c) (ix2 (row t r) k) := by
  rw [MixRefIdeal.Work.gaR_at]
  pointwise [gB]
  split
  · exact blk1 m c t r _
  · refine (blk2 m c t r _).trans (congrArg (fun q => aPR m c (ix2 (row t r) q)) (Fin.ext ?_))
    simp only []; omega
theorem gc_at (c : Dev nD) (t : Fin cfg0.N) (r : Fin 512) (k : Fin 1024) :
    (show EReal from gB (iblk m c 3 t) (iblk m c 4 t) (ix2 r k)) = MixRefIdeal.Work.gcR (aPR m c) (ix2 (row t r) k) := by
  rw [MixRefIdeal.Work.gcR_at]
  pointwise [gB]
  split
  · refine (blk3 m c t r _).trans (congrArg (fun q => aPR m c (ix2 (row t r) q)) (Fin.ext ?_))
    simp only []; omega
  · refine (blk4 m c t r _).trans (congrArg (fun q => aPR m c (ix2 (row t r) q)) (Fin.ext ?_))
    simp only []; omega

/-- What a point stores: the gradients of the two branches' rows, of the attention before its output weight, of the rows before the norm. -/
def daB (c : Dev nD) (t : Fin cfg0.N) : FVec Ideal S512x1024 .bf16 := k0_pay7 (iblk m c 0 t) (iblk m c 12 t) (iblk m c 1 t) (iblk m c 2 t)
def dcB (c : Dev nD) (t : Fin cfg0.N) : FVec Ideal S512x1024 .f32 := k0_pay8 (iblk m c 0 t) (iblk m c 12 t) (iblk m c 3 t) (iblk m c 4 t)
def doB (c : Dev nD) (t : Fin cfg0.N) : FVec Ideal S512x1024 .bf16 := k0_pay12 (daB m c t) (iblk m c 10 t)
def d3B (c : Dev nD) (t : Fin cfg0.N) : FVec Ideal S512x1024 .f32 := k0_pay13 (dcB m c t) (iblk m c 11 t)
def d2B (c : Dev nD) (t : Fin cfg0.N) : FVec Ideal S512x1024 .f32 := k0_pay17 (d3B m c t) (iblk m c 7 t) (iblk m c 8 t) (iblk m c 9 t)
def dhB (c : Dev nD) (t : Fin cfg0.N) : FVec Ideal S512x1024 .f32 := k0_pay22 (k0_pay15 (iblk m c 7 t)) (k0_pay16 (iblk m c 7 t)) (d2B m c t) (iblk m c 8 t)

/-- The gradients of the two gates' values, and both side by side. -/
def dgaB (c : Dev nD) (t : Fin cfg0.N) : FVec Ideal S512x1024 .bf16 :=
  k0_pay10 (k0_pay4 (iblk m c 0 t) (iblk m c 12 t)) (k0_pay5 (iblk m c 1 t) (iblk m c 2 t)) (iblk m c 5 t)
def dgcB (c : Dev nD) (t : Fin cfg0.N) : FVec Ideal S512x1024 .bf16 :=
  k0_pay11 (k0_pay4 (iblk m c 0 t) (iblk m c 12 t)) (k0_pay6 (iblk m c 3 t) (iblk m c 4 t)) (iblk m c 6 t)
def dgB (c : Dev nD) (t : Fin cfg0.N) : FVec Ideal S512x2048 .bf16 :=
  fun y => if h : (y 1).val < 1024 then dgaB m c t (ix2 (y 0) ⟨(y 1).val, h⟩) else dgcB m c t (ix2 (y 0) ⟨(y 1).val - 1024, by have := (y 1).isLt; simp at this; omega⟩)

end Cert.MixIdeal.Work

end
-- ==== Proof.MixFinal.lean ====
/- The mixing layer's gradient: its eight output arrays, as the reference's gradients of the arguments. -/
module

public import proofs.«01_k».proof.Proof.MixValue

@[expose] public section

set_option maxRecDepth 16384

noncomputable section

namespace Cert.MixIdeal.Work

open Cert.MixIdeal Cert.MixIdeal.Gen Idealize.ShloMosaic Idealize.ShloMosaic.TcCoe Idealize.SL.Sem
open Idealize.ShloMosaic.Pipeline (Dat)
open Scalars (IsR)

variable (m : (ℓ : Loc nD τ sig) → Buf (Elt Ideal) ℓ)

/-- What a point leaves in each output block that it stores once. -/
theorem da_block (c : Dev nD) (t : Fin cfg0.N) : (outsAt0 m c t.val t.isLt).1 = daB m c t := by
  by_cases h0 : t.val % 16 = 0
  · rw [outsAt0_A m c t h0]
    frame_out
    rfl
  · rw [outsAt0_B m c t h0]
    frame_out
    rfl

/-- The same of the second branch. -/
theorem dc_block (c : Dev nD) (t : Fin cfg0.N) : (outsAt0 m c t.val t.isLt).2.1 = k0_pay9 (dcB m c t) := by
  by_cases h0 : t.val % 16 = 0
  · rw [outsAt0_A m c t h0]
    frame_out
    rfl
  · rw [outsAt0_B m c t h0]
    frame_out
    rfl

/-- The same of the attention before its output weight. -/
theorem do_block (c : Dev nD) (t : Fin cfg0.N) : (outsAt0 m c t.val t.isLt).2.2.1 = doB m c t := by
  by_cases h0 : t.val % 16 = 0
  · rw [outsAt0_A m c t h0]
    frame_out
    rfl
  · rw [outsAt0_B m c t h0]
    frame_out
    rfl

/-- The same of the rows before the norm. -/
theorem dh_block (c : Dev nD) (t : Fin cfg0.N) : (outsAt0 m c t.val t.isLt).2.2.2.1 = dhB m c t := by
  by_cases h0 : t.val % 16 = 0
  · rw [outsAt0_A m c t h0]
    frame_out
    rfl
  · rw [outsAt0_B m c t h0]
    frame_out
    rfl

/-- The two strips of the gates' block, read at an index. -/
theorem dg_hi (c : Dev nD) (t : Fin cfg0.N) (y : S512x2048.Idx) (x0 : Fin 512) (x1 : Fin 1024) (h0 : (y 0).val = x0.val) (h1 : (y 1).val = 1024 + x1.val) :
    dgB m c t y = dgcB m c t (ix2 x0 x1) := by
  have e : dgB m c t y = dgcB m c t (ix2 (y 0) ⟨(y 1).val - 1024, by have := x1.isLt; omega⟩) := dif_neg (by omega)
  rw [e]
  exact congrArg (dgcB m c t) (congrArg₂ ix2 (Fin.ext h0) (Fin.ext (by simp only []; omega)))
theorem dg_lo (c : Dev nD) (t : Fin cfg0.N) (y : S512x2048.Idx) (x0 : Fin 512) (x1 : Fin 1024) (h0 : (y 0).val = x0.val) (h1 : (y 1).val = x1.val) :
    dgB m c t y = dgaB m c t (ix2 x0 x1) := by
  have e : dgB m c t y = dgaB m c t (ix2 (y 0) ⟨(y 1).val, by have := x1.isLt; omega⟩) := dif_pos (by have := x1.isLt; omega)
  rw [e]
  exact congrArg (dgaB m c t) (congrArg₂ ix2 (Fin.ext h0) (Fin.ext h1))

/-- The gates' block is stored in two strips. -/
theorem dg_block (c : Dev nD) (t : Fin cfg0.N) : (outsAt0 m c t.val t.isLt).2.2.2.2.1 = dgB m c t := by
  funext y
  by_cases hA : t.val % 16 = 0
  · rw [outsAt0_A m c t hA]
    frame_out
    canon_tiles x h
    · idx_vars x
      exact (dg_hi m c t y x0 x1 h0 h1).symm
    · idx_vars x
      exact (dg_lo m c t y x0 x1 h0 h1).symm
  · rw [outsAt0_B m c t hA]
    frame_out
    canon_tiles x h
    · idx_vars x
      exact (dg_hi m c t y x0 x1 h0 h1).symm
    · idx_vars x
      exact (dg_lo m c t y x0 x1 h0 h1).symm

/-- A point's part of the gradient of the norm's scale. -/
def lgB (c : Dev nD) (t : Fin cfg0.N) : FVec Ideal S1x1024 .f32 := k0_pay19 (d3B m c t) (iblk m c 7 t) (iblk m c 8 t) (iblk m c 9 t)

/-- The gradient of the scale: the first point adds to zero, every later one to what the point before left. -/
theorem lg_A (c : Dev nD) (t : Fin cfg0.N) (h0 : t.val % 16 = 0) : (outsAt0 m c t.val t.isLt).2.2.2.2.2.1 = k0_pay20 (k0_pay18 (k0_pay1 (F := Ideal))) (lgB m c t) := by
  rw [outsAt0_A m c t h0]
  frame_out
  rfl
theorem lg_B (c : Dev nD) (t : Fin cfg0.N) (h0 : ¬ t.val % 16 = 0) :
    (outsAt0 m c t.val t.isLt).2.2.2.2.2.1 = k0_pay20 (k0_pay18 (outsAt0 m c (t.val - 1) (Nat.lt_of_le_of_lt (Nat.sub_le _ _) t.isLt)).2.2.2.2.2.1) (lgB m c t) := by
  conv_lhs => rw [outsAt0_B m c t h0]
  frame_out
  rfl

/-- The same of the shift. -/
theorem lb_A (c : Dev nD) (t : Fin cfg0.N) (h0 : t.val % 16 = 0) : (outsAt0 m c t.val t.isLt).2.2.2.2.2.2.1 = k0_pay21 (d2B m c t) (k0_pay2 (F := Ideal)) := by
  rw [outsAt0_A m c t h0]
  frame_out
  rfl
theorem lb_B (c : Dev nD) (t : Fin cfg0.N) (h0 : ¬ t.val % 16 = 0) :
    (outsAt0 m c t.val t.isLt).2.2.2.2.2.2.1 = k0_pay21 (d2B m c t) (outsAt0 m c (t.val - 1) (Nat.lt_of_le_of_lt (Nat.sub_le _ _) t.isLt)).2.2.2.2.2.2.1 := by
  conv_lhs => rw [outsAt0_B m c t h0]
  frame_out
  rfl

/-- The same of the bias before the norm. -/
theorem bd_A (c : Dev nD) (t : Fin cfg0.N) (h0 : t.val % 16 = 0) : (outsAt0 m c t.val t.isLt).2.2.2.2.2.2.2 = k0_pay23 (k0_pay15 (iblk m c 7 t)) (k0_pay16 (iblk m c 7 t)) (d2B m c t) (iblk m c 8 t) (k0_pay3 (F := Ideal)) := by
  rw [outsAt0_A m c t h0]
  frame_out
  rfl
theorem bd_B (c : Dev nD) (t : Fin cfg0.N) (h0 : ¬ t.val % 16 = 0) :
    (outsAt0 m c t.val t.isLt).2.2.2.2.2.2.2 = k0_pay23 (k0_pay15 (iblk m c 7 t)) (k0_pay16 (iblk m c 7 t)) (d2B m c t) (iblk m c 8 t) (outsAt0 m c (t.val - 1) (Nat.lt_of_le_of_lt (Nat.sub_le _ _) t.isLt)).2.2.2.2.2.2.2 := by
  conv_lhs => rw [outsAt0_B m c t h0]
  frame_out
  rfl

/-- What the precondition gives: the entries of seven arguments are reals. -/
structure Reals (c : Dev nD) : Prop where
  dx : ∀ i, IsR (aDX m c i)
  h : ∀ i, IsR (aH m c i)
  bd : ∀ i, IsR (aBD m c i)
  lg : ∀ i, IsR (aLG m c i)
  lb : ∀ i, IsR (aLB m c i)
  wc : ∀ i, IsR (aWC m c i)
  wo : ∀ i, IsR (aWO m c i)

/-- The reference's gradients, over the arguments. -/
abbrev rDM (c : Dev nD) : FVec Ideal S8192x1024 .f32 := MixRefIdeal.Work.bwdR (aDX m c) (aWO m c)
abbrev rDA (c : Dev nD) : FVec Ideal S8192x1024 .f32 := MixRefIdeal.Work.DA (aDX m c) (aPR m c) (aWO m c)
abbrev rDC (c : Dev nD) : FVec Ideal S8192x1024 .f32 := MixRefIdeal.Work.DC (aDX m c) (aPR m c) (aWO m c)
abbrev rDO (c : Dev nD) : FVec Ideal S8192x1024 .f32 := MixRefIdeal.Work.DO (aDX m c) (aPR m c) (aWA m c) (aWO m c)
abbrev rD3 (c : Dev nD) : FVec Ideal S8192x1024 .f32 := MixRefIdeal.Work.bwdR (rDC m c) (aWC m c)
abbrev rD2 (c : Dev nD) : FVec Ideal S8192x1024 .f32 := MixRefIdeal.Work.D2 (aDX m c) (aPR m c) (aH m c) (aBD m c) (aLG m c) (aLB m c) (aWC m c) (aWO m c)
abbrev rDH (c : Dev nD) : FVec Ideal S8192x1024 .f32 := MixRefIdeal.Work.DH (aDX m c) (aPR m c) (aH m c) (aBD m c) (aLG m c) (aLB m c) (aWC m c) (aWO m c)
abbrev rDG (c : Dev nD) : FVec Ideal S8192x2048 .f32 :=
  MixRefIdeal.Work.DG (aDX m c) (aPR m c) (aO m c) (aH m c) (aBD m c) (aLG m c) (aLB m c) (aWA m c) (aWC m c) (aWO m c)

/-- The gradients on the way are reals when the arguments are. -/
theorem real_bwd {D : FVec Ideal S8192x1024 .f32} {W : FVec Ideal S1024x1024 .f32} (hd : ∀ i, IsR (D i)) (hw : ∀ i, IsR (W i)) (i : S8192x1024.Idx) :
    IsR (MixRefIdeal.Work.bwdR D W i) := by
  idx_vars i
  rw [MixRefIdeal.Work.bwdR_at]
  exact IsR.sum fun l => (hd _).mul (hw _)

variable {m} in
theorem real_dc {c : Dev nD} (hr : Reals m c) (i : S8192x1024.Idx) : IsR (rDC m c i) := by
  idx_vars i
  show IsR (MixRefIdeal.Work.sgR (MixRefIdeal.Work.gcR (aPR m c)) (ix2 i0 i1) * rDM m c (ix2 i0 i1))
  rw [MixRefIdeal.Work.sgR_at]
  exact (Scalars.isR_logistic _).mul (real_bwd hr.dx hr.wo _)

variable {m} in
theorem real_d3 {c : Dev nD} (hr : Reals m c) (i : S8192x1024.Idx) : IsR (rD3 m c i) := real_bwd (real_dc hr) hr.wc i

variable {m} in
theorem real_h1 {c : Dev nD} (hr : Reals m c) (i : S8192x1024.Idx) : IsR (aH1 m c i) := by
  idx_vars i
  exact (congrArg IsR (MixRefIdeal.Work.h1R_at _ _ i0 i1)).mpr ((hr.h _).add (hr.bd _))

variable {m} in
theorem real_d2 {c : Dev nD} (hr : Reals m c) (i : S8192x1024.Idx) : IsR (rD2 m c i) := by
  idx_vars i
  have ha : IsR (aH2 m c (ix2 i0 i1)) :=
    (congrArg IsR (h2_aff _ _ _ i0 i1)).mpr (Scalars.isR_aff (fun k => real_h1 hr _) (fun k => hr.lg _) (fun k => hr.lb _) i1)
  refine (congrArg IsR (MixRefIdeal.Work.dh2R_at _ _ i0 i1)).mpr ?_
  have h1 : IsR 1 := ⟨1, rfl⟩
  exact ((real_d3 hr _).mul (Scalars.isR_logistic _)).add ((ha.mul (real_d3 hr _)).mul ((Scalars.isR_logistic _).mul (h1.sub (Scalars.isR_logistic _))))

/-- What a point stores, row by row. -/
theorem da_at (c : Dev nD) (t : Fin cfg0.N) (r : Fin 512) (k : Fin 1024) : (show EReal from daB m c t (ix2 r k)) = rDA m c (ix2 (row t r) k) :=
  da_row _ _ _ _ _ _ _ r _ (blk0 m c t r) (blk12 m c t) (ga_at m c t r) k
theorem dc_at (c : Dev nD) (t : Fin cfg0.N) (r : Fin 512) (k : Fin 1024) : (show EReal from dcB m c t (ix2 r k)) = rDC m c (ix2 (row t r) k) :=
  dc_row _ _ _ _ _ _ _ r _ (blk0 m c t r) (blk12 m c t) (gc_at m c t r) k
theorem do_at (c : Dev nD) (t : Fin cfg0.N) (r : Fin 512) (k : Fin 1024) : (show EReal from doB m c t (ix2 r k)) = rDO m c (ix2 (row t r) k) :=
  do_row _ _ _ _ r _ (da_at m c t r) (blk10 m c t) k
theorem d3_at (c : Dev nD) (t : Fin cfg0.N) (r : Fin 512) (k : Fin 1024) : (show EReal from d3B m c t (ix2 r k)) = rD3 m c (ix2 (row t r) k) :=
  d3_row _ _ _ _ r _ (dc_at m c t r) (blk11 m c t) k
theorem dga_at (c : Dev nD) (t : Fin cfg0.N) (r : Fin 512) (k : Fin 1024) :
    (show EReal from dgaB m c t (ix2 r k)) = MixRefIdeal.Work.dgtR (rDM m c) (aAT m c) (MixRefIdeal.Work.sgR (MixRefIdeal.Work.gaR (aPR m c))) (ix2 (row t r) k) :=
  dga_row _ _ _ _ _ _ _ _ _ r _ (blk0 m c t r) (blk12 m c t) (ga_at m c t r) (blk5 m c t r) k
theorem dgc_at (c : Dev nD) (t : Fin cfg0.N) (r : Fin 512) (k : Fin 1024) :
    (show EReal from dgcB m c t (ix2 r k)) = MixRefIdeal.Work.dgtR (rDM m c) (aCV m c) (MixRefIdeal.Work.sgR (MixRefIdeal.Work.gcR (aPR m c))) (ix2 (row t r) k) :=
  dgc_row _ _ _ _ _ _ _ _ _ r _ (blk0 m c t r) (blk12 m c t) (gc_at m c t r) (blk6 m c t r) k

variable {m} in
theorem d2_at {c : Dev nD} (hr : Reals m c) (t : Fin cfg0.N) (r : Fin 512) (k : Fin 1024) : (show EReal from d2B m c t (ix2 r k)) = rD2 m c (ix2 (row t r) k) :=
  d2_row _ _ _ _ _ _ _ _ r _ (d3_at m c t r) (blk7 m c t r) (blk8 m c t 0) (blk9 m c t 0) (real_h1 hr) hr.lg hr.lb (real_d3 hr) k
variable {m} in
theorem dh_at {c : Dev nD} (hr : Reals m c) (t : Fin cfg0.N) (r : Fin 512) (k : Fin 1024) : (show EReal from dhB m c t (ix2 r k)) = rDH m c (ix2 (row t r) k) :=
  dh_row _ _ _ _ _ _ r _ (d2_at hr t r) (blk7 m c t r) (blk8 m c t 0) (real_h1 hr) hr.lg (real_d2 hr) k
variable {m} in
theorem lg_at {c : Dev nD} (hr : Reals m c) (t : Fin cfg0.N) (z : Fin 1) (k : Fin 1024) : (show EReal from lgB m c t (ix2 z k))
    = ∑ r : Fin 512, mulf (MixRefIdeal.Work.xnR (MixRefIdeal.Work.xcR (aH1 m c))) (rD2 m c) (ix2 (row t r) k) :=
  (pay19_at _ _ _ _ z k).trans (Finset.sum_congr rfl fun r _ => dlg_row _ _ _ _ r _ k (d2_at hr t r k) (blk7 m c t r))

/-- Window 13: the gradient of the attention branch. -/
theorem final13 (c : Dev nD) : (dats m 0 c).arrAt 13 (cfgs 0).N = truncf .bf16 (rDA m c) bitsLt_bf16_f32 := by
  refine (dats m 0 c).arrAt_eq_of_covers 13 _ (by decide +kernel) fun t hf y => ?_
  blk_simp
  rw [after0_13, da_block]
  idx_vars y
  refine (da_at m c t y0 y1).trans ?_
  show rDA m c _ = rDA m c _
  blk_ext [idx t]

/-- Window 14: the gradient of the convolution branch. -/
theorem final14 (c : Dev nD) : (dats m 0 c).arrAt 14 (cfgs 0).N = truncf .bf16 (rDC m c) bitsLt_bf16_f32 := by
  refine (dats m 0 c).arrAt_eq_of_covers 14 _ (by decide +kernel) fun t hf y => ?_
  blk_simp
  rw [after0_14, dc_block]
  idx_vars y
  refine (pay9_at _ y0 y1).trans ?_
  refine (dc_at m c t y0 y1).trans ?_
  show rDC m c _ = rDC m c _
  blk_ext [idx t]

/-- Window 15: the gradient of the attention's rows before the output weight. -/
theorem final15 (c : Dev nD) : (dats m 0 c).arrAt 15 (cfgs 0).N = truncf .bf16 (rDO m c) bitsLt_bf16_f32 := by
  refine (dats m 0 c).arrAt_eq_of_covers 15 _ (by decide +kernel) fun t hf y => ?_
  blk_simp
  rw [after0_15, do_block]
  idx_vars y
  refine (do_at m c t y0 y1).trans ?_
  show rDO m c _ = rDO m c _
  blk_ext [idx t]

/-- Window 16: the gradient of the rows before the norm. -/
theorem final16 (c : Dev nD) (hr : Reals m c) : (dats m 0 c).arrAt 16 (cfgs 0).N = rDH m c := by
  refine (dats m 0 c).arrAt_eq_of_covers 16 _ (by decide +kernel) fun t hf y => ?_
  blk_simp
  rw [after0_16, dh_block]
  idx_vars y
  refine (dh_at hr t y0 y1).trans (congrArg _ ?_)
  blk_ext [idx t]

/-- Window 17: the gradients of both gates' values, side by side. -/
theorem dg_at (c : Dev nD) (t : Fin cfg0.N) (r : Fin 512) (l : Fin 2048) : (show EReal from dgB m c t (ix2 r l)) = rDG m c (ix2 (row t r) l) := by
  refine Eq.trans ?_ (MixRefIdeal.Work.catR_at _ _ (row t r) l).symm
  by_cases hl : l.val < 1024
  · rw [dif_pos hl]
    exact (dg_lo m c t (ix2 r l) r ⟨l.val, hl⟩ rfl rfl).trans (dga_at m c t r ⟨l.val, hl⟩)
  · rw [dif_neg hl]
    exact (dg_hi m c t (ix2 r l) r ⟨l.val - 1024, by omega⟩ rfl (by show l.val = 1024 + (l.val - 1024); omega)).trans (dgc_at m c t r _)

theorem final17 (c : Dev nD) : (dats m 0 c).arrAt 17 (cfgs 0).N = truncf .bf16 (rDG m c) bitsLt_bf16_f32 := by
  refine (dats m 0 c).arrAt_eq_of_covers 17 _ (by decide +kernel) fun t hf y => ?_
  blk_simp
  rw [after0_17, dg_block]
  idx_vars y
  refine (dg_at m c t y0 y1).trans ?_
  show rDG m c _ = rDG m c _
  blk_ext [idx t]

/-- Window 18: the gradient of the norm's scale, summed over all the rows. -/
theorem final18 (c : Dev nD) (hr : Reals m c) : (dats m 0 c).arrAt 18 (cfgs 0).N = MixRefIdeal.Work.DLG (aDX m c) (aPR m c) (aH m c) (aBD m c) (aLG m c) (aLB m c) (aWC m c) (aWO m c) := by
  refine (dats m 0 c).arrAt_eq_of_after_last 18 t0_15 (by decide +kernel) _ fun j => ?_
  blk_simp
  rw [after0_18, Pipeline.eq_sum_fin_of_reset_step_apply_last (fun n h => (outsAt0 m c n h).2.2.2.2.2.1) 16 (fun _ => (0 : EReal))
    (fun t j => lgB m c t j)
    (fun t h j => by
      refine (congrFun (lg_A m c t h) j).trans ?_
      idx_vars j
      refine (pay20_at _ _ j0 j1).trans ?_
      rw [pay1_at])
    (fun t h j => by
      refine (congrFun (lg_B m c t h) j).trans ?_
      idx_vars j
      exact pay20_at _ _ j0 j1) (le_of_eq N_0) t0_15 rfl j, zero_add]
  idx_vars j
  refine Eq.trans ?_ (MixRefIdeal.Work.colR_at _ j0 j1).symm
  refine (Finset.sum_congr rfl fun p _ => lg_at hr p j0 j1).trans ?_
  exact (Fin.sum_univ_tiles 16 512 rfl fun R : Fin 8192 => mulf (MixRefIdeal.Work.xnR (MixRefIdeal.Work.xcR (aH1 m c))) (rD2 m c) (ix2 R j1)).symm

/-- Window 19: the gradient of the norm's shift, summed over all the rows. -/
theorem final19 (c : Dev nD) (hr : Reals m c) : (dats m 0 c).arrAt 19 (cfgs 0).N = MixRefIdeal.Work.DLB (aDX m c) (aPR m c) (aH m c) (aBD m c) (aLG m c) (aLB m c) (aWC m c) (aWO m c) := by
  refine (dats m 0 c).arrAt_eq_of_after_last 19 t0_15 (by decide +kernel) _ fun j => ?_
  blk_simp
  rw [after0_19, Pipeline.eq_sum_fin_of_reset_step_apply_last (fun n h => (outsAt0 m c n h).2.2.2.2.2.2.1) 16 (fun _ => (0 : EReal))
    (fun t j => ∑ r : Fin 512, d2B m c t (ix2 r (j 1)))
    (fun t h j => by
      refine (congrFun (lb_A m c t h) j).trans ?_
      idx_vars j
      refine (pay21_at _ _ j0 j1).trans ?_
      rw [pay2_at])
    (fun t h j => by
      refine (congrFun (lb_B m c t h) j).trans ?_
      idx_vars j
      exact pay21_at _ _ j0 j1) (le_of_eq N_0) t0_15 rfl j, zero_add]
  idx_vars j
  refine Eq.trans ?_ (MixRefIdeal.Work.colR_at _ j0 j1).symm
  refine (Finset.sum_congr rfl fun p _ => Finset.sum_congr rfl fun r _ => d2_at hr p r j1).trans ?_
  exact (Fin.sum_univ_tiles 16 512 rfl fun R : Fin 8192 => rD2 m c (ix2 R j1)).symm

/-- Window 20: the gradient of the bias before the norm, summed over all the rows. -/
theorem final20 (c : Dev nD) (hr : Reals m c) : (dats m 0 c).arrAt 20 (cfgs 0).N = MixRefIdeal.Work.DBD (aDX m c) (aPR m c) (aH m c) (aBD m c) (aLG m c) (aLB m c) (aWC m c) (aWO m c) := by
  refine (dats m 0 c).arrAt_eq_of_after_last 20 t0_15 (by decide +kernel) _ fun j => ?_
  blk_simp
  rw [after0_20, Pipeline.eq_sum_fin_of_reset_step_apply_last (fun n h => (outsAt0 m c n h).2.2.2.2.2.2.2) 16 (fun _ => (0 : EReal))
    (fun t j => ∑ r : Fin 512, dhB m c t (ix2 r (j 1)))
    (fun t h j => by
      refine (congrFun (bd_A m c t h) j).trans ?_
      idx_vars j
      refine (pay23_at _ _ _ _ _ j0 j1).trans ?_
      rw [pay3_at]
      rfl)
    (fun t h j => by
      refine (congrFun (bd_B m c t h) j).trans ?_
      idx_vars j
      exact pay23_at _ _ _ _ _ j0 j1) (le_of_eq N_0) t0_15 rfl j, zero_add]
  idx_vars j
  refine Eq.trans ?_ (MixRefIdeal.Work.colR_at _ j0 j1).symm
  refine (Finset.sum_congr rfl fun p _ => Finset.sum_congr rfl fun r _ => dh_at hr p r j1).trans ?_
  exact (Fin.sum_univ_tiles 16 512 rfl fun R : Fin 8192 => rDH m c (ix2 R j1)).symm

end Cert.MixIdeal.Work

end
-- ==== Proof.MixPre.lean ====
/- What the precondition of the mixing layer's gradient says: the entries of seven of its arguments are real numbers. -/
module

public import proofs.«01_k».proof.Pre_mix_finite
public import proofs.«01_k».proof.Proof.Gen.Pre_mix_finite
public import proofs.«01_k».proof.Proof.MixScalars
public import Idealize.ShloMosaic.Lib.ReduceAll

@[expose] public section

noncomputable section

namespace Cert.Pre_mix_finite.Work

open Cert.Pre_mix_finite Idealize.ShloMosaic Cert.Scalars

instance : Subsingleton S_.Idx := ⟨fun a b => funext fun i => i.elim0⟩

/-- A truth value whose bit is one is true. -/
theorem bit_true {b : Bool} (h : BitVec.ofBool b = 1#1) : b = true := by
  cases b
  · exact absurd h (by decide)
  · rfl

/-- The constant infinity. -/
theorem top_f32 : Ideal.ofBits .f32 0x7F800000#32 = ⊤ := by simp [Ideal.ofBits, Ideal.ieee]

/-- An array whose entries all compare, in absolute value, below infinity has real entries. -/
theorem real_of_all {s : Shape} (x : FVec Ideal s .f32) (hb : S_.BroadcastsInDim s (![] : Fin 0 → Fin s.rank)) {axes : List (Fin s.rank)}
    (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : IsR (x i) := by
  have h1 := Host.reduce_andi_all _ _ h hu j e i
  have h2 : Ideal.cmp .olt (max (x i) (-(x i))) (Ideal.ofBits .f32 0x7F800000#32) = 1#1 := h1
  refine isR_of_abs_lt (show max (x i) (-(x i)) < ⊤ from ?_)
  rw [top_f32] at h2
  exact of_decide_eq_true (bit_true h2)

variable (a0 : FVec Ideal S8192x1024 .f32) (a1 : FVec Ideal S8192x5632 .f32) (a2 a3 : FVec Ideal S8192x1024 .f32) (a4 a5 a6 : FVec Ideal S1x1024 .f32)
  (a7 a8 a9 : FVec Ideal S1024x1024 .f32)

/-- The precondition, read entry by entry. -/
theorem real [Facts] (h : fn (F := Ideal) a0 a1 a2 a3 a4 a5 a6 a7 a8 a9 = fun _ => 1#1) :
    (∀ i, IsR (a0 i)) ∧ (∀ i, IsR (a3 i)) ∧ (∀ i, IsR (a4 i)) ∧ (∀ i, IsR (a5 i)) ∧ (∀ i, IsR (a6 i)) ∧ (∀ i, IsR (a8 i)) ∧ ∀ i, IsR (a9 i) := by
  have h0 := congrFun h (Shape.Idx.first Facts.h_S_)
  dsimp only [fn, fn_part1] at h0
  obtain ⟨h1, r9⟩ := IntOp.andi_eq_one.1 h0
  obtain ⟨h2, r8⟩ := IntOp.andi_eq_one.1 h1
  obtain ⟨h3, r6⟩ := IntOp.andi_eq_one.1 h2
  obtain ⟨h4, r5⟩ := IntOp.andi_eq_one.1 h3
  obtain ⟨h5, r4⟩ := IntOp.andi_eq_one.1 h4
  obtain ⟨r0, r3⟩ := IntOp.andi_eq_one.1 h5
  exact ⟨real_of_all _ _ _ _ _ r0, real_of_all _ _ _ _ _ r3, real_of_all _ _ _ _ _ r4, real_of_all _ _ _ _ _ r5, real_of_all _ _ _ _ _ r6,
    real_of_all _ _ _ _ _ r8, real_of_all _ _ _ _ _ r9⟩

end Cert.Pre_mix_finite.Work

end
-- ==== Proof.MixClaim.lean ====
/- The claim that the mixing layer's gradient and its reference compute the same results. -/
module

public import proofs.«01_k».proof.Defs
public import proofs.«01_k».proof.Proof.MixFinal
public import proofs.«01_k».proof.Proof.MixPre
public import Idealize.ShloMosaic.Lib.Claim

@[expose] public section

set_option maxRecDepth 16384

noncomputable section

namespace Cert.Proof

open Idealize.ShloMosaic Idealize.ShloMosaic.TcCoe Idealize.SL.Sem

set_option maxHeartbeats 2000000 in
/-- The mixing layer's gradient computes its reference's eight results, at arguments seven of which have real entries. -/
theorem mix_algebraic : @Cert.algebraic_MixIdeal_MixRefIdeal_pre_mix_finite Cert.MixIdeal.Gen.facts Cert.MixRefIdeal.Gen.facts Cert.Pre_mix_finite.Gen.facts := by
  intro m g m' g' hpre hagree
  have hR : ∀ c, Cert.MixIdeal.Work.Reals m c := by
    intro c
    obtain ⟨p0, p3, p4, p5, p6, p8, p9⟩ := @Cert.Pre_mix_finite.Work.real _ _ _ _ _ _ _ _ _ _ Cert.Pre_mix_finite.Gen.facts (hpre c)
    exact ⟨p0, p3, p4, p5, p6, p8, p9⟩
  refine ⟨fun c => truncf .bf16 (Cert.MixRefIdeal.Work.DA (Cert.MixIdeal.Work.aDX m c) (Cert.MixIdeal.Work.aPR m c) (Cert.MixIdeal.Work.aWO m c)) Cert.MixRefIdeal.Gen.bitsLt_bf16_f32,
    fun c => truncf .bf16 (Cert.MixRefIdeal.Work.DC (Cert.MixIdeal.Work.aDX m c) (Cert.MixIdeal.Work.aPR m c) (Cert.MixIdeal.Work.aWO m c)) Cert.MixRefIdeal.Gen.bitsLt_bf16_f32,
    fun c => truncf .bf16 (Cert.MixRefIdeal.Work.DO (Cert.MixIdeal.Work.aDX m c) (Cert.MixIdeal.Work.aPR m c) (Cert.MixIdeal.Work.aWA m c) (Cert.MixIdeal.Work.aWO m c)) Cert.MixRefIdeal.Gen.bitsLt_bf16_f32,
    fun c => Cert.MixRefIdeal.Work.DH (Cert.MixIdeal.Work.aDX m c) (Cert.MixIdeal.Work.aPR m c) (Cert.MixIdeal.Work.aH m c) (Cert.MixIdeal.Work.aBD m c) (Cert.MixIdeal.Work.aLG m c) (Cert.MixIdeal.Work.aLB m c) (Cert.MixIdeal.Work.aWC m c) (Cert.MixIdeal.Work.aWO m c),
    fun c => truncf .bf16 (Cert.MixRefIdeal.Work.DG (Cert.MixIdeal.Work.aDX m c) (Cert.MixIdeal.Work.aPR m c) (Cert.MixIdeal.Work.aO m c) (Cert.MixIdeal.Work.aH m c) (Cert.MixIdeal.Work.aBD m c) (Cert.MixIdeal.Work.aLG m c) (Cert.MixIdeal.Work.aLB m c) (Cert.MixIdeal.Work.aWA m c) (Cert.MixIdeal.Work.aWC m c) (Cert.MixIdeal.Work.aWO m c)) Cert.MixRefIdeal.Gen.bitsLt_bf16_f32,
    fun c => Cert.MixRefIdeal.Work.DLG (Cert.MixIdeal.Work.aDX m c) (Cert.MixIdeal.Work.aPR m c) (Cert.MixIdeal.Work.aH m c) (Cert.MixIdeal.Work.aBD m c) (Cert.MixIdeal.Work.aLG m c) (Cert.MixIdeal.Work.aLB m c) (Cert.MixIdeal.Work.aWC m c) (Cert.MixIdeal.Work.aWO m c),
    fun c => Cert.MixRefIdeal.Work.DLB (Cert.MixIdeal.Work.aDX m c) (Cert.MixIdeal.Work.aPR m c) (Cert.MixIdeal.Work.aH m c) (Cert.MixIdeal.Work.aBD m c) (Cert.MixIdeal.Work.aLG m c) (Cert.MixIdeal.Work.aLB m c) (Cert.MixIdeal.Work.aWC m c) (Cert.MixIdeal.Work.aWO m c),
    fun c => Cert.MixRefIdeal.Work.DBD (Cert.MixIdeal.Work.aDX m c) (Cert.MixIdeal.Work.aPR m c) (Cert.MixIdeal.Work.aH m c) (Cert.MixIdeal.Work.aBD m c) (Cert.MixIdeal.Work.aLG m c) (Cert.MixIdeal.Work.aLB m c) (Cert.MixIdeal.Work.aWC m c) (Cert.MixIdeal.Work.aWO m c),
    ?_, ?_⟩
  · refine (θ_run Cert.MixIdeal.defs _ _).mono ?_ (θ_run_and (Cert.MixIdeal.Gen.run_main m g) (Cert.MixIdeal.Gen.unchanged m g))
    rintro r ⟨h, hk⟩ c
    exact ⟨((h c).1 13).trans (Cert.MixIdeal.Work.final13 m c),
      ((h c).1 14).trans (Cert.MixIdeal.Work.final14 m c),
      ((h c).1 15).trans (Cert.MixIdeal.Work.final15 m c),
      ((h c).1 16).trans (Cert.MixIdeal.Work.final16 m c (hR c)),
      ((h c).1 17).trans (Cert.MixIdeal.Work.final17 m c),
      ((h c).1 18).trans (Cert.MixIdeal.Work.final18 m c (hR c)),
      ((h c).1 19).trans (Cert.MixIdeal.Work.final19 m c (hR c)),
      ((h c).1 20).trans (Cert.MixIdeal.Work.final20 m c (hR c)),
      hk c⟩
  · refine (θ_run Cert.MixRefIdeal.defs _ _).mono ?_ (Cert.MixRefIdeal.Work.run_named m' g')
    intro r h c
    obtain ⟨h0, h1, h2, h3, h4, h5, h6, h7, hk⟩ := h c
    obtain ⟨e0, e1, e2, e3, e4, e5, e6, e7, e8, e9⟩ := hagree c
    exact ⟨(h0).trans (Scalars.congr3 (fun a b c => truncf .bf16 (Cert.MixRefIdeal.Work.DA a b c) Cert.MixRefIdeal.Gen.bitsLt_bf16_f32) e0 e1 e9),
      (h1).trans (Scalars.congr3 (fun a b c => truncf .bf16 (Cert.MixRefIdeal.Work.DC a b c) Cert.MixRefIdeal.Gen.bitsLt_bf16_f32) e0 e1 e9),
      (h2).trans (Scalars.congr4 (fun a b c d => truncf .bf16 (Cert.MixRefIdeal.Work.DO a b c d) Cert.MixRefIdeal.Gen.bitsLt_bf16_f32) e0 e1 e7 e9),
      (h3).trans (Scalars.congr8 Cert.MixRefIdeal.Work.DH e0 e1 e3 e4 e5 e6 e8 e9),
      (h4).trans (Scalars.congr10 (fun a b c d e f g h i j => truncf .bf16 (Cert.MixRefIdeal.Work.DG a b c d e f g h i j) Cert.MixRefIdeal.Gen.bitsLt_bf16_f32) e0 e1 e2 e3 e4 e5 e6 e7 e8 e9),
      (h5).trans (Scalars.congr8 Cert.MixRefIdeal.Work.DLG e0 e1 e3 e4 e5 e6 e8 e9),
      (h6).trans (Scalars.congr8 Cert.MixRefIdeal.Work.DLB e0 e1 e3 e4 e5 e6 e8 e9),
      (h7).trans (Scalars.congr8 Cert.MixRefIdeal.Work.DBD e0 e1 e3 e4 e5 e6 e8 e9),
      hk⟩

end Cert.Proof

end
-- ==== Proof.FfnPure.lean ====
/- What the body of the feed-forward gradient stores, read at an index, over blocks that are variables. -/
module

public import proofs.«01_k».proof.Proof.Gen.FfnIdeal.Skeleton
public import proofs.«01_k».proof.Proof.Scalars
public import Idealize.ShloMosaic.Lib.Pointwise

@[expose] public section

set_option maxRecDepth 16384

noncomputable section

namespace Cert.FfnIdeal.Work

open Cert.FfnIdeal Cert.FfnIdeal.Gen Idealize.ShloMosaic Idealize.ShloMosaic.TcCoe Idealize.SL.Sem

/-- The gradient of the hidden values of a block of rows, from the blocks of the gradient, of the hidden values and the second weight. -/
def daB (B1 : FVec Ideal S512x1024 .bf16) (B2 : FVec Ideal S512x4096 .bf16) (B6 : FVec Ideal S4096x1024 .bf16) : FVec Ideal S512x4096 .bf16 :=
  fun y => (∑ k : Fin 1024, B1 (ix2 (y 0) k) * B6 (ix2 (y 1) k)) * (Ideal.ofBits .f32 0x40000000#32 * max (B2 y) 0)

variable (B1 W : FVec Ideal S512x1024 .bf16) (V : FVec Ideal S512x512 .bf16) (D : FVec Ideal S512x4096 .bf16) (B5 : FVec Ideal S4096x1024 .bf16)
  (X DY : FVec Ideal S512x1024 .f32) (G P Q : FVec Ideal S1x1024 .f32)

/-- One column strip of the gradient of the hidden values, as the first two stores compute it. -/
theorem strip6 (r l : Fin 512) : k0_pay6 B1 W V (ix2 r l)
    = (∑ k : Fin 1024, B1 (ix2 r k) * W (ix2 l k)) * (Ideal.ofBits .f32 0x40000000#32 * max (V (ix2 r l)) 0) := by
  pointwise [k0_pay6, k0_pay5]
theorem strip7 (r l : Fin 512) : k0_pay7 B1 W V (ix2 r l)
    = (∑ k : Fin 1024, B1 (ix2 r k) * W (ix2 l k)) * (Ideal.ofBits .f32 0x40000000#32 * max (V (ix2 r l)) 0) := by
  pointwise [k0_pay7, k0_pay5]
theorem strip8 (r l : Fin 512) : k0_pay8 (k0_pay5 B1) W V (ix2 r l)
    = (∑ k : Fin 1024, B1 (ix2 r k) * W (ix2 l k)) * (Ideal.ofBits .f32 0x40000000#32 * max (V (ix2 r l)) 0) := by
  pointwise [k0_pay8, k0_pay5]
theorem strip9 (r l : Fin 512) : k0_pay9 (k0_pay5 B1) W V (ix2 r l)
    = (∑ k : Fin 1024, B1 (ix2 r k) * W (ix2 l k)) * (Ideal.ofBits .f32 0x40000000#32 * max (V (ix2 r l)) 0) := by
  pointwise [k0_pay9, k0_pay5]
theorem strip12 (r l : Fin 512) : k0_pay12 (k0_pay10 (k0_pay5 B1) W) (k0_pay11 V) (ix2 r l)
    = (∑ k : Fin 1024, B1 (ix2 r k) * W (ix2 l k)) * (Ideal.ofBits .f32 0x40000000#32 * max (V (ix2 r l)) 0) := by
  pointwise [k0_pay12, k0_pay11, k0_pay10, k0_pay5]
theorem strip13 (r l : Fin 512) : k0_pay13 (k0_pay5 B1) W V (ix2 r l)
    = (∑ k : Fin 1024, B1 (ix2 r k) * W (ix2 l k)) * (Ideal.ofBits .f32 0x40000000#32 * max (V (ix2 r l)) 0) := by
  pointwise [k0_pay13, k0_pay5]
theorem strip14 (r l : Fin 512) : k0_pay14 (k0_pay5 B1) W V (ix2 r l)
    = (∑ k : Fin 1024, B1 (ix2 r k) * W (ix2 l k)) * (Ideal.ofBits .f32 0x40000000#32 * max (V (ix2 r l)) 0) := by
  pointwise [k0_pay14, k0_pay5]
theorem strip16 (r l : Fin 512) : k0_pay16 (k0_pay15 (k0_pay5 B1) W) V (ix2 r l)
    = (∑ k : Fin 1024, B1 (ix2 r k) * W (ix2 l k)) * (Ideal.ofBits .f32 0x40000000#32 * max (V (ix2 r l)) 0) := by
  pointwise [k0_pay16, k0_pay15, k0_pay5]

/-- The product with the first weight. -/
def duB : FVec Ideal S512x1024 .f32 := fun y => ∑ f : Fin 4096, D (ix2 (y 0) f) * B5 (ix2 f (y 1))

/-- The block's gradient of the rows before the norm, added to the gradient that passes by. -/
theorem pay1_at (r : Fin 512) (j : Fin 1024) : k0_pay1 (k0_pay18 X) (k0_pay21 D B5 X G) DY (ix2 r j)
    = DY (ix2 r j) + (Scalars.rs fun k => X (ix2 r k)) * (duB D B5 (ix2 r j) * G (ix2 0 j) - X (ix2 r j) * (Scalars.rs fun k => X (ix2 r k))
        * Ideal.div (∑ k, duB D B5 (ix2 r k) * G (ix2 0 k) * (X (ix2 r k) * Scalars.rs fun k => X (ix2 r k))) (Ideal.ofBits .f32 0x44800000#32)) := by
  pointwise [k0_pay1, k0_pay21, k0_pay19, k0_pay18, k0_pay17, duB]
  rfl

/-- The same, stored once more in the narrower format. -/
theorem pay2_at (R : FVec Ideal S512x1 .f32) (r : Fin 512) (j : Fin 1024) :
    (show EReal from k0_pay2 (F := Ideal) R X DY (ix2 r j)) = k0_pay1 (F := Ideal) R X DY (ix2 r j) := by
  pointwise [k0_pay2]

/-- The block's part of the gradient of the norm's scale. -/
theorem pay20_at (z : Fin 1) (j : Fin 1024) : k0_pay20 D B5 X (ix2 z j)
    = ∑ r : Fin 512, X (ix2 r j) * (Scalars.rs fun k => X (ix2 r k)) * duB D B5 (ix2 r j) := by
  pointwise [k0_pay20, k0_pay19, k0_pay18, k0_pay17, duB]
  exact Finset.sum_congr rfl fun r _ => mul_comm _ _

/-- The running sum of the scale's gradient: what is there plus the block's part. -/
theorem pay3_at (z : Fin 1) (j : Fin 1024) : k0_pay3 P Q (ix2 z j) = Q (ix2 z j) + P (ix2 z j) := by
  pointwise [k0_pay3]

/-- The running sum starts at zero. -/
theorem pay4_at (y : S1x1024.Idx) : k0_pay4 (F := Ideal) y = 0 := by
  pointwise [k0_pay4]

end Cert.FfnIdeal.Work

end
-- ==== Proof.FfnRef.lean ====
/- The reference of the feed-forward gradient, cut into the stages its mathematics has, and each stage read at an index. -/
module

public import proofs.«01_k».proof.Proof.Gen.FfnRefIdeal.Run
public import proofs.«01_k».proof.Proof.Scalars
public import Idealize.ShloMosaic.Lib.Pointwise

@[expose] public section

set_option maxRecDepth 16384

noncomputable section

namespace Cert.FfnRefIdeal.Work

open Cert.FfnRefIdeal Cert.FfnRefIdeal.Gen Idealize.ShloMosaic Idealize.ShloMosaic.TcCoe Idealize.SL.Sem

/-- The mean of the squares of each row plus the small constant. -/
def msR (X : FVec Ideal S8192x1024 .f32) : FVec Ideal S8192x1 .f32 :=
  addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The normalised rows. -/
def xnR (X : FVec Ideal S8192x1024 .f32) : FVec Ideal S8192x1024 .f32 :=
  mulf X (broadcastInDim S8192x1024 ![0, 1] bcast_S8192x1_S8192x1024_0_1 (Host.rsqrt (msR X)))

/-- The feed-forward hidden values before the square of the positive part. -/
def aR (X : FVec Ideal S8192x1024 .f32) (G : FVec Ideal S1x1024 .f32) (W1 : FVec Ideal S1024x4096 .f32) : FVec Ideal S8192x4096 .f32 :=
  Host.dotGeneral dot_S8192x1024_S1024x4096_S8192x4096_1_0_0_1_n_n none (mulf (xnR X) (broadcastInDim S8192x1024 ![0, 1] bcast_S1x1024_S8192x1024_0_1 G)) W1

/-- The gradient of the hidden values. -/
def daR (DY : FVec Ideal S8192x1024 .f32) (W2 : FVec Ideal S4096x1024 .f32) (A : FVec Ideal S8192x4096 .f32) : FVec Ideal S8192x4096 .f32 :=
  select (cmpf .ogt A (broadcastInDim S8192x4096 ![] bcast_S_S8192x4096 (constant S_ .f32 0x00000000#32))) (mulf (Host.dotGeneral dot_S8192x1024_S4096x1024_S8192x4096_1_1_0_0_n_n none (shapeCast _ DY shapeCasts_S8192x1024_S8192x1024) W2) (mulf (broadcastInDim S8192x4096 ![] bcast_S_S8192x4096 (constant S_ .f32 0x40000000#32)) (maximumf A (broadcastInDim S8192x4096 ![] bcast_S_S8192x4096 (constant S_ .f32 0x00000000#32))))) (broadcastInDim S8192x4096 ![] bcast_S_S8192x4096 (constant S_ .f32 0x00000000#32))

/-- The gradient of the first product's rows, through its weight. -/
def duR (DA : FVec Ideal S8192x4096 .f32) (W1 : FVec Ideal S1024x4096 .f32) : FVec Ideal S8192x1024 .f32 :=
  Host.dotGeneral dot_S8192x4096_S1024x4096_S8192x1024_1_1_0_0_n_n none DA W1

/-- The gradient of the norm's scale. -/
def dgR (X DU : FVec Ideal S8192x1024 .f32) : FVec Ideal S1x1024 .f32 :=
  shapeCast _ (Host.reduceAdd (mulf (xnR X) DU) (constant S_ .f32 0x00000000#32) reducesTo_S8192x1024_S1024_d0 h_S_) shapeCasts_S1024_S1x1024

/-- The gradient of the normalised rows. -/
def dxnR (DU : FVec Ideal S8192x1024 .f32) (G : FVec Ideal S1x1024 .f32) : FVec Ideal S8192x1024 .f32 :=
  mulf DU (broadcastInDim S8192x1024 ![0, 1] bcast_S1x1024_S8192x1024_0_1 G)

/-- What the gradient of the mean of the squares gives each element of a row, over the element. -/
def bR (X DX : FVec Ideal S8192x1024 .f32) : FVec Ideal S8192x1024 .f32 :=
  broadcastInDim S8192x1024 ![0] bcast_S8192_S8192x1024_0 (Host.reduceAdd (Host.divf (mulf (shapeCast _ (Host.reduceAdd (mulf X DX) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msR X)) (msR X)))) (broadcastInDim S8192x1 ![] bcast_S_S8192x1 (constant S_ .f32 0x44800000#32))) (constant S_ .f32 0x00000000#32) reducesTo_S8192x1_S8192_d1 h_S_)

/-- The gradient of the rows before the norm, added to the gradient that passes by. -/
def dx1R (DY X DX : FVec Ideal S8192x1024 .f32) : FVec Ideal S8192x1024 .f32 :=
  addf DY (addf (addf (mulf DX (broadcastInDim S8192x1024 ![0, 1] bcast_S8192x1_S8192x1024_0_1 (Host.rsqrt (msR X)))) (mulf X (bR X DX))) (mulf (bR X DX) X))

section
variable (m : (ℓ : Loc nD τ sig) → Buf (Elt Ideal) ℓ) (c : Dev nD)

/-- The reference's arguments: the incoming gradient, the rows before the norm, the norm's scale and the two weights. -/
abbrev aDY : FVec Ideal S8192x1024 .f32 := m ((c.tc : Thread nD τ).loc main_arg0)
abbrev aX : FVec Ideal S8192x1024 .f32 := m ((c.tc : Thread nD τ).loc main_arg1)
abbrev aG : FVec Ideal S1x1024 .f32 := m ((c.tc : Thread nD τ).loc main_arg2)
abbrev aW1 : FVec Ideal S1024x4096 .f32 := m ((c.tc : Thread nD τ).loc main_arg3)
abbrev aW2 : FVec Ideal S4096x1024 .f32 := m ((c.tc : Thread nD τ).loc main_arg4)

end

section
variable (DY X : FVec Ideal S8192x1024 .f32) (G : FVec Ideal S1x1024 .f32) (W1 : FVec Ideal S1024x4096 .f32) (W2 : FVec Ideal S4096x1024 .f32)

/-- The reference's gradients, over its arguments. -/
def DA : FVec Ideal S8192x4096 .f32 := daR DY W2 (aR X G W1)
def DU : FVec Ideal S8192x1024 .f32 := duR (DA DY X G W1 W2) W1
def DX1 : FVec Ideal S8192x1024 .f32 := dx1R DY X (dxnR (DU DY X G W1 W2) G)
def DG : FVec Ideal S1x1024 .f32 := dgR X (DU DY X G W1 W2)

end

set_option maxHeartbeats 800000 in
/-- The reference's run, its four results by their stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = truncf .bf16 (DA (aDY m c) (aX m c) (aG m c) (aW1 m c) (aW2 m c)) bitsLt_bf16_f32
      ∧ r.2.mem ((c.tc : Thread nD τ).loc main_v50) = DX1 (aDY m c) (aX m c) (aG m c) (aW1 m c) (aW2 m c)
      ∧ r.2.mem ((c.tc : Thread nD τ).loc main_v52) = truncf .bf16 (DX1 (aDY m c) (aX m c) (aG m c) (aW1 m c) (aW2 m c)) bitsLt_bf16_f32
      ∧ r.2.mem ((c.tc : Thread nD τ).loc main_v33) = DG (aDY m c) (aX m c) (aG m c) (aW1 m c) (aW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, hk⟩ := h c
  refine ⟨h0.trans ?_, h1.trans ?_, h2.trans ?_, h3.trans ?_, hk⟩
  · delta DA daR aR xnR msR; rfl
  · delta Value.res_main_v50 DX1 DU DA dx1R dxnR duR daR bR aR xnR msR; rfl
  · delta Value.res_main_v52 DX1 DU DA dx1R dxnR duR daR bR aR xnR msR; rfl
  · delta DG DU DA dgR duR daR aR xnR msR; rfl

variable (DY X DU DX : FVec Ideal S8192x1024 .f32) (G : FVec Ideal S1x1024 .f32) (W1 : FVec Ideal S1024x4096 .f32)
  (W2 : FVec Ideal S4096x1024 .f32) (A DA : FVec Ideal S8192x4096 .f32)

/-- The mean of the squares, read at a row. -/
theorem msR_at (r : Fin 8192) (z : Fin 1) : msR X (ix2 r z) = Scalars.ms fun k => X (ix2 r k) := by
  pointwise [msR, Scalars.ms]

/-- The reciprocal root, read at a row. -/
theorem rsR_at (r : Fin 8192) (z : Fin 1) : Host.rsqrt (msR X) (ix2 r z) = Scalars.rs fun k => X (ix2 r k) :=
  congrArg Ideal.rsqrt (msR_at X r z)

/-- The normalised rows, read at an index. -/
theorem xnR_at (r : Fin 8192) (k : Fin 1024) : xnR X (ix2 r k) = X (ix2 r k) * Scalars.rs fun k => X (ix2 r k) := by
  pointwise [xnR, msR_at]
  rfl

/-- The gradient of the hidden values, read at an index: the test may be dropped. -/
theorem daR_at (r : Fin 8192) (f : Fin 4096) : daR DY W2 A (ix2 r f)
    = (∑ k, DY (ix2 r k) * W2 (ix2 f k)) * (Ideal.ofBits .f32 0x40000000#32 * max (A (ix2 r f)) 0) := by
  rw [Scalars.relu_sel]
  pointwise [daR]

/-- The gradient of the first product's rows, read at an index. -/
theorem duR_at (r : Fin 8192) (k : Fin 1024) : duR DA W1 (ix2 r k) = ∑ f, DA (ix2 r f) * W1 (ix2 k f) := by
  pointwise [duR]

/-- The gradient of the norm's scale, read at an index. -/
theorem dgR_at (z : Fin 1) (k : Fin 1024) : dgR X DU (ix2 z k) = ∑ r : Fin 8192, X (ix2 r k) * Scalars.rs (fun l => X (ix2 r l)) * DU (ix2 r k) := by
  pointwise [dgR, xnR_at]

/-- The gradient of the normalised rows, read at an index. -/
theorem dxnR_at (r : Fin 8192) (k : Fin 1024) : dxnR DU G (ix2 r k) = DU (ix2 r k) * G (ix2 0 k) := by
  pointwise [dxnR]

/-- The gradient of the rows before the norm: the kernel's form of it, at every extended real. -/
theorem dx1R_at (r : Fin 8192) (j : Fin 1024) : dx1R DY X DX (ix2 r j)
    = DY (ix2 r j) + (Scalars.rs fun k => X (ix2 r k)) * (DX (ix2 r j) - X (ix2 r j) * (Scalars.rs fun k => X (ix2 r k))
        * Ideal.div (∑ k, DX (ix2 r k) * (X (ix2 r k) * Scalars.rs fun k => X (ix2 r k))) (Ideal.ofBits .f32 0x44800000#32)) := by
  rw [Scalars.rms_bwd (fun k => X (ix2 r k)) (fun k => DX (ix2 r k)) j]
  pointwise [dx1R, bR, msR_at]
  simp only [Finset.univ_unique, Finset.sum_singleton]
  rfl

end Cert.FfnRefIdeal.Work

end
-- ==== Proof.FfnValue.lean ====
/- What the feed-forward gradient's four output arrays hold after the run. -/
module

public import proofs.«01_k».proof.Proof.Gen.FfnIdeal.Value
public import proofs.«01_k».proof.Proof.FfnPure
public import proofs.«01_k».proof.Proof.FfnRef
public import Idealize.ShloMosaic.Lib.Pipeline.ValueKit
public import Idealize.ShloMosaic.Lib.Claim

@[expose] public section

set_option maxRecDepth 16384

noncomputable section

namespace Cert.FfnIdeal.Work

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- A row of a block's hidden values' gradient is the row of the whole gradient, when the rows they are computed from agree. -/
theorem da_row (B1 : FVec Ideal S512x1024 .bf16) (B2 : FVec Ideal S512x4096 .bf16) (B6 : FVec Ideal S4096x1024 .bf16)
    (DY : FVec Ideal S8192x1024 .f32) (W2 : FVec Ideal S4096x1024 .f32) (A : FVec Ideal S8192x4096 .f32) (r : Fin 512) (R : Fin 8192)
    (e1 : ∀ k, B1 (ix2 r k) = DY (ix2 R k)) (e2 : ∀ f, B2 (ix2 r f) = A (ix2 R f)) (e6 : ∀ f k, B6 (ix2 f k) = W2 (ix2 f k)) (f : Fin 4096) :
    daB B1 B2 B6 (ix2 r f) = FfnRefIdeal.Work.daR DY W2 A (ix2 R f) := by
  rw [FfnRefIdeal.Work.daR_at, ← e2]
  refine Ideal.mul_congr (Finset.sum_congr rfl fun k _ => ?_) rfl
  exact Ideal.mul_congr (e1 k) (e6 f k)

/-- The same of the product with the first weight. -/
theorem du_row (D : FVec Ideal S512x4096 .bf16) (B5 : FVec Ideal S4096x1024 .bf16) (DA : FVec Ideal S8192x4096 .f32) (W1 : FVec Ideal S1024x4096 .f32)
    (r : Fin 512) (R : Fin 8192) (ed : ∀ f, D (ix2 r f) = DA (ix2 R f)) (e5 : ∀ f k, B5 (ix2 f k) = W1 (ix2 k f)) (k : Fin 1024) :
    duB D B5 (ix2 r k) = FfnRefIdeal.Work.duR DA W1 (ix2 R k) := by
  rw [FfnRefIdeal.Work.duR_at]
  exact Finset.sum_congr rfl fun f _ => Ideal.mul_congr (ed f) (e5 f k)

/-- The same of the gradient of the rows before the norm. -/
theorem dx_row (D : FVec Ideal S512x4096 .bf16) (B5 : FVec Ideal S4096x1024 .bf16) (X' DY' : FVec Ideal S512x1024 .f32) (G' : FVec Ideal S1x1024 .f32)
    (X DY DU : FVec Ideal S8192x1024 .f32) (G : FVec Ideal S1x1024 .f32) (r : Fin 512) (R : Fin 8192)
    (eu : ∀ k, duB D B5 (ix2 r k) = DU (ix2 R k)) (ex : ∀ k, X' (ix2 r k) = X (ix2 R k)) (ey : ∀ k, DY' (ix2 r k) = DY (ix2 R k))
    (eg : ∀ k, G' (ix2 0 k) = G (ix2 0 k)) (j : Fin 1024) :
    k0_pay1 (k0_pay18 X') (k0_pay21 D B5 X' G') DY' (ix2 r j) = FfnRefIdeal.Work.dx1R DY X (FfnRefIdeal.Work.dxnR DU G) (ix2 R j) := by
  rw [pay1_at, FfnRefIdeal.Work.dx1R_at]
  simp only [eu, ex, ey, eg, FfnRefIdeal.Work.dxnR_at]

/-- The same of one row's part of the gradient of the norm's scale. -/
theorem dg_row (D : FVec Ideal S512x4096 .bf16) (B5 : FVec Ideal S4096x1024 .bf16) (X' : FVec Ideal S512x1024 .f32)
    (X DU : FVec Ideal S8192x1024 .f32) (r : Fin 512) (R : Fin 8192)
    (eu : ∀ k, duB D B5 (ix2 r k) = DU (ix2 R k)) (ex : ∀ k, X' (ix2 r k) = X (ix2 R k)) (j : Fin 1024) :
    X' (ix2 r j) * (Scalars.rs fun k => X' (ix2 r k)) * duB D B5 (ix2 r j)
      = X (ix2 R j) * (Scalars.rs fun k => X (ix2 R k)) * DU (ix2 R j) := by
  simp only [eu, ex]

/-- Where each block lies: blocks of 512 rows, and the whole arrays of the weights, of the scale and of its gradient. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0] :=
  (by decide +kernel : ∀ t : Fin grid0.N, _)

/-- The arguments: the incoming gradient, the rows before the norm, the norm's scale and the two weights. -/
abbrev aDY (c : Dev nD) : FVec Ideal S8192x1024 .f32 := m ((c : Thread nD τ).loc main_arg0)
abbrev aX (c : Dev nD) : FVec Ideal S8192x1024 .f32 := m ((c : Thread nD τ).loc main_arg1)
abbrev aG (c : Dev nD) : FVec Ideal S1x1024 .f32 := m ((c : Thread nD τ).loc main_arg2)
abbrev aW1 (c : Dev nD) : FVec Ideal S1024x4096 .f32 := m ((c : Thread nD τ).loc main_arg3)
abbrev aW2 (c : Dev nD) : FVec Ideal S4096x1024 .f32 := m ((c : Thread nD τ).loc main_arg4)

/-- The hidden values, computed on the host. -/
abbrev aA (c : Dev nD) : FVec Ideal S8192x4096 .f32 := FfnRefIdeal.Work.aR (aX m c) (aG m c) (aW1 m c)

theorem row_lt (t : Fin cfg0.N) (r : Fin 512) : t.val * 512 + r.val < 8192 := by
  have := t.isLt; have : cfg0.N = 16 := N_0; omega

theorem blk0 (c : Dev nD) (t : Fin cfg0.N) (r : Fin 512) (k : Fin 1024) :
    (show EReal from iblk m c 0 t (ix2 r k)) = aDY m c (ix2 ⟨t.val * 512 + r.val, row_lt t r⟩ k) := by
  blk_point [iblk, V, idx t]
theorem blk1 (c : Dev nD) (t : Fin cfg0.N) (r : Fin 512) (k : Fin 1024) :
    (show EReal from iblk m c 1 t (ix2 r k)) = aDY m c (ix2 ⟨t.val * 512 + r.val, row_lt t r⟩ k) := by
  blk_simp [iblk]
  entry_read
  show aDY m c _ = _
  blk_ext [idx t]
theorem blk2 (c : Dev nD) (t : Fin cfg0.N) (r : Fin 512) (k : Fin 4096) :
    (show EReal from iblk m c 2 t (ix2 r k)) = aA m c (ix2 ⟨t.val * 512 + r.val, row_lt t r⟩ k) := by
  blk_simp [iblk]
  entry_read
  show aA m c _ = _
  blk_ext [idx t]
theorem blk3 (c : Dev nD) (t : Fin cfg0.N) (r : Fin 512) (k : Fin 1024) :
    (show EReal from iblk m c 3 t (ix2 r k)) = aX m c (ix2 ⟨t.val * 512 + r.val, row_lt t r⟩ k) := by
  blk_point [iblk, V, idx t]
theorem blk4 (c : Dev nD) (t : Fin cfg0.N) (z : Fin 1) (k : Fin 1024) :
    (show EReal from iblk m c 4 t (ix2 z k)) = aG m c (ix2 z k) := by
  blk_point [iblk, V, idx t]
theorem blk5 (c : Dev nD) (t : Fin cfg0.N) (f : Fin 4096) (k : Fin 1024) :
    (show EReal from iblk m c 5 t (ix2 f k)) = aW1 m c (ix2 k f) := by
  blk_simp [iblk]
  entry_read
  refine Eq.trans (congrArg _ (show _ = (ix2 f k : S4096x1024.Idx) from by blk_ext [idx t])) ?_
  pointwise
theorem blk6 (c : Dev nD) (t : Fin cfg0.N) (f : Fin 4096) (k : Fin 1024) :
    (show EReal from iblk m c 6 t (ix2 f k)) = aW2 m c (ix2 f k) := by
  blk_simp [iblk]
  entry_read
  show aW2 m c _ = _
  blk_ext [idx t]

/-- The eight column strips a point stores are together the gradient of its rows' hidden values. -/
theorem da_block (c : Dev nD) (t : Fin cfg0.N) : (outsAt0 m c t.val t.isLt).1 = daB (iblk m c 1 t) (iblk m c 2 t) (iblk m c 6 t) := by
  funext y
  by_cases h0 : t.val % 16 = 0
  · rw [outsAt0_A m c t h0]
    frame_out
    canon_tiles x h
    all_goals
      idx_vars x
      first
        | refine (strip16 _ _ _ _ _).trans ?_
        | refine (strip14 _ _ _ _ _).trans ?_
        | refine (strip13 _ _ _ _ _).trans ?_
        | refine (strip12 _ _ _ _ _).trans ?_
        | refine (strip9 _ _ _ _ _).trans ?_
        | refine (strip8 _ _ _ _ _).trans ?_
        | refine (strip7 _ _ _ _ _).trans ?_
        | refine (strip6 _ _ _ _ _).trans ?_
      pointwise [daB]
      blk_point []
  · rw [outsAt0_B m c t h0]
    frame_out
    canon_tiles x h
    all_goals
      idx_vars x
      first
        | refine (strip16 _ _ _ _ _).trans ?_
        | refine (strip14 _ _ _ _ _).trans ?_
        | refine (strip13 _ _ _ _ _).trans ?_
        | refine (strip12 _ _ _ _ _).trans ?_
        | refine (strip9 _ _ _ _ _).trans ?_
        | refine (strip8 _ _ _ _ _).trans ?_
        | refine (strip7 _ _ _ _ _).trans ?_
        | refine (strip6 _ _ _ _ _).trans ?_
      pointwise [daB]
      blk_point []

/-- The gradient that passes by and the norm's gradient, of a block of rows, as the point stores them. -/
def dxB (c : Dev nD) (t : Fin cfg0.N) : FVec Ideal S512x1024 .f32 :=
  k0_pay1 (k0_pay18 (iblk m c 3 t)) (k0_pay21 (daB (iblk m c 1 t) (iblk m c 2 t) (iblk m c 6 t)) (iblk m c 5 t) (iblk m c 3 t) (iblk m c 4 t)) (iblk m c 0 t)

/-- Reading a whole array through the rectangle that is all of it changes no index. -/
theorem whole_idx (j : S512x4096.Idx) : (Rect.unit ![0, 0] ![512, 4096] inb_S512x4096_S512x4096_0_0).idx j = j := by
  funext a
  refine Fin.ext ?_
  fin_cases a <;> simp [LoadRect.idx, Rect.unit]

/-- What a point stores for the gradient of the rows: the hidden values' gradient it reads back is the one it stored. -/
theorem dx_block (c : Dev nD) (t : Fin cfg0.N) : (outsAt0 m c t.val t.isLt).2.1 = dxB m c t := by
  refine Eq.trans ?_ (congrArg (fun D => k0_pay1 (k0_pay18 (iblk m c 3 t)) (k0_pay21 D (iblk m c 5 t) (iblk m c 3 t) (iblk m c 4 t)) (iblk m c 0 t)) (da_block m c t))
  by_cases h0 : t.val % 16 = 0
  · rw [outsAt0_A m c t h0]
    frame_out
    refine congrArg (fun D => k0_pay1 (k0_pay18 (iblk m c 3 t)) (k0_pay21 D (iblk m c 5 t) (iblk m c 3 t) (iblk m c 4 t)) (iblk m c 0 t)) ?_
    refine (View.readCov_eq_canon' _ _ _).trans ?_
    exact funext fun j => congrArg _ (whole_idx j)
  · rw [outsAt0_B m c t h0]
    frame_out
    refine congrArg (fun D => k0_pay1 (k0_pay18 (iblk m c 3 t)) (k0_pay21 D (iblk m c 5 t) (iblk m c 3 t) (iblk m c 4 t)) (iblk m c 0 t)) ?_
    refine (View.readCov_eq_canon' _ _ _).trans ?_
    exact funext fun j => congrArg _ (whole_idx j)
/-- The same in the narrower format. -/
def dxbB (c : Dev nD) (t : Fin cfg0.N) : FVec Ideal S512x1024 .bf16 :=
  k0_pay2 (k0_pay18 (iblk m c 3 t)) (k0_pay21 (daB (iblk m c 1 t) (iblk m c 2 t) (iblk m c 6 t)) (iblk m c 5 t) (iblk m c 3 t) (iblk m c 4 t)) (iblk m c 0 t)

theorem dxb_block (c : Dev nD) (t : Fin cfg0.N) : (outsAt0 m c t.val t.isLt).2.2.1 = dxbB m c t := by
  refine Eq.trans ?_ (congrArg (fun D => k0_pay2 (k0_pay18 (iblk m c 3 t)) (k0_pay21 D (iblk m c 5 t) (iblk m c 3 t) (iblk m c 4 t)) (iblk m c 0 t)) (da_block m c t))
  by_cases h0 : t.val % 16 = 0
  · rw [outsAt0_A m c t h0]
    frame_out
    refine congrArg (fun D => k0_pay2 (k0_pay18 (iblk m c 3 t)) (k0_pay21 D (iblk m c 5 t) (iblk m c 3 t) (iblk m c 4 t)) (iblk m c 0 t)) ?_
    refine (View.readCov_eq_canon' _ _ _).trans ?_
    exact funext fun j => congrArg _ (whole_idx j)
  · rw [outsAt0_B m c t h0]
    frame_out
    refine congrArg (fun D => k0_pay2 (k0_pay18 (iblk m c 3 t)) (k0_pay21 D (iblk m c 5 t) (iblk m c 3 t) (iblk m c 4 t)) (iblk m c 0 t)) ?_
    refine (View.readCov_eq_canon' _ _ _).trans ?_
    exact funext fun j => congrArg _ (whole_idx j)
/-- What a point adds to the gradient of the norm's scale. -/
def dgB (c : Dev nD) (t : Fin cfg0.N) : FVec Ideal S1x1024 .f32 :=
  k0_pay20 (daB (iblk m c 1 t) (iblk m c 2 t) (iblk m c 6 t)) (iblk m c 5 t) (iblk m c 3 t)

/-- The first point leaves its part over zeros. -/
theorem dg_A (c : Dev nD) (t : Fin cfg0.N) (h0 : t.val % 16 = 0) : (outsAt0 m c t.val t.isLt).2.2.2 = k0_pay3 (dgB m c t) (k0_pay4 (F := Ideal)) := by
  refine Eq.trans ?_ (congrArg (fun D => k0_pay3 (k0_pay20 D (iblk m c 5 t) (iblk m c 3 t)) (k0_pay4 (F := Ideal))) (da_block m c t))
  rw [outsAt0_A m c t h0]
  frame_out
  refine congrArg (fun D => k0_pay3 (k0_pay20 D (iblk m c 5 t) (iblk m c 3 t)) (k0_pay4 (F := Ideal))) ?_
  refine (View.readCov_eq_canon' _ _ _).trans ?_
  exact funext fun j => congrArg _ (whole_idx j)
/-- Every later point adds its part to what the point before left. -/
theorem dg_B (c : Dev nD) (t : Fin cfg0.N) (h0 : ¬ t.val % 16 = 0) :
    (outsAt0 m c t.val t.isLt).2.2.2 = k0_pay3 (dgB m c t) (outsAt0 m c (t.val - 1) (Nat.lt_of_le_of_lt (Nat.sub_le _ _) t.isLt)).2.2.2 := by
  refine Eq.trans ?_ (congrArg (fun D => k0_pay3 (k0_pay20 D (iblk m c 5 t) (iblk m c 3 t)) (outsAt0 m c (t.val - 1) (Nat.lt_of_le_of_lt (Nat.sub_le _ _) t.isLt)).2.2.2) (da_block m c t))
  conv_lhs => rw [outsAt0_B m c t h0]
  conv_rhs => enter [1]; rw [outsAt0_B m c t h0]
  frame_out
  refine congrArg (fun D => k0_pay3 (k0_pay20 D (iblk m c 5 t) (iblk m c 3 t)) (outsAt0 m c (t.val - 1) (Nat.lt_of_le_of_lt (Nat.sub_le _ _) t.isLt)).2.2.2) ?_
  refine (View.readCov_eq_canon' _ _ _).trans ?_
  exact funext fun j => congrArg _ (whole_idx j)
/-- The reference's gradients, over the arguments. -/
abbrev rDA (c : Dev nD) : FVec Ideal S8192x4096 .f32 := FfnRefIdeal.Work.daR (aDY m c) (aW2 m c) (aA m c)
abbrev rDU (c : Dev nD) : FVec Ideal S8192x1024 .f32 := FfnRefIdeal.Work.duR (rDA m c) (aW1 m c)
abbrev rDX (c : Dev nD) : FVec Ideal S8192x1024 .f32 := FfnRefIdeal.Work.dx1R (aDY m c) (aX m c) (FfnRefIdeal.Work.dxnR (rDU m c) (aG m c))

theorem da_at (c : Dev nD) (t : Fin cfg0.N) (r : Fin 512) (f : Fin 4096) :
    daB (iblk m c 1 t) (iblk m c 2 t) (iblk m c 6 t) (ix2 r f) = rDA m c (ix2 ⟨t.val * 512 + r.val, row_lt t r⟩ f) :=
  da_row _ _ _ _ _ _ r _ (blk1 m c t r) (blk2 m c t r) (blk6 m c t) f

theorem du_at (c : Dev nD) (t : Fin cfg0.N) (r : Fin 512) (k : Fin 1024) :
    duB (daB (iblk m c 1 t) (iblk m c 2 t) (iblk m c 6 t)) (iblk m c 5 t) (ix2 r k) = rDU m c (ix2 ⟨t.val * 512 + r.val, row_lt t r⟩ k) :=
  du_row _ _ _ _ r _ (da_at m c t r) (blk5 m c t) k

theorem dx_at (c : Dev nD) (t : Fin cfg0.N) (r : Fin 512) (j : Fin 1024) :
    dxB m c t (ix2 r j) = rDX m c (ix2 ⟨t.val * 512 + r.val, row_lt t r⟩ j) :=
  dx_row _ _ _ _ _ _ _ _ _ r _ (du_at m c t r) (blk3 m c t r) (blk0 m c t r) (blk4 m c t 0) j

theorem dg_at (c : Dev nD) (t : Fin cfg0.N) (z : Fin 1) (j : Fin 1024) :
    dgB m c t (ix2 z j) = ∑ r : Fin 512, aX m c (ix2 ⟨t.val * 512 + r.val, row_lt t r⟩ j)
      * (Scalars.rs fun k => aX m c (ix2 ⟨t.val * 512 + r.val, row_lt t r⟩ k)) * rDU m c (ix2 ⟨t.val * 512 + r.val, row_lt t r⟩ j) :=
  (pay20_at _ _ _ z j).trans (Finset.sum_congr rfl fun r _ => dg_row _ _ _ _ _ r _ (du_at m c t r) (blk3 m c t r) j)

/-- Window 7: the gradient of the hidden values. -/
theorem final7 (c : Dev nD) : (dats m 0 c).arrAt 7 (cfgs 0).N = rDA m c := by
  refine (dats m 0 c).arrAt_eq_of_covers 7 _ (by decide +kernel) fun t hf y => ?_
  blk_simp
  rw [after0_7, da_block]
  idx_vars y
  refine (da_at m c t y0 y1).trans (congrArg _ ?_)
  blk_ext [idx t]

/-- Window 8: the gradient of the rows before the norm. -/
theorem final8 (c : Dev nD) : (dats m 0 c).arrAt 8 (cfgs 0).N = rDX m c := by
  refine (dats m 0 c).arrAt_eq_of_covers 8 _ (by decide +kernel) fun t hf y => ?_
  blk_simp
  rw [after0_8, dx_block]
  idx_vars y
  refine (dx_at m c t y0 y1).trans (congrArg _ ?_)
  blk_ext [idx t]

/-- Window 9: the same in the narrower format. -/
theorem final9 (c : Dev nD) : (dats m 0 c).arrAt 9 (cfgs 0).N = truncf .bf16 (rDX m c) bitsLt_bf16_f32 := by
  refine (dats m 0 c).arrAt_eq_of_covers 9 _ (by decide +kernel) fun t hf y => ?_
  blk_simp
  rw [after0_9, dxb_block]
  idx_vars y
  refine (pay2_at _ _ _ y0 y1).trans ?_
  refine (dx_at m c t y0 y1).trans ?_
  show rDX m c _ = rDX m c _
  blk_ext [idx t]

/-- Window 10: the gradient of the norm's scale, summed over all the rows. -/
theorem final10 (c : Dev nD) : (dats m 0 c).arrAt 10 (cfgs 0).N = FfnRefIdeal.Work.dgR (aX m c) (rDU m c) := by
  refine (dats m 0 c).arrAt_eq_of_after_last 10 t0_15 (by decide +kernel) _ fun j => ?_
  blk_simp
  rw [after0_10, Pipeline.eq_sum_fin_of_reset_step_apply_last (fun n h => (outsAt0 m c n h).2.2.2) 16 (fun _ => (0 : EReal))
    (fun t j => dgB m c t j)
    (fun t h j => by
      refine (congrFun (dg_A m c t h) j).trans ?_
      idx_vars j
      refine (pay3_at _ _ j0 j1).trans ?_
      rw [pay4_at])
    (fun t h j => by
      refine (congrFun (dg_B m c t h) j).trans ?_
      idx_vars j
      exact pay3_at _ _ j0 j1) (le_of_eq N_0) t0_15 rfl j, zero_add]
  idx_vars j
  rw [FfnRefIdeal.Work.dgR_at]
  refine (Finset.sum_congr rfl fun p _ => dg_at m c p j0 j1).trans ?_
  exact (Fin.sum_univ_tiles 16 512 rfl fun R : Fin 8192 => aX m c (ix2 R j1) * (Scalars.rs fun k => aX m c (ix2 R k)) * rDU m c (ix2 R j1)).symm

end Cert.FfnIdeal.Work

end
-- ==== Proof.FfnClaim.lean ====
/- The claim that the feed-forward gradient and its reference compute the same results. -/
module

public import proofs.«01_k».proof.Defs
public import proofs.«01_k».proof.Proof.FfnValue
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
/-- The feed-forward gradient computes its reference's four results, at all arguments. -/
theorem ffn_algebraic : @Cert.algebraic_FfnIdeal_FfnRefIdeal Cert.FfnIdeal.Gen.facts Cert.FfnRefIdeal.Gen.facts := by
  pair_intro
  · run_from Cert.FfnIdeal.Gen.run_main m g
  · have hr := Cert.FfnRefIdeal.Work.run_named m' g'
    refine (θ_run Cert.FfnRefIdeal.defs _ _).mono ?_ hr
    intro r h c
    obtain ⟨h0, h1, h2, h3, hk⟩ := h c
    obtain ⟨e0, e1, e2, e3, e4⟩ := hagree c
    refine ⟨?_, ?_, ?_, ?_, hk⟩
    · refine h0.trans ?_
      exact (Scalars.congr5 (fun a b c d e => truncf .bf16 (Cert.FfnRefIdeal.Work.DA a b c d e) Cert.FfnRefIdeal.Gen.bitsLt_bf16_f32) e0 e1 e2 e3 e4).trans (Cert.FfnIdeal.Work.final7 m c).symm
    · refine h1.trans ?_
      exact (Scalars.congr5 Cert.FfnRefIdeal.Work.DX1 e0 e1 e2 e3 e4).trans (Cert.FfnIdeal.Work.final8 m c).symm
    · refine h2.trans ?_
      exact (Scalars.congr5 (fun a b c d e => truncf .bf16 (Cert.FfnRefIdeal.Work.DX1 a b c d e) Cert.FfnRefIdeal.Gen.bitsLt_bf16_f32) e0 e1 e2 e3 e4).trans (Cert.FfnIdeal.Work.final9 m c).symm
    · refine h3.trans ?_
      exact (Scalars.congr5 Cert.FfnRefIdeal.Work.DG e0 e1 e2 e3 e4).trans (Cert.FfnIdeal.Work.final10 m c).symm

end Cert.Proof

end
-- ==== Proof.InPure.lean ====
/- What the body of the input projection's gradient stores, read at an index, over blocks that are variables. -/
module

public import proofs.«01_k».proof.Proof.Gen.InIdeal.Skeleton
public import proofs.«01_k».proof.Proof.Scalars
public import Idealize.ShloMosaic.Lib.Pointwise

@[expose] public section

set_option maxRecDepth 16384

noncomputable section

namespace Cert.InIdeal.Work

open Cert.InIdeal Cert.InIdeal.Gen Idealize.ShloMosaic Idealize.ShloMosaic.TcCoe Idealize.SL.Sem

/-- The product of the three groups of columns of the incoming gradient with the weight's columns. -/
def duB (A0 : FVec Ideal S512x1536 .bf16) (A1 A2 : FVec Ideal S512x2048 .bf16) (W : FVec Ideal S1024x5632 .bf16) : FVec Ideal S512x1024 .f32 :=
  fun y => (∑ f : Fin 1536, A0 (ix2 (y 0) f) * W (ix2 (y 1) ⟨f.val, by omega⟩))
    + (∑ f : Fin 2048, A1 (ix2 (y 0) f) * W (ix2 (y 1) ⟨1536 + f.val, by omega⟩))
    + ∑ f : Fin 2048, A2 (ix2 (y 0) f) * W (ix2 (y 1) ⟨3584 + f.val, by omega⟩)

variable (A0 : FVec Ideal S512x1536 .bf16) (A1 A2 : FVec Ideal S512x2048 .bf16) (W : FVec Ideal S1024x5632 .bf16)
  (X D DU : FVec Ideal S512x1024 .f32) (G P : FVec Ideal S1x1024 .f32)

/-- What the body sums is that product, when the weight's three pieces are its columns. -/
theorem pay5_eq (W0 : FVec Ideal S1024x1536 .bf16) (W1 W2 : FVec Ideal S1024x2048 .bf16)
    (e0 : ∀ k f, W0 (ix2 k f) = W (ix2 k ⟨f.val, by omega⟩)) (e1 : ∀ k f, W1 (ix2 k f) = W (ix2 k ⟨1536 + f.val, by omega⟩))
    (e2 : ∀ k f, W2 (ix2 k f) = W (ix2 k ⟨3584 + f.val, by omega⟩)) : k0_pay5 A0 W0 A1 W1 A2 W2 = duB A0 A1 A2 W := by
  funext y
  idx_vars y
  pointwise [k0_pay5, duB]
  simp only [e0, e1, e2]

/-- The block's gradient of the rows before the norm, added to the gradient that passes by. -/
theorem pay2_at (r : Fin 512) (j : Fin 1024) : k0_pay2 DU X G (k0_pay6 X) (k0_pay7 X) D (ix2 r j)
    = D (ix2 r j) + (Scalars.rs fun k => X (ix2 r k)) * (DU (ix2 r j) * G (ix2 0 j) - X (ix2 r j) * (Scalars.rs fun k => X (ix2 r k))
        * Ideal.div (∑ k, DU (ix2 r k) * G (ix2 0 k) * (X (ix2 r k) * Scalars.rs fun k => X (ix2 r k))) (Ideal.ofBits .f32 0x44800000#32)) := by
  pointwise [k0_pay2, k0_pay1, k0_pay6, k0_pay7]
  rfl

/-- The running sum of the scale's gradient: what is there plus the block's part. -/
theorem pay3_at (z : Fin 1) (j : Fin 1024) : k0_pay3 DU X (k0_pay7 X) P (ix2 z j)
    = P (ix2 z j) + ∑ r : Fin 512, X (ix2 r j) * (Scalars.rs fun k => X (ix2 r k)) * DU (ix2 r j) := by
  pointwise [k0_pay3, k0_pay1, k0_pay7, k0_pay6]
  exact congrArg (_ + ·) (Finset.sum_congr rfl fun r _ => mul_comm _ _)

/-- The running sum starts at zero. -/
theorem pay4_at (y : S1x1024.Idx) : k0_pay4 (F := Ideal) y = 0 := by
  pointwise [k0_pay4]

end Cert.InIdeal.Work

end
-- ==== Proof.InRef.lean ====
/- The reference of the input projection's gradient, cut into the stages its mathematics has, and each stage read at an index. -/
module

public import proofs.«01_k».proof.Proof.Gen.InRefIdeal.Run
public import proofs.«01_k».proof.Proof.Scalars
public import Idealize.ShloMosaic.Lib.Pointwise

@[expose] public section

set_option maxRecDepth 16384

noncomputable section

namespace Cert.InRefIdeal.Work

open Cert.InRefIdeal Cert.InRefIdeal.Gen Idealize.ShloMosaic Idealize.ShloMosaic.TcCoe Idealize.SL.Sem

/-- The mean of the squares of each row plus the small constant. -/
def msR (X : FVec Ideal S8192x1024 .f32) : FVec Ideal S8192x1 .f32 :=
  addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The normalised rows. -/
def xnR (X : FVec Ideal S8192x1024 .f32) : FVec Ideal S8192x1024 .f32 :=
  mulf X (broadcastInDim S8192x1024 ![0, 1] bcast_S8192x1_S8192x1024_0_1 (Host.rsqrt (msR X)))

/-- The gradient of the projection's rows, through its weight. -/
def duR (DP : FVec Ideal S8192x5632 .f32) (W : FVec Ideal S1024x5632 .f32) : FVec Ideal S8192x1024 .f32 :=
  Host.dotGeneral dot_S8192x5632_S1024x5632_S8192x1024_1_1_0_0_n_n none DP W

/-- The gradient of the norm's scale. -/
def dgR (X DU : FVec Ideal S8192x1024 .f32) : FVec Ideal S1x1024 .f32 :=
  shapeCast _ (Host.reduceAdd (mulf (xnR X) DU) (constant S_ .f32 0x00000000#32) reducesTo_S8192x1024_S1024_d0 h_S_) shapeCasts_S1024_S1x1024

/-- The gradient of the normalised rows. -/
def dxnR (DU : FVec Ideal S8192x1024 .f32) (G : FVec Ideal S1x1024 .f32) : FVec Ideal S8192x1024 .f32 :=
  mulf DU (broadcastInDim S8192x1024 ![0, 1] bcast_S1x1024_S8192x1024_0_1 G)

/-- What the gradient of the mean of the squares gives each element of a row, over the element. -/
def bR (X DX : FVec Ideal S8192x1024 .f32) : FVec Ideal S8192x1024 .f32 :=
  broadcastInDim S8192x1024 ![0] bcast_S8192_S8192x1024_0 (Host.reduceAdd (Host.divf (mulf (shapeCast _ (Host.reduceAdd (mulf X DX) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msR X)) (msR X)))) (broadcastInDim S8192x1 ![] bcast_S_S8192x1 (constant S_ .f32 0x44800000#32))) (constant S_ .f32 0x00000000#32) reducesTo_S8192x1_S8192_d1 h_S_)

/-- The gradient of the rows before the norm, added to the gradient that passes by. -/
def dx1R (DY X DX : FVec Ideal S8192x1024 .f32) : FVec Ideal S8192x1024 .f32 :=
  addf DY (addf (addf (mulf DX (broadcastInDim S8192x1024 ![0, 1] bcast_S8192x1_S8192x1024_0_1 (Host.rsqrt (msR X)))) (mulf X (bR X DX))) (mulf (bR X DX) X))

section
variable (m : (ℓ : Loc nD τ sig) → Buf (Elt Ideal) ℓ) (c : Dev nD)

/-- The reference's arguments: the projection's incoming gradient, the rows, the norm's scale, the weight and the gradient that passes by. -/
abbrev aDP : FVec Ideal S8192x5632 .f32 := m ((c.tc : Thread nD τ).loc main_arg0)
abbrev aX : FVec Ideal S8192x1024 .f32 := m ((c.tc : Thread nD τ).loc main_arg1)
abbrev aG : FVec Ideal S1x1024 .f32 := m ((c.tc : Thread nD τ).loc main_arg2)
abbrev aW : FVec Ideal S1024x5632 .f32 := m ((c.tc : Thread nD τ).loc main_arg3)
abbrev aD1 : FVec Ideal S8192x1024 .f32 := m ((c.tc : Thread nD τ).loc main_arg4)

end

section
variable (DP : FVec Ideal S8192x5632 .f32) (X : FVec Ideal S8192x1024 .f32) (G : FVec Ideal S1x1024 .f32) (W : FVec Ideal S1024x5632 .f32)
  (D1 : FVec Ideal S8192x1024 .f32)

/-- The reference's gradients, over its arguments. -/
def DX : FVec Ideal S8192x1024 .f32 := dx1R D1 X (dxnR (duR DP W) G)
def DG : FVec Ideal S1x1024 .f32 := dgR X (duR DP W)

end

set_option maxHeartbeats 800000 in
/-- The reference's run, its two results by their stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = DX (aDP m c) (aX m c) (aG m c) (aW m c) (aD1 m c)
      ∧ r.2.mem ((c.tc : Thread nD τ).loc main_v19) = DG (aDP m c) (aX m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, hk⟩ := h c
  refine ⟨h0.trans ?_, h1.trans ?_, hk⟩
  · delta Value.res_main_v36 DX dx1R dxnR duR bR msR; rfl
  · delta DG dgR duR xnR msR; rfl

variable (DY X DU DX : FVec Ideal S8192x1024 .f32) (G : FVec Ideal S1x1024 .f32) (W : FVec Ideal S1024x5632 .f32) (DP : FVec Ideal S8192x5632 .f32)

/-- The mean of the squares, read at a row. -/
theorem msR_at (r : Fin 8192) (z : Fin 1) : msR X (ix2 r z) = Scalars.ms fun k => X (ix2 r k) := by
  pointwise [msR, Scalars.ms]

/-- The reciprocal root, read at a row. -/
theorem rsR_at (r : Fin 8192) (z : Fin 1) : Host.rsqrt (msR X) (ix2 r z) = Scalars.rs fun k => X (ix2 r k) :=
  congrArg Ideal.rsqrt (msR_at X r z)

/-- The normalised rows, read at an index. -/
theorem xnR_at (r : Fin 8192) (k : Fin 1024) : xnR X (ix2 r k) = X (ix2 r k) * Scalars.rs fun k => X (ix2 r k) := by
  pointwise [xnR, msR_at]
  rfl

/-- The gradient of the projection's rows, read at an index. -/
theorem duR_at (r : Fin 8192) (k : Fin 1024) : duR DP W (ix2 r k) = ∑ f, DP (ix2 r f) * W (ix2 k f) := by
  pointwise [duR]

/-- The same sum over the 5632 columns, taken over their three groups. -/
theorem duR_groups (r : Fin 8192) (k : Fin 1024) : duR DP W (ix2 r k)
    = (∑ f : Fin 1536, DP (ix2 r ⟨f.val, by omega⟩) * W (ix2 k ⟨f.val, by omega⟩))
      + (∑ f : Fin 2048, DP (ix2 r ⟨1536 + f.val, by omega⟩) * W (ix2 k ⟨1536 + f.val, by omega⟩))
      + ∑ f : Fin 2048, DP (ix2 r ⟨3584 + f.val, by omega⟩) * W (ix2 k ⟨3584 + f.val, by omega⟩) := by
  rw [duR_at]
  exact (Fin.sum_univ_add (a := 3584) (b := 2048) (fun f : Fin 5632 => DP (ix2 r f) * W (ix2 k f))).trans
    (congrArg₂ (· + ·) (Fin.sum_univ_add (a := 1536) (b := 2048) _) rfl)

/-- The gradient of the norm's scale, read at an index. -/
theorem dgR_at (z : Fin 1) (k : Fin 1024) : dgR X DU (ix2 z k) = ∑ r : Fin 8192, X (ix2 r k) * Scalars.rs (fun l => X (ix2 r l)) * DU (ix2 r k) := by
  pointwise [dgR, xnR_at]

/-- The gradient of the normalised rows, read at an index. -/
theorem dxnR_at (r : Fin 8192) (k : Fin 1024) : dxnR DU G (ix2 r k) = DU (ix2 r k) * G (ix2 0 k) := by
  pointwise [dxnR]

/-- The gradient of the rows before the norm: the kernel's form of it, at every extended real. -/
theorem dx1R_at (r : Fin 8192) (j : Fin 1024) : dx1R DY X DX (ix2 r j)
    = DY (ix2 r j) + (Scalars.rs fun k => X (ix2 r k)) * (DX (ix2 r j) - X (ix2 r j) * (Scalars.rs fun k => X (ix2 r k))
        * Ideal.div (∑ k, DX (ix2 r k) * (X (ix2 r k) * Scalars.rs fun k => X (ix2 r k))) (Ideal.ofBits .f32 0x44800000#32)) := by
  rw [Scalars.rms_bwd (fun k => X (ix2 r k)) (fun k => DX (ix2 r k)) j]
  pointwise [dx1R, bR, msR_at]
  simp only [Finset.univ_unique, Finset.sum_singleton]
  rfl

end Cert.InRefIdeal.Work

end
-- ==== Proof.InValue.lean ====
/- What the two output arrays of the input projection's gradient hold after the run. -/
module

public import proofs.«01_k».proof.Proof.Gen.InIdeal.Value
public import proofs.«01_k».proof.Proof.InPure
public import proofs.«01_k».proof.Proof.InRef
public import Idealize.ShloMosaic.Lib.Pipeline.ValueKit
public import Idealize.ShloMosaic.Lib.Claim

@[expose] public section

set_option maxRecDepth 16384

noncomputable section

namespace Cert.InIdeal.Work

open Cert.InIdeal Cert.InIdeal.Gen Idealize.ShloMosaic Idealize.ShloMosaic.TcCoe Idealize.SL.Sem
open Idealize.ShloMosaic.Pipeline (Dat)

variable (m : (ℓ : Loc nD τ sig) → Buf (Elt Ideal) ℓ)

/-- A row of a block's product with the weight is the row of the whole product, when the rows it is computed from agree. -/
theorem du_row (A0 : FVec Ideal S512x1536 .bf16) (A1 A2 : FVec Ideal S512x2048 .bf16) (W' : FVec Ideal S1024x5632 .bf16)
    (DP : FVec Ideal S8192x5632 .f32) (W : FVec Ideal S1024x5632 .f32) (r : Fin 512) (R : Fin 8192)
    (e0 : ∀ f : Fin 1536, A0 (ix2 r f) = DP (ix2 R ⟨f.val, by omega⟩)) (e1 : ∀ f : Fin 2048, A1 (ix2 r f) = DP (ix2 R ⟨1536 + f.val, by omega⟩))
    (e2 : ∀ f : Fin 2048, A2 (ix2 r f) = DP (ix2 R ⟨3584 + f.val, by omega⟩)) (ew : ∀ k f, W' (ix2 k f) = W (ix2 k f)) (k : Fin 1024) :
    duB A0 A1 A2 W' (ix2 r k) = InRefIdeal.Work.duR DP W (ix2 R k) := by
  rw [InRefIdeal.Work.duR_groups]
  refine congrArg₂ (· + ·) (congrArg₂ (· + ·) ?_ ?_) ?_
  · exact Finset.sum_congr rfl fun f _ => Ideal.mul_congr (e0 f) (ew k _)
  · exact Finset.sum_congr rfl fun f _ => Ideal.mul_congr (e1 f) (ew k _)
  · exact Finset.sum_congr rfl fun f _ => Ideal.mul_congr (e2 f) (ew k _)

/-- The same of the gradient of the rows before the norm. -/
theorem dx_row (X' D' DU' : FVec Ideal S512x1024 .f32) (G' : FVec Ideal S1x1024 .f32)
    (X D DU : FVec Ideal S8192x1024 .f32) (G : FVec Ideal S1x1024 .f32) (r : Fin 512) (R : Fin 8192)
    (eu : ∀ k, DU' (ix2 r k) = DU (ix2 R k)) (ex : ∀ k, X' (ix2 r k) = X (ix2 R k)) (ed : ∀ k, D' (ix2 r k) = D (ix2 R k))
    (eg : ∀ k, G' (ix2 0 k) = G (ix2 0 k)) (j : Fin 1024) :
    k0_pay2 DU' X' G' (k0_pay6 X') (k0_pay7 X') D' (ix2 r j) = InRefIdeal.Work.dx1R D X (InRefIdeal.Work.dxnR DU G) (ix2 R j) := by
  rw [pay2_at, InRefIdeal.Work.dx1R_at]
  simp only [eu, ex, ed, eg, InRefIdeal.Work.dxnR_at]

/-- The same of one row's part of the gradient of the norm's scale. -/
theorem dg_row (X' DU' : FVec Ideal S512x1024 .f32) (X DU : FVec Ideal S8192x1024 .f32) (r : Fin 512) (R : Fin 8192)
    (eu : ∀ k, DU' (ix2 r k) = DU (ix2 R k)) (ex : ∀ k, X' (ix2 r k) = X (ix2 R k)) (j : Fin 1024) :
    X' (ix2 r j) * (Scalars.rs fun k => X' (ix2 r k)) * DU' (ix2 r j) = X (ix2 R j) * (Scalars.rs fun k => X (ix2 R k)) * DU (ix2 R j) := by
  simp only [eu, ex]

/-- Where each block lies: blocks of 512 rows, and the whole arrays of the weight, of the scale and of its gradient. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- The arguments: the projection's incoming gradient, the rows, the norm's scale, the weight and the gradient that passes by. -/
abbrev aDP (c : Dev nD) : FVec Ideal S8192x5632 .f32 := m ((c : Thread nD τ).loc main_arg0)
abbrev aX (c : Dev nD) : FVec Ideal S8192x1024 .f32 := m ((c : Thread nD τ).loc main_arg1)
abbrev aG (c : Dev nD) : FVec Ideal S1x1024 .f32 := m ((c : Thread nD τ).loc main_arg2)
abbrev aW (c : Dev nD) : FVec Ideal S1024x5632 .f32 := m ((c : Thread nD τ).loc main_arg3)
abbrev aD1 (c : Dev nD) : FVec Ideal S8192x1024 .f32 := m ((c : Thread nD τ).loc main_arg4)

theorem row_lt (t : Fin cfg0.N) (r : Fin 512) : t.val * 512 + r.val < 8192 := by
  have := t.isLt; have : cfg0.N = 16 := N_0; omega

theorem blk0 (c : Dev nD) (t : Fin cfg0.N) (r : Fin 512) (k : Fin 1536) :
    (show EReal from iblk m c 0 t (ix2 r k)) = aDP m c (ix2 ⟨t.val * 512 + r.val, row_lt t r⟩ ⟨k.val, by omega⟩) := by
  blk_simp [iblk]
  entry_read
  show aDP m c _ = _
  blk_ext [idx t]
  · change t.val * 512 + r.val = t.val * 512 + r.val
    rfl
  · change 0 * 1536 + k.val = k.val
    omega
theorem blk1 (c : Dev nD) (t : Fin cfg0.N) (r : Fin 512) (k : Fin 2048) :
    (show EReal from iblk m c 1 t (ix2 r k)) = aDP m c (ix2 ⟨t.val * 512 + r.val, row_lt t r⟩ ⟨1536 + k.val, by omega⟩) := by
  blk_simp [iblk]
  entry_read
  show aDP m c _ = _
  blk_ext [idx t]
  · change t.val * 512 + r.val = t.val * 512 + r.val
    rfl
  · change 1536 + (0 * 2048 + k.val) = 1536 + k.val
    omega
theorem blk2 (c : Dev nD) (t : Fin cfg0.N) (r : Fin 512) (k : Fin 2048) :
    (show EReal from iblk m c 2 t (ix2 r k)) = aDP m c (ix2 ⟨t.val * 512 + r.val, row_lt t r⟩ ⟨3584 + k.val, by omega⟩) := by
  blk_simp [iblk]
  entry_read
  show aDP m c _ = _
  blk_ext [idx t]
  · change t.val * 512 + r.val = t.val * 512 + r.val
    rfl
  · change 3584 + (0 * 2048 + k.val) = 3584 + k.val
    omega
theorem blk3 (c : Dev nD) (t : Fin cfg0.N) (k : Fin 1024) (f : Fin 5632) :
    (show EReal from iblk m c 3 t (ix2 k f)) = aW m c (ix2 k f) := by
  blk_simp [iblk]
  entry_read
  show aW m c _ = _
  blk_ext [idx t]
theorem blk4 (c : Dev nD) (t : Fin cfg0.N) (r : Fin 512) (k : Fin 1024) :
    (show EReal from iblk m c 4 t (ix2 r k)) = aX m c (ix2 ⟨t.val * 512 + r.val, row_lt t r⟩ k) := by
  blk_point [iblk, V, idx t]
theorem blk5 (c : Dev nD) (t : Fin cfg0.N) (z : Fin 1) (k : Fin 1024) :
    (show EReal from iblk m c 5 t (ix2 z k)) = aG m c (ix2 z k) := by
  blk_point [iblk, V, idx t]
theorem blk6 (c : Dev nD) (t : Fin cfg0.N) (r : Fin 512) (k : Fin 1024) :
    (show EReal from iblk m c 6 t (ix2 r k)) = aD1 m c (ix2 ⟨t.val * 512 + r.val, row_lt t r⟩ k) := by
  blk_point [iblk, V, idx t]

/-- The product of a point's rows of the incoming gradient with the weight. -/
abbrev duT (c : Dev nD) (t : Fin cfg0.N) : FVec Ideal S512x1024 .f32 := duB (iblk m c 0 t) (iblk m c 1 t) (iblk m c 2 t) (iblk m c 3 t)

/-- What a point stores for the gradient of the rows. -/
def dxB (c : Dev nD) (t : Fin cfg0.N) : FVec Ideal S512x1024 .f32 :=
  k0_pay2 (duT m c t) (iblk m c 4 t) (iblk m c 5 t) (k0_pay6 (iblk m c 4 t)) (k0_pay7 (iblk m c 4 t)) (iblk m c 6 t)

theorem dx_block (c : Dev nD) (t : Fin cfg0.N) : (outsAt0 m c t.val t.isLt).1 = dxB m c t := by
  by_cases hA : t.val % 16 = 0
  · rw [outsAt0_A m c t hA]
    frame_out
    refine congrArg (fun D => k0_pay2 D (iblk m c 4 t) (iblk m c 5 t) (k0_pay6 (iblk m c 4 t)) (k0_pay7 (iblk m c 4 t)) (iblk m c 6 t)) ?_
    refine pay5_eq _ _ _ _ _ _ _ ?_ ?_ ?_ <;> intro k f <;> refine View.ld_unit_apply_of _ _ _ _ _ _ fun a => ?_ <;> fin_cases a <;> simp
  · rw [outsAt0_B m c t hA]
    frame_out
    refine congrArg (fun D => k0_pay2 D (iblk m c 4 t) (iblk m c 5 t) (k0_pay6 (iblk m c 4 t)) (k0_pay7 (iblk m c 4 t)) (iblk m c 6 t)) ?_
    refine pay5_eq _ _ _ _ _ _ _ ?_ ?_ ?_ <;> intro k f <;> refine View.ld_unit_apply_of _ _ _ _ _ _ fun a => ?_ <;> fin_cases a <;> simp

/-- The first point leaves its part of the scale's gradient over zeros. -/
theorem dg_A (c : Dev nD) (t : Fin cfg0.N) (h0 : t.val % 16 = 0) :
    (outsAt0 m c t.val t.isLt).2 = k0_pay3 (duT m c t) (iblk m c 4 t) (k0_pay7 (iblk m c 4 t)) (k0_pay4 (F := Ideal)) := by
  rw [outsAt0_A m c t h0]
  frame_out
  refine congrArg (fun D => k0_pay3 D (iblk m c 4 t) (k0_pay7 (iblk m c 4 t)) (k0_pay4 (F := Ideal))) ?_
  refine pay5_eq _ _ _ _ _ _ _ ?_ ?_ ?_ <;> intro k f <;> refine View.ld_unit_apply_of _ _ _ _ _ _ fun a => ?_ <;> fin_cases a <;> simp
/-- Every later point adds its part to what the point before left. -/
theorem dg_B (c : Dev nD) (t : Fin cfg0.N) (h0 : ¬ t.val % 16 = 0) :
    (outsAt0 m c t.val t.isLt).2
      = k0_pay3 (duT m c t) (iblk m c 4 t) (k0_pay7 (iblk m c 4 t)) (outsAt0 m c (t.val - 1) (Nat.lt_of_le_of_lt (Nat.sub_le _ _) t.isLt)).2 := by
  conv_lhs => rw [outsAt0_B m c t h0]
  frame_out
  refine congrArg (fun D => k0_pay3 D (iblk m c 4 t) (k0_pay7 (iblk m c 4 t)) (outsAt0 m c (t.val - 1) (Nat.lt_of_le_of_lt (Nat.sub_le _ _) t.isLt)).2) ?_
  refine pay5_eq _ _ _ _ _ _ _ ?_ ?_ ?_ <;> intro k f <;> refine View.ld_unit_apply_of _ _ _ _ _ _ fun a => ?_ <;> fin_cases a <;> simp

/-- The reference's product, over the arguments. -/
abbrev rDU (c : Dev nD) : FVec Ideal S8192x1024 .f32 := InRefIdeal.Work.duR (aDP m c) (aW m c)
abbrev rDX (c : Dev nD) : FVec Ideal S8192x1024 .f32 := InRefIdeal.Work.dx1R (aD1 m c) (aX m c) (InRefIdeal.Work.dxnR (rDU m c) (aG m c))

theorem du_at (c : Dev nD) (t : Fin cfg0.N) (r : Fin 512) (k : Fin 1024) :
    duT m c t (ix2 r k) = rDU m c (ix2 ⟨t.val * 512 + r.val, row_lt t r⟩ k) :=
  du_row _ _ _ _ _ _ r _ (blk0 m c t r) (blk1 m c t r) (blk2 m c t r) (blk3 m c t) k

theorem dx_at (c : Dev nD) (t : Fin cfg0.N) (r : Fin 512) (j : Fin 1024) :
    dxB m c t (ix2 r j) = rDX m c (ix2 ⟨t.val * 512 + r.val, row_lt t r⟩ j) :=
  dx_row _ _ _ _ _ _ _ _ r _ (du_at m c t r) (blk4 m c t r) (blk6 m c t r) (blk5 m c t 0) j

/-- What a point adds to the gradient of the norm's scale. -/
def dgB (c : Dev nD) (t : Fin cfg0.N) (y : S1x1024.Idx) : EReal :=
  ∑ r : Fin 512, (show FVec Ideal S512x1024 .f32 from iblk m c 4 t) (ix2 r (y 1)) * (Scalars.rs fun k => (show FVec Ideal S512x1024 .f32 from iblk m c 4 t) (ix2 r k)) * duT m c t (ix2 r (y 1))

theorem dg_at (c : Dev nD) (t : Fin cfg0.N) (z : Fin 1) (j : Fin 1024) :
    dgB m c t (ix2 z j) = ∑ r : Fin 512, aX m c (ix2 ⟨t.val * 512 + r.val, row_lt t r⟩ j)
      * (Scalars.rs fun k => aX m c (ix2 ⟨t.val * 512 + r.val, row_lt t r⟩ k)) * rDU m c (ix2 ⟨t.val * 512 + r.val, row_lt t r⟩ j) :=
  Finset.sum_congr rfl fun r _ => dg_row _ _ _ _ r _ (du_at m c t r) (blk4 m c t r) j

/-- Window 7: the gradient of the rows before the norm. -/
theorem final7 (c : Dev nD) : (dats m 0 c).arrAt 7 (cfgs 0).N = rDX m c := by
  refine (dats m 0 c).arrAt_eq_of_covers 7 _ (by decide +kernel) fun t hf y => ?_
  blk_simp
  rw [after0_7, dx_block]
  idx_vars y
  refine (dx_at m c t y0 y1).trans (congrArg _ ?_)
  blk_ext [idx t]

/-- Window 8: the gradient of the norm's scale, summed over all the rows. -/
theorem final8 (c : Dev nD) : (dats m 0 c).arrAt 8 (cfgs 0).N = InRefIdeal.Work.dgR (aX m c) (rDU m c) := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => (0 : EReal))
    (fun t j => dgB m c t j)
    (fun t h j => by
      refine (congrFun (dg_A m c t h) j).trans ?_
      idx_vars j
      refine (pay3_at _ _ _ j0 j1).trans ?_
      rw [pay4_at]
      rfl)
    (fun t h j => by
      refine (congrFun (dg_B m c t h) j).trans ?_
      idx_vars j
      exact pay3_at _ _ _ j0 j1) (le_of_eq N_0) t0_15 rfl j, zero_add]
  idx_vars j
  rw [InRefIdeal.Work.dgR_at]
  refine (Finset.sum_congr rfl fun p _ => dg_at m c p j0 j1).trans ?_
  exact (Fin.sum_univ_tiles 16 512 rfl fun R : Fin 8192 => aX m c (ix2 R j1) * (Scalars.rs fun k => aX m c (ix2 R k)) * rDU m c (ix2 R j1)).symm

end Cert.InIdeal.Work

end
-- ==== Proof.InClaim.lean ====
/- The claim that the input projection's gradient and its reference compute the same results. -/
module

public import proofs.«01_k».proof.Defs
public import proofs.«01_k».proof.Proof.InValue
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
/-- The input projection's gradient computes its reference's two results, at all arguments. -/
theorem in_algebraic : @Cert.algebraic_InIdeal_InRefIdeal Cert.InIdeal.Gen.facts Cert.InRefIdeal.Gen.facts := by
  pair_intro
  · run_from Cert.InIdeal.Gen.run_main m g
  · have hr := Cert.InRefIdeal.Work.run_named m' g'
    refine (θ_run Cert.InRefIdeal.defs _ _).mono ?_ hr
    intro r h c
    obtain ⟨h0, h1, hk⟩ := h c
    obtain ⟨e0, e1, e2, e3, e4⟩ := hagree c
    refine ⟨?_, ?_, hk⟩
    · refine h0.trans ?_
      exact (Scalars.congr5 Cert.InRefIdeal.Work.DX e0 e1 e2 e3 e4).trans (Cert.InIdeal.Work.final7 m c).symm
    · refine h1.trans ?_
      exact (Scalars.congr5 (fun a b _ d _ => Cert.InRefIdeal.Work.DG a b d) e0 e1 e2 e3 e4).trans (Cert.InIdeal.Work.final8 m c).symm

end Cert.Proof

end
-- ==== Proof.WFf2Pure.lean ====
/- What the body of the gradient of the second feed-forward weight stores, read at an index, over blocks that are variables. -/
module

public import proofs.«01_k».proof.Proof.Gen.WFf2Ideal.Skeleton
public import proofs.«01_k».proof.Proof.Scalars
public import Idealize.ShloMosaic.Lib.Pointwise

@[expose] public section

set_option maxRecDepth 16384

noncomputable section

namespace Cert.WFf2Ideal.Work

open Cert.WFf2Ideal Cert.WFf2Ideal.Gen Idealize.ShloMosaic Idealize.ShloMosaic.TcCoe Idealize.SL.Sem

variable (A : FVec Ideal S2048x1024 .bf16) (B : FVec Ideal S2048x1024 .bf16) (S : FVec Ideal S1024x1024 .f32)

/-- The first block of rows' part of the weight's gradient. -/
theorem pay2_at (k : Fin 1024) (n : Fin 1024) : (show EReal from k0_pay2 (F := Ideal) A B (ix2 k n)) = ∑ p : Fin 2048, max (show EReal from A (ix2 p k)) 0 * max (show EReal from A (ix2 p k)) 0 * (show EReal from B (ix2 p n)) := by
  pointwise [k0_pay2, k0_pay1]

/-- A later block of rows adds its part to the running sum. -/
theorem pay3_at (k : Fin 1024) (n : Fin 1024) : (show EReal from k0_pay3 (F := Ideal) A B S (ix2 k n)) = S (ix2 k n) + ∑ p : Fin 2048, max (show EReal from A (ix2 p k)) 0 * max (show EReal from A (ix2 p k)) 0 * (show EReal from B (ix2 p n)) := by
  pointwise [k0_pay3, k0_pay1]

/-- The sum is stored in the narrower format. -/
theorem pay4_at (k : Fin 1024) (n : Fin 1024) : (show EReal from k0_pay4 (F := Ideal) S (ix2 k n)) = S (ix2 k n) := by
  pointwise [k0_pay4]

end Cert.WFf2Ideal.Work

end
-- ==== Proof.WFf2Ref.lean ====
/- The reference of the gradient of the second feed-forward weight, cut into its stages, and each read at an index. -/
module

public import proofs.«01_k».proof.Proof.Gen.WFf2RefIdeal.Run
public import proofs.«01_k».proof.Proof.Scalars
public import Idealize.ShloMosaic.Lib.Pointwise

@[expose] public section

set_option maxRecDepth 16384

noncomputable section

namespace Cert.WFf2RefIdeal.Work

open Cert.WFf2RefIdeal Cert.WFf2RefIdeal.Gen Idealize.ShloMosaic Idealize.ShloMosaic.TcCoe Idealize.SL.Sem

/-- The rows the weight multiplies: the squares of the positive parts of the hidden values. -/
def hR (A : FVec Ideal S8192x4096 .f32) : FVec Ideal S8192x4096 .f32 :=
  mulf (maximumf A (broadcastInDim S8192x4096 ![] bcast_S_S8192x4096 (constant S_ .f32 0x00000000#32))) (maximumf A (broadcastInDim S8192x4096 ![] bcast_S_S8192x4096 (constant S_ .f32 0x00000000#32)))

/-- The same, read at an index. -/
theorem hR_at (A : FVec Ideal S8192x4096 .f32) (r : Fin 8192) (k : Fin 4096) : hR A (ix2 r k) = max (A (ix2 r k)) 0 * max (A (ix2 r k)) 0 := by
  pointwise [hR]

/-- The gradient of the weight: the rows' columns against the columns of the incoming gradient. -/
def wR (U : FVec Ideal S8192x4096 .f32) (D : FVec Ideal S8192x1024 .f32) : FVec Ideal S4096x1024 .f32 :=
  transpose S4096x1024 [1, 0] (Host.dotGeneral dot_S8192x1024_S8192x4096_S1024x4096_0_0_1_1_n_n none D U) transposes_S1024x4096_S4096x1024_1_0

/-- The same, read at an index. -/
theorem wR_at (U : FVec Ideal S8192x4096 .f32) (D : FVec Ideal S8192x1024 .f32) (k : Fin 4096) (n : Fin 1024) :
    wR U D (ix2 k n) = ∑ r : Fin 8192, U (ix2 r k) * D (ix2 r n) := by
  pointwise [wR]
  exact Finset.sum_congr rfl fun r _ => mul_comm _ _

/-- The reference's run, its result by its stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = truncf .bf16 (wR (hR (m ((c.tc : Thread nD τ).loc main_arg0))) (m ((c.tc : Thread nD τ).loc main_arg1))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, hk⟩ := h c
  refine ⟨h0.trans ?_, hk⟩
  delta wR hR; rfl

end Cert.WFf2RefIdeal.Work

end
-- ==== Proof.WFf2Value.lean ====
/- What the output array of the gradient of the second feed-forward weight holds after the run. -/
module

public import proofs.«01_k».proof.Proof.Gen.WFf2Ideal.Value
public import proofs.«01_k».proof.Proof.WFf2Pure
public import proofs.«01_k».proof.Proof.WFf2Ref
public import Idealize.ShloMosaic.Lib.Pipeline.ValueKit
public import Idealize.ShloMosaic.Lib.Pipeline.ReadBack
public import Idealize.ShloMosaic.Lib.Claim

@[expose] public section

set_option maxRecDepth 16384

noncomputable section

namespace Cert.WFf2Ideal.Work

open Cert.WFf2Ideal Cert.WFf2Ideal.Gen Idealize.ShloMosaic Idealize.ShloMosaic.TcCoe Idealize.SL.Sem
open Idealize.ShloMosaic.Pipeline (Dat)

variable (m : (ℓ : Loc nD τ sig) → Buf (Elt Ideal) ℓ)

/-- Where each block lies: blocks of 2048 rows of the two factors, and the block of the weight's gradient that four points make. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The arguments: the hidden values and the incoming gradient. -/
abbrev aU (c : Dev nD) : FVec Ideal S8192x4096 .f32 := m ((c : Thread nD τ).loc main_arg0)
abbrev aD (c : Dev nD) : FVec Ideal S8192x1024 .f32 := m ((c : Thread nD τ).loc main_arg1)
abbrev rU (c : Dev nD) : FVec Ideal S8192x4096 .f32 := WFf2RefIdeal.Work.hR (aU m c)

theorem blk0 (c : Dev nD) (t : Fin cfg0.N) (r : Fin 2048) (k : Fin 1024) (R : Fin 8192) (K : Fin 4096)
    (hR : R.val = t.val % 4 * 2048 + r.val) (hK : K.val = t.val / 4 * 1024 + k.val) : (show EReal from iblk m c 0 t (ix2 r k)) = aU m c (ix2 R K) := by
  blk_simp [iblk]
  entry_read
  show aU m c _ = _
  blk_ext [idx t]
theorem blk1 (c : Dev nD) (t : Fin cfg0.N) (r : Fin 2048) (n : Fin 1024) (R : Fin 8192) (L : Fin 1024)
    (hR : R.val = t.val % 4 * 2048 + r.val) (hL : L.val = n.val) : (show EReal from iblk m c 1 t (ix2 r n)) = aD m c (ix2 R L) := by
  blk_simp [iblk]
  entry_read
  show aD m c _ = _
  blk_ext [idx t]

/-- The first of the four points leaves its part in the running sum. -/
theorem acc_first (c : Dev nD) (t : Fin cfg0.N) (h0 : t.val % 4 = 0) : (outsAt0 m c t.val t.isLt).2 = k0_pay2 (iblk m c 0 t) (iblk m c 1 t) := by
  have hlt : t.val < 16 := lt_of_lt_of_eq t.isLt N_0
  rw [outsAt0_A m c t h0 (by omega) (by omega)]
  frame_out
/-- Each later point adds its part to what the point before left. -/
theorem acc_step (c : Dev nD) (t : Fin cfg0.N) (h0 : ¬ t.val % 4 = 0) :
    (outsAt0 m c t.val t.isLt).2 = k0_pay3 (iblk m c 0 t) (iblk m c 1 t) (outsAt0 m c (t.val - 1) (Nat.lt_of_le_of_lt (Nat.sub_le _ _) t.isLt)).2 := by
  have hlt : t.val < 16 := lt_of_lt_of_eq t.isLt N_0
  by_cases h2 : t.val % 4 = 3
  · conv_lhs => rw [outsAt0_C m c t h0 (by omega) h2]
    frame_out
    rw [read_unread_whole]
  · conv_lhs => rw [outsAt0_B m c t h0 (by omega) h2]
    frame_out
    rw [read_unread_whole]

/-- What one point adds: its rows' products. -/
def part (c : Dev nD) (t : Fin cfg0.N) (y : S1024x1024.Idx) : EReal := k0_pay2 (F := Ideal) (iblk m c 0 t) (iblk m c 1 t) y

/-- After the last of the four points the running sum is the sum over all the rows. -/
theorem acc_last (c : Dev nD) (t : Fin cfg0.N) (hr : t.val % 4 = 3) (k : Fin 1024) (n : Fin 1024) :
    (outsAt0 m c t.val t.isLt).2 (ix2 k n) = ∑ R : Fin 8192, rU m c (ix2 R ⟨t.val / 4 * 1024 + k.val, by have := lt_of_lt_of_eq t.isLt N_0; omega⟩) * aD m c (ix2 R n) := by
  have hlt : t.val < 16 := lt_of_lt_of_eq t.isLt N_0
  rw [Pipeline.eq_sum_fin_of_reset_step_apply_of_flush (fun n h => (outsAt0 m c n h).2) 4 (fun _ => (0 : EReal)) (fun t j => part m c t j)
    (fun t h j => (congrFun (acc_first m c t h) j).trans (zero_add _).symm)
    (fun t h j => by
      refine (congrFun (acc_step m c t h) j).trans ?_
      idx_vars j
      refine (pay3_at _ _ _ j0 j1).trans ?_
      exact congrArg (_ + ·) (pay2_at _ _ j0 j1).symm) t hr (ix2 k n), zero_add]
  rw [Fin.sum_univ_tiles 4 2048 rfl fun R : Fin 8192 => rU m c (ix2 R ⟨t.val / 4 * 1024 + k.val, by have := lt_of_lt_of_eq t.isLt N_0; omega⟩) * aD m c (ix2 R n)]
  refine Finset.sum_congr rfl fun s _ => (pay2_at _ _ k n).trans (Finset.sum_congr rfl fun r _ => ?_)
  refine (congrArg₂ (· * ·) ?_ (blk1 m c _ r n _ _ ?_ ?_))
  · refine .trans ?_ (WFf2RefIdeal.Work.hR_at (aU m c) _ _).symm
    exact congrArg (fun x : EReal => max x 0 * max x 0) (blk0 m c _ r k _ _ (by dsimp only; omega) (by dsimp only; omega))
  · dsimp only; omega
  · rfl

/-- The last point stores the running sum. -/
theorem out_last (c : Dev nD) (t : Fin cfg0.N) (h2 : t.val % 4 = 3) : (outsAt0 m c t.val t.isLt).1 = k0_pay4 (outsAt0 m c t.val t.isLt).2 := by
  have hlt : t.val < 16 := lt_of_lt_of_eq t.isLt N_0
  rw [acc_step m c t (by omega)]
  conv_lhs => rw [outsAt0_C m c t (by omega) (by omega) h2]
  frame_out
  rw [read_unread_whole]

theorem out_at (c : Dev nD) (t : Fin cfg0.N) (h2 : t.val % 4 = 3) (k : Fin 1024) (n : Fin 1024) :
    (show EReal from k0_pay4 (F := Ideal) (outsAt0 m c t.val t.isLt).2 (ix2 k n)) = WFf2RefIdeal.Work.wR (rU m c) (aD m c) (ix2 ⟨t.val / 4 * 1024 + k.val, by have := lt_of_lt_of_eq t.isLt N_0; omega⟩ n) :=
  (pay4_at _ k n).trans ((acc_last m c t h2 k n).trans (WFf2RefIdeal.Work.wR_at _ _ _ _).symm)

/-- The output window: the gradient of the weight. -/
theorem final2 (c : Dev nD) : (dats m 0 c).arrAt 2 (cfgs 0).N = truncf .bf16 (WFf2RefIdeal.Work.wR (rU m c) (aD m c)) bitsLt_bf16_f32 := by
  refine (dats m 0 c).arrAt_eq_of_covers 2 _ (by decide +kernel) fun t hf y => ?_
  have h2 : t.val % 4 = 3 := (flush0_2 t).mp hf
  blk_simp
  rw [after0_2, out_last m c t h2]
  idx_vars y
  refine (out_at m c t h2 y0 y1).trans ?_
  show WFf2RefIdeal.Work.wR (rU m c) (aD m c) _ = WFf2RefIdeal.Work.wR (rU m c) (aD m c) _
  blk_ext [idx t]

end Cert.WFf2Ideal.Work

end
-- ==== Proof.WFf2Claim.lean ====
/- The claim that the gradient of the second feed-forward weight and its reference compute the same result. -/
module

public import proofs.«01_k».proof.Defs
public import proofs.«01_k».proof.Proof.WFf2Value
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
/-- The gradient of the second feed-forward weight computes its reference's result, at all arguments. -/
theorem wff2_algebraic : @Cert.algebraic_WFf2Ideal_WFf2RefIdeal Cert.WFf2Ideal.Gen.facts Cert.WFf2RefIdeal.Gen.facts := by
  pair_intro
  · run_from Cert.WFf2Ideal.Gen.run_main m g
  · have hr := Cert.WFf2RefIdeal.Work.run_named m' g'
    refine (θ_run Cert.WFf2RefIdeal.defs _ _).mono ?_ hr
    intro r h c
    obtain ⟨h0, hk⟩ := h c
    obtain ⟨e0, e1⟩ := hagree c
    refine ⟨?_, hk⟩
    refine h0.trans ?_
    exact (congrArg₂ (fun A D => truncf .bf16 (Cert.WFf2RefIdeal.Work.wR (Cert.WFf2RefIdeal.Work.hR A) D) Cert.WFf2RefIdeal.Gen.bitsLt_bf16_f32) e0 e1).trans (Cert.WFf2Ideal.Work.final2 m c).symm

end Cert.Proof

end
-- ==== Proof.WFf1Pure.lean ====
/- What the body of the gradient of the first feed-forward weight stores, read at an index, over blocks that are variables. -/
module

public import proofs.«01_k».proof.Proof.Gen.WFf1Ideal.Skeleton
public import proofs.«01_k».proof.Proof.Scalars
public import Idealize.ShloMosaic.Lib.Pointwise

@[expose] public section

set_option maxRecDepth 16384

noncomputable section

namespace Cert.WFf1Ideal.Work

open Cert.WFf1Ideal Cert.WFf1Ideal.Gen Idealize.ShloMosaic Idealize.ShloMosaic.TcCoe Idealize.SL.Sem

variable (A : FVec Ideal S2048x1024 .bf16) (B : FVec Ideal S2048x2048 .bf16) (S : FVec Ideal S1024x2048 .f32)

/-- The first block of rows' part of the weight's gradient. -/
theorem pay2_at (k : Fin 1024) (n : Fin 2048) : (show EReal from k0_pay2 (F := Ideal) A B (ix2 k n)) = ∑ p : Fin 2048, (show EReal from A (ix2 p k)) * (show EReal from B (ix2 p n)) := by
  pointwise [k0_pay2, k0_pay1]

/-- A later block of rows adds its part to the running sum. -/
theorem pay3_at (k : Fin 1024) (n : Fin 2048) : (show EReal from k0_pay3 (F := Ideal) A B S (ix2 k n)) = S (ix2 k n) + ∑ p : Fin 2048, (show EReal from A (ix2 p k)) * (show EReal from B (ix2 p n)) := by
  pointwise [k0_pay3, k0_pay1]

/-- A slab of the sum is stored in the narrower format. -/
theorem pay4_at (T : FVec Ideal S1024x512 .f32) (z : Fin 1) (k : Fin 1024) (n : Fin 512) :
    (show EReal from k0_pay4 (F := Ideal) T (ix3 z k n)) = T (ix2 k n) := by
  pointwise [k0_pay4]
theorem pay5_at (T : FVec Ideal S1024x512 .f32) (z : Fin 1) (k : Fin 1024) (n : Fin 512) :
    (show EReal from k0_pay5 (F := Ideal) T (ix3 z k n)) = T (ix2 k n) := by
  pointwise [k0_pay5]
theorem pay6_at (T : FVec Ideal S1024x512 .f32) (z : Fin 1) (k : Fin 1024) (n : Fin 512) :
    (show EReal from k0_pay6 (F := Ideal) T (ix3 z k n)) = T (ix2 k n) := by
  pointwise [k0_pay6]
theorem pay7_at (T : FVec Ideal S1024x512 .f32) (z : Fin 1) (k : Fin 1024) (n : Fin 512) :
    (show EReal from k0_pay7 (F := Ideal) T (ix3 z k n)) = T (ix2 k n) := by
  pointwise [k0_pay7]

end Cert.WFf1Ideal.Work

end
-- ==== Proof.WFf1Ref.lean ====
/- The reference of the gradient of the first feed-forward weight, cut into its stages, and each read at an index. -/
module

public import proofs.«01_k».proof.Proof.Gen.WFf1RefIdeal.Run
public import proofs.«01_k».proof.Proof.Scalars
public import Idealize.ShloMosaic.Lib.Pointwise

@[expose] public section

set_option maxRecDepth 16384

noncomputable section

namespace Cert.WFf1RefIdeal.Work

open Cert.WFf1RefIdeal Cert.WFf1RefIdeal.Gen Idealize.ShloMosaic Idealize.ShloMosaic.TcCoe Idealize.SL.Sem

/-- The rows the weight multiplies: normalised by the root of the mean of their squares, and scaled. -/
def uR (X : FVec Ideal S8192x1024 .f32) (G : FVec Ideal S1x1024 .f32) : FVec Ideal S8192x1024 .f32 :=
  mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 G)

/-- The gradient of the weight: the rows' columns against the columns of the incoming gradient, in eight slabs of 512 columns. -/
def wR (U : FVec Ideal S8192x1024 .f32) (D : FVec Ideal S8192x4096 .f32) : FVec Ideal S8x1024x512 .f32 :=
  transpose S8x1024x512 [1, 0, 2] (shapeCast _ (transpose S1024x4096 [1, 0] (Host.dotGeneral dot_S8192x4096_S8192x1024_S4096x1024_0_0_1_1_n_n none D U) transposes_S4096x1024_S1024x4096_1_0) shapeCasts_S1024x4096_S1024x8x512) transposes_S1024x8x512_S8x1024x512_1_0_2

/-- The same, read at an index: a slab's column is a column of the weight. -/
theorem wR_at (U : FVec Ideal S8192x1024 .f32) (D : FVec Ideal S8192x4096 .f32) (s : Fin 8) (k : Fin 1024) (n : Fin 512) :
    wR U D (ix3 s k n) = ∑ r : Fin 8192, U (ix2 r k) * D (ix2 r ⟨s.val * 512 + n.val, by omega⟩) := by
  pointwise [wR]
  exact Finset.sum_congr rfl fun r _ => mul_comm _ _

/-- The reference's run, its result by its stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = truncf .bf16 (wR (uR (m ((c.tc : Thread nD τ).loc main_arg0)) (m ((c.tc : Thread nD τ).loc main_arg1))) (m ((c.tc : Thread nD τ).loc main_arg2))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, hk⟩ := h c
  refine ⟨h0.trans ?_, hk⟩
  delta wR uR; rfl

end Cert.WFf1RefIdeal.Work

end
-- ==== Proof.WFf1Value.lean ====
/- What the output array of the gradient of the first feed-forward weight holds after the run. -/
module

public import proofs.«01_k».proof.Proof.Gen.WFf1Ideal.Value
public import proofs.«01_k».proof.Proof.WFf1Pure
public import proofs.«01_k».proof.Proof.WFf1Ref
public import Idealize.ShloMosaic.Lib.Pipeline.ValueKit
public import Idealize.ShloMosaic.Lib.Pipeline.ReadBack
public import Idealize.ShloMosaic.Lib.Claim

@[expose] public section

set_option maxRecDepth 16384

noncomputable section

namespace Cert.WFf1Ideal.Work

open Cert.WFf1Ideal Cert.WFf1Ideal.Gen Idealize.ShloMosaic Idealize.ShloMosaic.TcCoe Idealize.SL.Sem
open Idealize.ShloMosaic.Pipeline (Dat)

variable (m : (ℓ : Loc nD τ sig) → Buf (Elt Ideal) ℓ)

/-- Where each block lies: blocks of 2048 rows of the two factors, and the block of the weight's gradient that four points make. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The arguments: the rows, the norm's scale and the incoming gradient; the rows the weight multiplies are computed on the host. -/
abbrev aX (c : Dev nD) : FVec Ideal S8192x1024 .f32 := m ((c : Thread nD τ).loc main_arg0)
abbrev aG (c : Dev nD) : FVec Ideal S1x1024 .f32 := m ((c : Thread nD τ).loc main_arg1)
abbrev aD (c : Dev nD) : FVec Ideal S8192x4096 .f32 := m ((c : Thread nD τ).loc main_arg2)
abbrev aU (c : Dev nD) : FVec Ideal S8192x1024 .f32 := WFf1RefIdeal.Work.uR (aX m c) (aG m c)
abbrev rU (c : Dev nD) : FVec Ideal S8192x1024 .f32 := aU m c

theorem blk0 (c : Dev nD) (t : Fin cfg0.N) (r : Fin 2048) (k : Fin 1024) (R : Fin 8192) (K : Fin 1024)
    (hR : R.val = t.val % 4 * 2048 + r.val) (hK : K.val = k.val) : (show EReal from iblk m c 0 t (ix2 r k)) = aU m c (ix2 R K) := by
  blk_simp [iblk]
  entry_read
  show aU m c _ = _
  blk_ext [idx t]
theorem blk1 (c : Dev nD) (t : Fin cfg0.N) (r : Fin 2048) (n : Fin 2048) (R : Fin 8192) (L : Fin 4096)
    (hR : R.val = t.val % 4 * 2048 + r.val) (hL : L.val = t.val / 4 * 2048 + n.val) : (show EReal from iblk m c 1 t (ix2 r n)) = aD m c (ix2 R L) := by
  blk_simp [iblk]
  entry_read
  show aD m c _ = _
  blk_ext [idx t]

/-- The first of the four points leaves its part in the running sum. -/
theorem acc_first (c : Dev nD) (t : Fin cfg0.N) (h0 : t.val % 4 = 0) : (outsAt0 m c t.val t.isLt).2 = k0_pay2 (iblk m c 0 t) (iblk m c 1 t) := by
  have hlt : t.val < 8 := lt_of_lt_of_eq t.isLt N_0
  rw [outsAt0_A m c t h0 (by omega) (by omega)]
  frame_out
/-- Each later point adds its part to what the point before left. -/
theorem acc_step (c : Dev nD) (t : Fin cfg0.N) (h0 : ¬ t.val % 4 = 0) :
    (outsAt0 m c t.val t.isLt).2 = k0_pay3 (iblk m c 0 t) (iblk m c 1 t) (outsAt0 m c (t.val - 1) (Nat.lt_of_le_of_lt (Nat.sub_le _ _) t.isLt)).2 := by
  have hlt : t.val < 8 := lt_of_lt_of_eq t.isLt N_0
  by_cases h2 : t.val % 4 = 3
  · conv_lhs => rw [outsAt0_C m c t h0 (by omega) h2]
    frame_out
    rw [read_unread_whole]
  · conv_lhs => rw [outsAt0_B m c t h0 (by omega) h2]
    frame_out
    rw [read_unread_whole]

/-- What one point adds: its rows' products. -/
def part (c : Dev nD) (t : Fin cfg0.N) (y : S1024x2048.Idx) : EReal := k0_pay2 (F := Ideal) (iblk m c 0 t) (iblk m c 1 t) y

/-- After the last of the four points the running sum is the sum over all the rows. -/
theorem acc_last (c : Dev nD) (t : Fin cfg0.N) (hr : t.val % 4 = 3) (k : Fin 1024) (n : Fin 2048) :
    (outsAt0 m c t.val t.isLt).2 (ix2 k n) = ∑ R : Fin 8192, rU m c (ix2 R k) * aD m c (ix2 R ⟨t.val / 4 * 2048 + n.val, by have := lt_of_lt_of_eq t.isLt N_0; omega⟩) := by
  have hlt : t.val < 8 := lt_of_lt_of_eq t.isLt N_0
  rw [Pipeline.eq_sum_fin_of_reset_step_apply_of_flush (fun n h => (outsAt0 m c n h).2) 4 (fun _ => (0 : EReal)) (fun t j => part m c t j)
    (fun t h j => (congrFun (acc_first m c t h) j).trans (zero_add _).symm)
    (fun t h j => by
      refine (congrFun (acc_step m c t h) j).trans ?_
      idx_vars j
      refine (pay3_at _ _ _ j0 j1).trans ?_
      exact congrArg (_ + ·) (pay2_at _ _ j0 j1).symm) t hr (ix2 k n), zero_add]
  rw [Fin.sum_univ_tiles 4 2048 rfl fun R : Fin 8192 => rU m c (ix2 R k) * aD m c (ix2 R ⟨t.val / 4 * 2048 + n.val, by have := lt_of_lt_of_eq t.isLt N_0; omega⟩)]
  refine Finset.sum_congr rfl fun s _ => (pay2_at _ _ k n).trans (Finset.sum_congr rfl fun r _ => ?_)
  exact congrArg₂ (· * ·) (blk0 m c _ r k _ _ (by dsimp only; omega) (by dsimp only)) (blk1 m c _ r n _ _ (by dsimp only; omega) (by dsimp only; omega))

/-- The last point stores the running sum, in four slabs of 512 columns. -/
theorem out_last (c : Dev nD) (t : Fin cfg0.N) (h2 : t.val % 4 = 3) (s : Fin 4) (k : Fin 1024) (n : Fin 512) :
    (show EReal from (outsAt0 m c t.val t.isLt).1 (ix3 s k n)) = (outsAt0 m c t.val t.isLt).2 (ix2 k ⟨s.val * 512 + n.val, by omega⟩) := by
  have hlt : t.val < 8 := lt_of_lt_of_eq t.isLt N_0
  rw [acc_step m c t (by omega)]
  conv_lhs => rw [outsAt0_C m c t (by omega) (by omega) h2]
  frame_out
  rw [read_unread_whole]
  generalize k0_pay3 (F := Ideal) (iblk m c 0 t) (iblk m c 1 t) (outsAt0 m c (t.val - 1) (Nat.lt_of_le_of_lt (Nat.sub_le _ _) t.isLt)).2 = S
  rw [View.readCov_fill _ _ _ _ _ (by decide), View.readCov_fill _ _ _ _ _ (by decide), View.readCov_fill _ _ _ _ _ (by decide), View.readCov_fill _ _ _ _ _ (by decide)]
  canon_tiles x h
  all_goals
    have e0 : s.val = _ := h0
    have e1 : k.val = _ := h1
    have e2 : n.val = _ := h2
    idx_vars x
    first
      | refine (pay7_at _ _ _ _).trans ?_
      | refine (pay6_at _ _ _ _).trans ?_
      | refine (pay5_at _ _ _ _).trans ?_
      | refine (pay4_at _ _ _ _).trans ?_
    refine View.ld_unit_apply_of _ _ _ _ _ _ fun a => ?_
    fin_cases a
    · simpa using e1
    · have e2' : n.val = x2.val := e2
      simp
      omega

/-- The output window: the gradient of the weight. -/
theorem final2 (c : Dev nD) : (dats m 0 c).arrAt 2 (cfgs 0).N = truncf .bf16 (WFf1RefIdeal.Work.wR (rU m c) (aD m c)) bitsLt_bf16_f32 := by
  refine (dats m 0 c).arrAt_eq_of_covers 2 _ (by decide +kernel) fun t hf y => ?_
  have h2 : t.val % 4 = 3 := (flush0_2 t).mp hf
  blk_simp
  rw [after0_2]
  idx_vars y
  have hlt : t.val < 8 := lt_of_lt_of_eq t.isLt N_0
  refine (out_last m c t h2 y0 y1 y2).trans ((acc_last m c t h2 _ _).trans ?_)
  refine Eq.trans ?_ (WFf1RefIdeal.Work.wR_at (rU m c) (aD m c) ⟨t.val / 4 * 4 + y0.val, by omega⟩ y1 y2).symm |>.trans ?_
  · refine Finset.sum_congr rfl fun R _ => congrArg (_ * ·) (congrArg (aD m c) ?_)
    blk_ext []
  show WFf1RefIdeal.Work.wR (rU m c) (aD m c) _ = WFf1RefIdeal.Work.wR (rU m c) (aD m c) _
  blk_ext [idx t]

end Cert.WFf1Ideal.Work

end
-- ==== Proof.WFf1Claim.lean ====
/- The claim that the gradient of the first feed-forward weight and its reference compute the same result. -/
module

public import proofs.«01_k».proof.Defs
public import proofs.«01_k».proof.Proof.WFf1Value
public import proofs.«01_k».proof.Proof.MixScalars
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
/-- The gradient of the first feed-forward weight computes its reference's result, at all arguments. -/
theorem wff1_algebraic : @Cert.algebraic_WFf1Ideal_WFf1RefIdeal Cert.WFf1Ideal.Gen.facts Cert.WFf1RefIdeal.Gen.facts := by
  pair_intro
  · run_from Cert.WFf1Ideal.Gen.run_main m g
  · have hr := Cert.WFf1RefIdeal.Work.run_named m' g'
    refine (θ_run Cert.WFf1RefIdeal.defs _ _).mono ?_ hr
    intro r h c
    obtain ⟨h0, hk⟩ := h c
    obtain ⟨e0, e1, e2⟩ := hagree c
    refine ⟨?_, hk⟩
    refine h0.trans ?_
    exact (Scalars.congr3 (fun X G D => truncf .bf16 (Cert.WFf1RefIdeal.Work.wR (Cert.WFf1RefIdeal.Work.uR X G) D) Cert.WFf1RefIdeal.Gen.bitsLt_bf16_f32) e0 e1 e2).trans (Cert.WFf1Ideal.Work.final2 m c).symm

end Cert.Proof

end
-- ==== Proof.WOutPure.lean ====
/- What the body of the gradient of the mixing layer's output weight stores, read at an index, over blocks that are variables. -/
module

public import proofs.«01_k».proof.Proof.Gen.WOutIdeal.Skeleton
public import proofs.«01_k».proof.Proof.Scalars
public import Idealize.ShloMosaic.Lib.Pointwise

@[expose] public section

set_option maxRecDepth 16384

noncomputable section

namespace Cert.WOutIdeal.Work

open Cert.WOutIdeal Cert.WOutIdeal.Gen Idealize.ShloMosaic Idealize.ShloMosaic.TcCoe Idealize.SL.Sem

variable (A : FVec Ideal S2048x1024 .bf16) (B : FVec Ideal S2048x1024 .bf16) (S : FVec Ideal S1024x1024 .f32)

/-- The first block of rows' part of the weight's gradient. -/
theorem pay2_at (k : Fin 1024) (n : Fin 1024) : (show EReal from k0_pay2 (F := Ideal) A B (ix2 k n)) = ∑ p : Fin 2048, (show EReal from A (ix2 p k)) * (show EReal from B (ix2 p n)) := by
  pointwise [k0_pay2, k0_pay1]

/-- A later block of rows adds its part to the running sum. -/
theorem pay3_at (k : Fin 1024) (n : Fin 1024) : (show EReal from k0_pay3 (F := Ideal) A B S (ix2 k n)) = S (ix2 k n) + ∑ p : Fin 2048, (show EReal from A (ix2 p k)) * (show EReal from B (ix2 p n)) := by
  pointwise [k0_pay3, k0_pay1]

/-- The sum is stored in the narrower format. -/
theorem pay4_at (k : Fin 1024) (n : Fin 1024) : (show EReal from k0_pay4 (F := Ideal) S (ix2 k n)) = S (ix2 k n) := by
  pointwise [k0_pay4]

end Cert.WOutIdeal.Work

end
-- ==== Proof.WOutRef.lean ====
/- The reference of the gradient of the mixing layer's output weight, cut into its stages, and each read at an index. -/
module

public import proofs.«01_k».proof.Proof.Gen.WOutRefIdeal.Run
public import proofs.«01_k».proof.Proof.Scalars
public import Idealize.ShloMosaic.Lib.Pointwise

@[expose] public section

set_option maxRecDepth 16384

noncomputable section

namespace Cert.WOutRefIdeal.Work

open Cert.WOutRefIdeal Cert.WOutRefIdeal.Gen Idealize.ShloMosaic Idealize.ShloMosaic.TcCoe Idealize.SL.Sem

/-- The gradient of the weight: the rows' columns against the columns of the incoming gradient. -/
def wR (U : FVec Ideal S8192x1024 .f32) (D : FVec Ideal S8192x1024 .f32) : FVec Ideal S1024x1024 .f32 :=
  transpose S1024x1024 [1, 0] (Host.dotGeneral dot_S8192x1024_S8192x1024_S1024x1024_0_0_1_1_n_n none D U) transposes_S1024x1024_S1024x1024_1_0

/-- The same, read at an index. -/
theorem wR_at (U : FVec Ideal S8192x1024 .f32) (D : FVec Ideal S8192x1024 .f32) (k : Fin 1024) (n : Fin 1024) :
    wR U D (ix2 k n) = ∑ r : Fin 8192, U (ix2 r k) * D (ix2 r n) := by
  pointwise [wR]
  exact Finset.sum_congr rfl fun r _ => mul_comm _ _

/-- The reference's run, its result by its stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = truncf .bf16 (wR (m ((c.tc : Thread nD τ).loc main_arg0)) (m ((c.tc : Thread nD τ).loc main_arg1))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, hk⟩ := h c
  refine ⟨h0.trans ?_, hk⟩
  delta wR; rfl

end Cert.WOutRefIdeal.Work

end
-- ==== Proof.WOutValue.lean ====
/- What the output array of the gradient of the mixing layer's output weight holds after the run. -/
module

public import proofs.«01_k».proof.Proof.Gen.WOutIdeal.Value
public import proofs.«01_k».proof.Proof.WOutPure
public import proofs.«01_k».proof.Proof.WOutRef
public import Idealize.ShloMosaic.Lib.Pipeline.ValueKit
public import Idealize.ShloMosaic.Lib.Pipeline.ReadBack
public import Idealize.ShloMosaic.Lib.Claim

@[expose] public section

set_option maxRecDepth 16384

noncomputable section

namespace Cert.WOutIdeal.Work

open Cert.WOutIdeal Cert.WOutIdeal.Gen Idealize.ShloMosaic Idealize.ShloMosaic.TcCoe Idealize.SL.Sem
open Idealize.ShloMosaic.Pipeline (Dat)

variable (m : (ℓ : Loc nD τ sig) → Buf (Elt Ideal) ℓ)

/-- Where each block lies: blocks of 2048 rows of the two factors, and the block of the weight's gradient that four points make. -/
theorem idx : ∀ t : Fin cfg0.N, win0_0.index t = ![t.val % 4, 0] ∧ win0_1.index t = ![t.val % 4, 0] ∧ win0_2.index t = ![0, 0] :=
  (by decide +kernel : ∀ t : Fin grid0.N, _)

/-- The arguments: the rows the weight multiplies and the incoming gradient. -/
abbrev aU (c : Dev nD) : FVec Ideal S8192x1024 .f32 := m ((c : Thread nD τ).loc main_arg0)
abbrev aD (c : Dev nD) : FVec Ideal S8192x1024 .f32 := m ((c : Thread nD τ).loc main_arg1)
abbrev rU (c : Dev nD) : FVec Ideal S8192x1024 .f32 := aU m c

theorem blk0 (c : Dev nD) (t : Fin cfg0.N) (r : Fin 2048) (k : Fin 1024) (R : Fin 8192) (K : Fin 1024)
    (hR : R.val = t.val % 4 * 2048 + r.val) (hK : K.val = k.val) : (show EReal from iblk m c 0 t (ix2 r k)) = aU m c (ix2 R K) := by
  blk_simp [iblk]
  entry_read
  show aU m c _ = _
  blk_ext [idx t]
theorem blk1 (c : Dev nD) (t : Fin cfg0.N) (r : Fin 2048) (n : Fin 1024) (R : Fin 8192) (L : Fin 1024)
    (hR : R.val = t.val % 4 * 2048 + r.val) (hL : L.val = n.val) : (show EReal from iblk m c 1 t (ix2 r n)) = aD m c (ix2 R L) := by
  blk_simp [iblk]
  entry_read
  show aD m c _ = _
  blk_ext [idx t]

/-- The first of the four points leaves its part in the running sum. -/
theorem acc_first (c : Dev nD) (t : Fin cfg0.N) (h0 : t.val % 4 = 0) : (outsAt0 m c t.val t.isLt).2 = k0_pay2 (iblk m c 0 t) (iblk m c 1 t) := by
  have hlt : t.val < 4 := lt_of_lt_of_eq t.isLt N_0
  rw [outsAt0_A m c t h0 (by omega) (by omega)]
  frame_out
/-- Each later point adds its part to what the point before left. -/
theorem acc_step (c : Dev nD) (t : Fin cfg0.N) (h0 : ¬ t.val % 4 = 0) :
    (outsAt0 m c t.val t.isLt).2 = k0_pay3 (iblk m c 0 t) (iblk m c 1 t) (outsAt0 m c (t.val - 1) (Nat.lt_of_le_of_lt (Nat.sub_le _ _) t.isLt)).2 := by
  have hlt : t.val < 4 := lt_of_lt_of_eq t.isLt N_0
  by_cases h2 : t.val % 4 = 3
  · conv_lhs => rw [outsAt0_C m c t h0 (by omega) h2]
    frame_out
    rw [read_unread_whole]
  · conv_lhs => rw [outsAt0_B m c t h0 (by omega) h2]
    frame_out
    rw [read_unread_whole]

/-- What one point adds: its rows' products. -/
def part (c : Dev nD) (t : Fin cfg0.N) (y : S1024x1024.Idx) : EReal := k0_pay2 (F := Ideal) (iblk m c 0 t) (iblk m c 1 t) y

/-- After the last of the four points the running sum is the sum over all the rows. -/
theorem acc_last (c : Dev nD) (t : Fin cfg0.N) (hr : t.val % 4 = 3) (k : Fin 1024) (n : Fin 1024) :
    (outsAt0 m c t.val t.isLt).2 (ix2 k n) = ∑ R : Fin 8192, rU m c (ix2 R k) * aD m c (ix2 R n) := by
  have hlt : t.val < 4 := lt_of_lt_of_eq t.isLt N_0
  rw [Pipeline.eq_sum_fin_of_reset_step_apply_of_flush (fun n h => (outsAt0 m c n h).2) 4 (fun _ => (0 : EReal)) (fun t j => part m c t j)
    (fun t h j => (congrFun (acc_first m c t h) j).trans (zero_add _).symm)
    (fun t h j => by
      refine (congrFun (acc_step m c t h) j).trans ?_
      idx_vars j
      refine (pay3_at _ _ _ j0 j1).trans ?_
      exact congrArg (_ + ·) (pay2_at _ _ j0 j1).symm) t hr (ix2 k n), zero_add]
  rw [Fin.sum_univ_tiles 4 2048 rfl fun R : Fin 8192 => rU m c (ix2 R k) * aD m c (ix2 R n)]
  refine Finset.sum_congr rfl fun s _ => (pay2_at _ _ k n).trans (Finset.sum_congr rfl fun r _ => ?_)
  exact congrArg₂ (· * ·) (blk0 m c _ r k _ _ (by dsimp only; omega) (by dsimp only)) (blk1 m c _ r n _ _ (by dsimp only; omega) (by dsimp only))

/-- The last point stores the running sum. -/
theorem out_last (c : Dev nD) (t : Fin cfg0.N) (h2 : t.val % 4 = 3) : (outsAt0 m c t.val t.isLt).1 = k0_pay4 (outsAt0 m c t.val t.isLt).2 := by
  have hlt : t.val < 4 := lt_of_lt_of_eq t.isLt N_0
  rw [acc_step m c t (by omega)]
  conv_lhs => rw [outsAt0_C m c t (by omega) (by omega) h2]
  frame_out
  rw [read_unread_whole]

theorem out_at (c : Dev nD) (t : Fin cfg0.N) (h2 : t.val % 4 = 3) (k : Fin 1024) (n : Fin 1024) :
    (show EReal from k0_pay4 (F := Ideal) (outsAt0 m c t.val t.isLt).2 (ix2 k n)) = WOutRefIdeal.Work.wR (rU m c) (aD m c) (ix2 k n) :=
  (pay4_at _ k n).trans ((acc_last m c t h2 k n).trans (WOutRefIdeal.Work.wR_at _ _ _ _).symm)

/-- The output window: the gradient of the weight. -/
theorem final2 (c : Dev nD) : (dats m 0 c).arrAt 2 (cfgs 0).N = truncf .bf16 (WOutRefIdeal.Work.wR (rU m c) (aD m c)) bitsLt_bf16_f32 := by
  refine (dats m 0 c).arrAt_eq_of_covers 2 _ (by decide +kernel) fun t hf y => ?_
  have h2 : t.val % 4 = 3 := (flush0_2 t).mp hf
  blk_simp
  rw [after0_2, out_last m c t h2]
  idx_vars y
  refine (out_at m c t h2 y0 y1).trans ?_
  show WOutRefIdeal.Work.wR (rU m c) (aD m c) _ = WOutRefIdeal.Work.wR (rU m c) (aD m c) _
  blk_ext [idx t]

end Cert.WOutIdeal.Work

end
-- ==== Proof.WOutClaim.lean ====
/- The claim that the gradient of the mixing layer's output weight and its reference compute the same result. -/
module

public import proofs.«01_k».proof.Defs
public import proofs.«01_k».proof.Proof.WOutValue
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
/-- The gradient of the mixing layer's output weight computes its reference's result, at all arguments. -/
theorem wout_algebraic : @Cert.algebraic_WOutIdeal_WOutRefIdeal Cert.WOutIdeal.Gen.facts Cert.WOutRefIdeal.Gen.facts := by
  pair_intro
  · run_from Cert.WOutIdeal.Gen.run_main m g
  · have hr := Cert.WOutRefIdeal.Work.run_named m' g'
    refine (θ_run Cert.WOutRefIdeal.defs _ _).mono ?_ hr
    intro r h c
    obtain ⟨h0, hk⟩ := h c
    obtain ⟨e0, e1⟩ := hagree c
    refine ⟨?_, hk⟩
    refine h0.trans ?_
    exact (congrArg₂ (fun U D => truncf .bf16 (Cert.WOutRefIdeal.Work.wR U D) Cert.WOutRefIdeal.Gen.bitsLt_bf16_f32) e0 e1).trans (Cert.WOutIdeal.Work.final2 m c).symm

end Cert.Proof

end
-- ==== Proof.WGluPure.lean ====
/- What the body of the gradient of the input weight's gated and gate columns stores, read at an index, over blocks that are variables. -/
module

public import proofs.«01_k».proof.Proof.Gen.WGluIdeal.Skeleton
public import proofs.«01_k».proof.Proof.Scalars
public import Idealize.ShloMosaic.Lib.Pointwise

@[expose] public section

set_option maxRecDepth 16384

noncomputable section

namespace Cert.WGluIdeal.Work

open Cert.WGluIdeal Cert.WGluIdeal.Gen Idealize.ShloMosaic Idealize.ShloMosaic.TcCoe Idealize.SL.Sem

variable (A : FVec Ideal S2048x1024 .bf16) (B : FVec Ideal S2048x2048 .bf16) (S : FVec Ideal S1024x2048 .f32)

/-- The first block of rows' part of the weight's gradient. -/
theorem pay2_at (k : Fin 1024) (n : Fin 2048) : (show EReal from k0_pay2 (F := Ideal) A B (ix2 k n)) = ∑ p : Fin 2048, (show EReal from A (ix2 p k)) * (show EReal from B (ix2 p n)) := by
  pointwise [k0_pay2, k0_pay1]

/-- A later block of rows adds its part to the running sum. -/
theorem pay3_at (k : Fin 1024) (n : Fin 2048) : (show EReal from k0_pay3 (F := Ideal) A B S (ix2 k n)) = S (ix2 k n) + ∑ p : Fin 2048, (show EReal from A (ix2 p k)) * (show EReal from B (ix2 p n)) := by
  pointwise [k0_pay3, k0_pay1]

/-- The sum is stored in the narrower format. -/
theorem pay4_at (k : Fin 1024) (n : Fin 2048) : (show EReal from k0_pay4 (F := Ideal) S (ix2 k n)) = S (ix2 k n) := by
  pointwise [k0_pay4]

end Cert.WGluIdeal.Work

end
-- ==== Proof.WGluRef.lean ====
/- The reference of the gradient of the input weight's gated and gate columns, cut into its stages, and each read at an index. -/
module

public import proofs.«01_k».proof.Proof.Gen.WGluRefIdeal.Run
public import proofs.«01_k».proof.Proof.Scalars
public import Idealize.ShloMosaic.Lib.Pointwise

@[expose] public section

set_option maxRecDepth 16384

noncomputable section

namespace Cert.WGluRefIdeal.Work

open Cert.WGluRefIdeal Cert.WGluRefIdeal.Gen Idealize.ShloMosaic Idealize.ShloMosaic.TcCoe Idealize.SL.Sem

/-- The rows the weight multiplies: normalised by the root of the mean of their squares, and scaled. -/
def uR (X : FVec Ideal S8192x1024 .f32) (G : FVec Ideal S1x1024 .f32) : FVec Ideal S8192x1024 .f32 :=
  mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 G)

/-- The gradient of the weight: the rows' columns against the columns of the incoming gradient. -/
def wR (U : FVec Ideal S8192x1024 .f32) (D : FVec Ideal S8192x2048 .f32) : FVec Ideal S1024x2048 .f32 :=
  transpose S1024x2048 [1, 0] (Host.dotGeneral dot_S8192x2048_S8192x1024_S2048x1024_0_0_1_1_n_n none D U) transposes_S2048x1024_S1024x2048_1_0

/-- The same, read at an index. -/
theorem wR_at (U : FVec Ideal S8192x1024 .f32) (D : FVec Ideal S8192x2048 .f32) (k : Fin 1024) (n : Fin 2048) :
    wR U D (ix2 k n) = ∑ r : Fin 8192, U (ix2 r k) * D (ix2 r n) := by
  pointwise [wR]
  exact Finset.sum_congr rfl fun r _ => mul_comm _ _

/-- The reference's run, its result by its stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = truncf .bf16 (wR (uR (m ((c.tc : Thread nD τ).loc main_arg0)) (m ((c.tc : Thread nD τ).loc main_arg1))) (m ((c.tc : Thread nD τ).loc main_arg2))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, hk⟩ := h c
  refine ⟨h0.trans ?_, hk⟩
  delta wR uR; rfl

end Cert.WGluRefIdeal.Work

end
-- ==== Proof.WGluValue.lean ====
/- What the output array of the gradient of the input weight's gated and gate columns holds after the run. -/
module

public import proofs.«01_k».proof.Proof.Gen.WGluIdeal.Value
public import proofs.«01_k».proof.Proof.WGluPure
public import proofs.«01_k».proof.Proof.WGluRef
public import Idealize.ShloMosaic.Lib.Pipeline.ValueKit
public import Idealize.ShloMosaic.Lib.Pipeline.ReadBack
public import Idealize.ShloMosaic.Lib.Claim

@[expose] public section

set_option maxRecDepth 16384

noncomputable section

namespace Cert.WGluIdeal.Work

open Cert.WGluIdeal Cert.WGluIdeal.Gen Idealize.ShloMosaic Idealize.ShloMosaic.TcCoe Idealize.SL.Sem
open Idealize.ShloMosaic.Pipeline (Dat)

variable (m : (ℓ : Loc nD τ sig) → Buf (Elt Ideal) ℓ)

/-- Where each block lies: blocks of 2048 rows of the two factors, and the block of the weight's gradient that four points make. -/
theorem idx : ∀ t : Fin cfg0.N, win0_0.index t = ![t.val % 4, 0] ∧ win0_1.index t = ![t.val % 4, 0] ∧ win0_2.index t = ![0, 0] :=
  (by decide +kernel : ∀ t : Fin grid0.N, _)

/-- The arguments: the rows, the norm's scale and the incoming gradient; the rows the weight multiplies are computed on the host. -/
abbrev aX (c : Dev nD) : FVec Ideal S8192x1024 .f32 := m ((c : Thread nD τ).loc main_arg0)
abbrev aG (c : Dev nD) : FVec Ideal S1x1024 .f32 := m ((c : Thread nD τ).loc main_arg1)
abbrev aD (c : Dev nD) : FVec Ideal S8192x2048 .f32 := m ((c : Thread nD τ).loc main_arg2)
abbrev aU (c : Dev nD) : FVec Ideal S8192x1024 .f32 := WGluRefIdeal.Work.uR (aX m c) (aG m c)
abbrev rU (c : Dev nD) : FVec Ideal S8192x1024 .f32 := aU m c

theorem blk0 (c : Dev nD) (t : Fin cfg0.N) (r : Fin 2048) (k : Fin 1024) (R : Fin 8192) (K : Fin 1024)
    (hR : R.val = t.val % 4 * 2048 + r.val) (hK : K.val = k.val) : (show EReal from iblk m c 0 t (ix2 r k)) = aU m c (ix2 R K) := by
  blk_simp [iblk]
  entry_read
  show aU m c _ = _
  blk_ext [idx t]
theorem blk1 (c : Dev nD) (t : Fin cfg0.N) (r : Fin 2048) (n : Fin 2048) (R : Fin 8192) (L : Fin 2048)
    (hR : R.val = t.val % 4 * 2048 + r.val) (hL : L.val = n.val) : (show EReal from iblk m c 1 t (ix2 r n)) = aD m c (ix2 R L) := by
  blk_simp [iblk]
  entry_read
  show aD m c _ = _
  blk_ext [idx t]

/-- The first of the four points leaves its part in the running sum. -/
theorem acc_first (c : Dev nD) (t : Fin cfg0.N) (h0 : t.val % 4 = 0) : (outsAt0 m c t.val t.isLt).2 = k0_pay2 (iblk m c 0 t) (iblk m c 1 t) := by
  have hlt : t.val < 4 := lt_of_lt_of_eq t.isLt N_0
  rw [outsAt0_A m c t h0 (by omega) (by omega)]
  frame_out
/-- Each later point adds its part to what the point before left. -/
theorem acc_step (c : Dev nD) (t : Fin cfg0.N) (h0 : ¬ t.val % 4 = 0) :
    (outsAt0 m c t.val t.isLt).2 = k0_pay3 (iblk m c 0 t) (iblk m c 1 t) (outsAt0 m c (t.val - 1) (Nat.lt_of_le_of_lt (Nat.sub_le _ _) t.isLt)).2 := by
  have hlt : t.val < 4 := lt_of_lt_of_eq t.isLt N_0
  by_cases h2 : t.val % 4 = 3
  · conv_lhs => rw [outsAt0_C m c t h0 (by omega) h2]
    frame_out
    rw [read_unread_whole]
  · conv_lhs => rw [outsAt0_B m c t h0 (by omega) h2]
    frame_out
    rw [read_unread_whole]

/-- What one point adds: its rows' products. -/
def part (c : Dev nD) (t : Fin cfg0.N) (y : S1024x2048.Idx) : EReal := k0_pay2 (F := Ideal) (iblk m c 0 t) (iblk m c 1 t) y

/-- After the last of the four points the running sum is the sum over all the rows. -/
theorem acc_last (c : Dev nD) (t : Fin cfg0.N) (hr : t.val % 4 = 3) (k : Fin 1024) (n : Fin 2048) :
    (outsAt0 m c t.val t.isLt).2 (ix2 k n) = ∑ R : Fin 8192, rU m c (ix2 R k) * aD m c (ix2 R n) := by
  have hlt : t.val < 4 := lt_of_lt_of_eq t.isLt N_0
  rw [Pipeline.eq_sum_fin_of_reset_step_apply_of_flush (fun n h => (outsAt0 m c n h).2) 4 (fun _ => (0 : EReal)) (fun t j => part m c t j)
    (fun t h j => (congrFun (acc_first m c t h) j).trans (zero_add _).symm)
    (fun t h j => by
      refine (congrFun (acc_step m c t h) j).trans ?_
      idx_vars j
      refine (pay3_at _ _ _ j0 j1).trans ?_
      exact congrArg (_ + ·) (pay2_at _ _ j0 j1).symm) t hr (ix2 k n), zero_add]
  rw [Fin.sum_univ_tiles 4 2048 rfl fun R : Fin 8192 => rU m c (ix2 R k) * aD m c (ix2 R n)]
  refine Finset.sum_congr rfl fun s _ => (pay2_at _ _ k n).trans (Finset.sum_congr rfl fun r _ => ?_)
  exact congrArg₂ (· * ·) (blk0 m c _ r k _ _ (by dsimp only; omega) (by dsimp only)) (blk1 m c _ r n _ _ (by dsimp only; omega) (by dsimp only))

/-- The last point stores the running sum. -/
theorem out_last (c : Dev nD) (t : Fin cfg0.N) (h2 : t.val % 4 = 3) : (outsAt0 m c t.val t.isLt).1 = k0_pay4 (outsAt0 m c t.val t.isLt).2 := by
  have hlt : t.val < 4 := lt_of_lt_of_eq t.isLt N_0
  rw [acc_step m c t (by omega)]
  conv_lhs => rw [outsAt0_C m c t (by omega) (by omega) h2]
  frame_out
  rw [read_unread_whole]

theorem out_at (c : Dev nD) (t : Fin cfg0.N) (h2 : t.val % 4 = 3) (k : Fin 1024) (n : Fin 2048) :
    (show EReal from k0_pay4 (F := Ideal) (outsAt0 m c t.val t.isLt).2 (ix2 k n)) = WGluRefIdeal.Work.wR (rU m c) (aD m c) (ix2 k n) :=
  (pay4_at _ k n).trans ((acc_last m c t h2 k n).trans (WGluRefIdeal.Work.wR_at _ _ _ _).symm)

/-- The output window: the gradient of the weight. -/
theorem final2 (c : Dev nD) : (dats m 0 c).arrAt 2 (cfgs 0).N = truncf .bf16 (WGluRefIdeal.Work.wR (rU m c) (aD m c)) bitsLt_bf16_f32 := by
  refine (dats m 0 c).arrAt_eq_of_covers 2 _ (by decide +kernel) fun t hf y => ?_
  have h2 : t.val % 4 = 3 := (flush0_2 t).mp hf
  blk_simp
  rw [after0_2, out_last m c t h2]
  idx_vars y
  refine (out_at m c t h2 y0 y1).trans ?_
  show WGluRefIdeal.Work.wR (rU m c) (aD m c) _ = WGluRefIdeal.Work.wR (rU m c) (aD m c) _
  blk_ext [idx t]

end Cert.WGluIdeal.Work

end
-- ==== Proof.WGluClaim.lean ====
/- The claim that the gradient of the input weight's gated and gate columns and its reference compute the same result. -/
module

public import proofs.«01_k».proof.Defs
public import proofs.«01_k».proof.Proof.WGluValue
public import proofs.«01_k».proof.Proof.MixScalars
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
/-- The gradient of the input weight's gated and gate columns computes its reference's result, at all arguments. -/
theorem wglu_algebraic : @Cert.algebraic_WGluIdeal_WGluRefIdeal Cert.WGluIdeal.Gen.facts Cert.WGluRefIdeal.Gen.facts := by
  pair_intro
  · run_from Cert.WGluIdeal.Gen.run_main m g
  · have hr := Cert.WGluRefIdeal.Work.run_named m' g'
    refine (θ_run Cert.WGluRefIdeal.defs _ _).mono ?_ hr
    intro r h c
    obtain ⟨h0, hk⟩ := h c
    obtain ⟨e0, e1, e2⟩ := hagree c
    refine ⟨?_, hk⟩
    refine h0.trans ?_
    exact (Scalars.congr3 (fun X G D => truncf .bf16 (Cert.WGluRefIdeal.Work.wR (Cert.WGluRefIdeal.Work.uR X G) D) Cert.WGluRefIdeal.Gen.bitsLt_bf16_f32) e0 e1 e2).trans (Cert.WGluIdeal.Work.final2 m c).symm

end Cert.Proof

end
-- ==== Proof.WQkvPure.lean ====
/- What the body of the gradient of the input weight's query, key and value columns stores, read at an index, over blocks that are variables. -/
module

public import proofs.«01_k».proof.Proof.Gen.WQkvIdeal.Skeleton
public import proofs.«01_k».proof.Proof.Scalars
public import Idealize.ShloMosaic.Lib.Pointwise

@[expose] public section

set_option maxRecDepth 16384

noncomputable section

namespace Cert.WQkvIdeal.Work

open Cert.WQkvIdeal Cert.WQkvIdeal.Gen Idealize.ShloMosaic Idealize.ShloMosaic.TcCoe Idealize.SL.Sem

variable (A : FVec Ideal S2048x1024 .bf16) (B : FVec Ideal S2048x1536 .bf16) (S : FVec Ideal S1024x1536 .f32)

/-- The first block of rows' part of the weight's gradient. -/
theorem pay2_at (k : Fin 1024) (n : Fin 1536) : (show EReal from k0_pay2 (F := Ideal) A B (ix2 k n)) = ∑ p : Fin 2048, (show EReal from A (ix2 p k)) * (show EReal from B (ix2 p n)) := by
  pointwise [k0_pay2, k0_pay1]

/-- A later block of rows adds its part to the running sum. -/
theorem pay3_at (k : Fin 1024) (n : Fin 1536) : (show EReal from k0_pay3 (F := Ideal) A B S (ix2 k n)) = S (ix2 k n) + ∑ p : Fin 2048, (show EReal from A (ix2 p k)) * (show EReal from B (ix2 p n)) := by
  pointwise [k0_pay3, k0_pay1]

/-- The sum is stored in the narrower format. -/
theorem pay4_at (k : Fin 1024) (n : Fin 1536) : (show EReal from k0_pay4 (F := Ideal) S (ix2 k n)) = S (ix2 k n) := by
  pointwise [k0_pay4]

end Cert.WQkvIdeal.Work

end
-- ==== Proof.WQkvRef.lean ====
/- The reference of the gradient of the input weight's query, key and value columns, cut into its stages, and each read at an index. -/
module

public import proofs.«01_k».proof.Proof.Gen.WQkvRefIdeal.Run
public import proofs.«01_k».proof.Proof.Scalars
public import Idealize.ShloMosaic.Lib.Pointwise

@[expose] public section

set_option maxRecDepth 16384

noncomputable section

namespace Cert.WQkvRefIdeal.Work

open Cert.WQkvRefIdeal Cert.WQkvRefIdeal.Gen Idealize.ShloMosaic Idealize.ShloMosaic.TcCoe Idealize.SL.Sem

/-- The rows the weight multiplies: normalised by the root of the mean of their squares, and scaled. -/
def uR (X : FVec Ideal S8192x1024 .f32) (G : FVec Ideal S1x1024 .f32) : FVec Ideal S8192x1024 .f32 :=
  mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 G)

/-- The gradient of the weight: the rows' columns against the columns of the incoming gradient. -/
def wR (U : FVec Ideal S8192x1024 .f32) (D : FVec Ideal S8192x1536 .f32) : FVec Ideal S1024x1536 .f32 :=
  transpose S1024x1536 [1, 0] (Host.dotGeneral dot_S8192x1536_S8192x1024_S1536x1024_0_0_1_1_n_n none D U) transposes_S1536x1024_S1024x1536_1_0

/-- The same, read at an index. -/
theorem wR_at (U : FVec Ideal S8192x1024 .f32) (D : FVec Ideal S8192x1536 .f32) (k : Fin 1024) (n : Fin 1536) :
    wR U D (ix2 k n) = ∑ r : Fin 8192, U (ix2 r k) * D (ix2 r n) := by
  pointwise [wR]
  exact Finset.sum_congr rfl fun r _ => mul_comm _ _

/-- The reference's run, its result by its stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = truncf .bf16 (wR (uR (m ((c.tc : Thread nD τ).loc main_arg0)) (m ((c.tc : Thread nD τ).loc main_arg1))) (m ((c.tc : Thread nD τ).loc main_arg2))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, hk⟩ := h c
  refine ⟨h0.trans ?_, hk⟩
  delta wR uR; rfl

end Cert.WQkvRefIdeal.Work

end
-- ==== Proof.WQkvValue.lean ====
/- What the output array of the gradient of the input weight's query, key and value columns holds after the run. -/
module

public import proofs.«01_k».proof.Proof.Gen.WQkvIdeal.Value
public import proofs.«01_k».proof.Proof.WQkvPure
public import proofs.«01_k».proof.Proof.WQkvRef
public import Idealize.ShloMosaic.Lib.Pipeline.ValueKit
public import Idealize.ShloMosaic.Lib.Pipeline.ReadBack
public import Idealize.ShloMosaic.Lib.Claim

@[expose] public section

set_option maxRecDepth 16384

noncomputable section

namespace Cert.WQkvIdeal.Work

open Cert.WQkvIdeal Cert.WQkvIdeal.Gen Idealize.ShloMosaic Idealize.ShloMosaic.TcCoe Idealize.SL.Sem
open Idealize.ShloMosaic.Pipeline (Dat)

variable (m : (ℓ : Loc nD τ sig) → Buf (Elt Ideal) ℓ)

/-- Where each block lies: blocks of 2048 rows of the two factors, and the block of the weight's gradient that four points make. -/
theorem idx : ∀ t : Fin cfg0.N, win0_0.index t = ![t.val % 4, 0] ∧ win0_1.index t = ![t.val % 4, 0] ∧ win0_2.index t = ![0, 0] :=
  (by decide +kernel : ∀ t : Fin grid0.N, _)

/-- The arguments: the rows, the norm's scale and the incoming gradient; the rows the weight multiplies are computed on the host. -/
abbrev aX (c : Dev nD) : FVec Ideal S8192x1024 .f32 := m ((c : Thread nD τ).loc main_arg0)
abbrev aG (c : Dev nD) : FVec Ideal S1x1024 .f32 := m ((c : Thread nD τ).loc main_arg1)
abbrev aD (c : Dev nD) : FVec Ideal S8192x1536 .f32 := m ((c : Thread nD τ).loc main_arg2)
abbrev aU (c : Dev nD) : FVec Ideal S8192x1024 .f32 := WQkvRefIdeal.Work.uR (aX m c) (aG m c)
abbrev rU (c : Dev nD) : FVec Ideal S8192x1024 .f32 := aU m c

theorem blk0 (c : Dev nD) (t : Fin cfg0.N) (r : Fin 2048) (k : Fin 1024) (R : Fin 8192) (K : Fin 1024)
    (hR : R.val = t.val % 4 * 2048 + r.val) (hK : K.val = k.val) : (show EReal from iblk m c 0 t (ix2 r k)) = aU m c (ix2 R K) := by
  blk_simp [iblk]
  entry_read
  show aU m c _ = _
  blk_ext [idx t]
theorem blk1 (c : Dev nD) (t : Fin cfg0.N) (r : Fin 2048) (n : Fin 1536) (R : Fin 8192) (L : Fin 1536)
    (hR : R.val = t.val % 4 * 2048 + r.val) (hL : L.val = n.val) : (show EReal from iblk m c 1 t (ix2 r n)) = aD m c (ix2 R L) := by
  blk_simp [iblk]
  entry_read
  show aD m c _ = _
  blk_ext [idx t]

/-- The first of the four points leaves its part in the running sum. -/
theorem acc_first (c : Dev nD) (t : Fin cfg0.N) (h0 : t.val % 4 = 0) : (outsAt0 m c t.val t.isLt).2 = k0_pay2 (iblk m c 0 t) (iblk m c 1 t) := by
  have hlt : t.val < 4 := lt_of_lt_of_eq t.isLt N_0
  rw [outsAt0_A m c t h0 (by omega) (by omega)]
  frame_out
/-- Each later point adds its part to what the point before left. -/
theorem acc_step (c : Dev nD) (t : Fin cfg0.N) (h0 : ¬ t.val % 4 = 0) :
    (outsAt0 m c t.val t.isLt).2 = k0_pay3 (iblk m c 0 t) (iblk m c 1 t) (outsAt0 m c (t.val - 1) (Nat.lt_of_le_of_lt (Nat.sub_le _ _) t.isLt)).2 := by
  have hlt : t.val < 4 := lt_of_lt_of_eq t.isLt N_0
  by_cases h2 : t.val % 4 = 3
  · conv_lhs => rw [outsAt0_C m c t h0 (by omega) h2]
    frame_out
    rw [read_unread_whole]
  · conv_lhs => rw [outsAt0_B m c t h0 (by omega) h2]
    frame_out
    rw [read_unread_whole]

/-- What one point adds: its rows' products. -/
def part (c : Dev nD) (t : Fin cfg0.N) (y : S1024x1536.Idx) : EReal := k0_pay2 (F := Ideal) (iblk m c 0 t) (iblk m c 1 t) y

/-- After the last of the four points the running sum is the sum over all the rows. -/
theorem acc_last (c : Dev nD) (t : Fin cfg0.N) (hr : t.val % 4 = 3) (k : Fin 1024) (n : Fin 1536) :
    (outsAt0 m c t.val t.isLt).2 (ix2 k n) = ∑ R : Fin 8192, rU m c (ix2 R k) * aD m c (ix2 R n) := by
  have hlt : t.val < 4 := lt_of_lt_of_eq t.isLt N_0
  rw [Pipeline.eq_sum_fin_of_reset_step_apply_of_flush (fun n h => (outsAt0 m c n h).2) 4 (fun _ => (0 : EReal)) (fun t j => part m c t j)
    (fun t h j => (congrFun (acc_first m c t h) j).trans (zero_add _).symm)
    (fun t h j => by
      refine (congrFun (acc_step m c t h) j).trans ?_
      idx_vars j
      refine (pay3_at _ _ _ j0 j1).trans ?_
      exact congrArg (_ + ·) (pay2_at _ _ j0 j1).symm) t hr (ix2 k n), zero_add]
  rw [Fin.sum_univ_tiles 4 2048 rfl fun R : Fin 8192 => rU m c (ix2 R k) * aD m c (ix2 R n)]
  refine Finset.sum_congr rfl fun s _ => (pay2_at _ _ k n).trans (Finset.sum_congr rfl fun r _ => ?_)
  exact congrArg₂ (· * ·) (blk0 m c _ r k _ _ (by dsimp only; omega) (by dsimp only)) (blk1 m c _ r n _ _ (by dsimp only; omega) (by dsimp only))

/-- The last point stores the running sum. -/
theorem out_last (c : Dev nD) (t : Fin cfg0.N) (h2 : t.val % 4 = 3) : (outsAt0 m c t.val t.isLt).1 = k0_pay4 (outsAt0 m c t.val t.isLt).2 := by
  have hlt : t.val < 4 := lt_of_lt_of_eq t.isLt N_0
  rw [acc_step m c t (by omega)]
  conv_lhs => rw [outsAt0_C m c t (by omega) (by omega) h2]
  frame_out
  rw [read_unread_whole]

theorem out_at (c : Dev nD) (t : Fin cfg0.N) (h2 : t.val % 4 = 3) (k : Fin 1024) (n : Fin 1536) :
    (show EReal from k0_pay4 (F := Ideal) (outsAt0 m c t.val t.isLt).2 (ix2 k n)) = WQkvRefIdeal.Work.wR (rU m c) (aD m c) (ix2 k n) :=
  (pay4_at _ k n).trans ((acc_last m c t h2 k n).trans (WQkvRefIdeal.Work.wR_at _ _ _ _).symm)

/-- The output window: the gradient of the weight. -/
theorem final2 (c : Dev nD) : (dats m 0 c).arrAt 2 (cfgs 0).N = truncf .bf16 (WQkvRefIdeal.Work.wR (rU m c) (aD m c)) bitsLt_bf16_f32 := by
  refine (dats m 0 c).arrAt_eq_of_covers 2 _ (by decide +kernel) fun t hf y => ?_
  have h2 : t.val % 4 = 3 := (flush0_2 t).mp hf
  blk_simp
  rw [after0_2, out_last m c t h2]
  idx_vars y
  refine (out_at m c t h2 y0 y1).trans ?_
  show WQkvRefIdeal.Work.wR (rU m c) (aD m c) _ = WQkvRefIdeal.Work.wR (rU m c) (aD m c) _
  blk_ext [idx t]

end Cert.WQkvIdeal.Work

end
-- ==== Proof.WQkvClaim.lean ====
/- The claim that the gradient of the input weight's query, key and value columns and its reference compute the same result. -/
module

public import proofs.«01_k».proof.Defs
public import proofs.«01_k».proof.Proof.WQkvValue
public import proofs.«01_k».proof.Proof.MixScalars
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
/-- The gradient of the input weight's query, key and value columns computes its reference's result, at all arguments. -/
theorem wqkv_algebraic : @Cert.algebraic_WQkvIdeal_WQkvRefIdeal Cert.WQkvIdeal.Gen.facts Cert.WQkvRefIdeal.Gen.facts := by
  pair_intro
  · run_from Cert.WQkvIdeal.Gen.run_main m g
  · have hr := Cert.WQkvRefIdeal.Work.run_named m' g'
    refine (θ_run Cert.WQkvRefIdeal.defs _ _).mono ?_ hr
    intro r h c
    obtain ⟨h0, hk⟩ := h c
    obtain ⟨e0, e1, e2⟩ := hagree c
    refine ⟨?_, hk⟩
    refine h0.trans ?_
    exact (Scalars.congr3 (fun X G D => truncf .bf16 (Cert.WQkvRefIdeal.Work.wR (Cert.WQkvRefIdeal.Work.uR X G) D) Cert.WQkvRefIdeal.Gen.bitsLt_bf16_f32) e0 e1 e2).trans (Cert.WQkvIdeal.Work.final2 m c).symm

end Cert.Proof

end
-- ==== Proof.FwdScalars.lean ====
/- Facts about single extended reals that the loss of the forward pass and its gradient are compared with. -/
module

public import proofs.«01_k».proof.Proof.MixScalars

@[expose] public section

noncomputable section

namespace Cert.Scalars

open Idealize.ShloMosaic

/-- The words of the floats 1/2, 1, 2, 1/1024 and 1/2048 read as these real numbers. -/
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_1o1024 : Ideal.ofBits .f32 0x3A800000#32 = ((1 / 1024 : ℝ) : EReal) := by
  simp [Ideal.ofBits, Ideal.ieee, -EReal.coe_mul]; norm_num
theorem ofBits_1o2048 : Ideal.ofBits .f32 0x3A000000#32 = ((1 / 2048 : ℝ) : EReal) := by
  simp [Ideal.ofBits, Ideal.ieee, -EReal.coe_mul]; norm_num

/-- The gradient of half the mean of the squares, one element: the factor the kernel multiplies with. -/
theorem loss_bwd (e : EReal) : e * Ideal.ofBits .f32 0x3A800000#32
    = Ideal.div (Ideal.ofBits .f32 0x3F000000#32 * 1) (Ideal.ofBits .f32 0x44800000#32) * (Ideal.ofBits .f32 0x40000000#32 * e) := by
  rw [div_1024, mul_one, ofBits_1o1024, ofBits_half, ofBits_two, ← mul_assoc, mul_comm e, ← EReal.coe_mul, ← EReal.coe_mul]
  congr 2
  norm_num

/-- The sum of the rows' losses: the constant factors may be applied once, to the sum of all the squares. -/
theorem loss_sum {n : ℕ} (f : Fin n → EReal) : (∑ r, f r) * Ideal.ofBits .f32 0x3A000000#32
    = ∑ r, Ideal.ofBits .f32 0x3F000000#32 * Ideal.div (f r) (Ideal.ofBits .f32 0x44800000#32) := by
  rw [ofBits_1o2048, ← sum_mul_coe _ _ (by norm_num)]
  refine Finset.sum_congr rfl fun r _ => ?_
  rw [div_1024, ofBits_half, mul_comm ((1 / 2 : ℝ) : EReal), mul_assoc, ← EReal.coe_mul]
  congr 2
  norm_num

end Cert.Scalars

end
-- ==== Proof.FwdPure.lean ====
/- What the body of the forward pass of the mixing layer and the feed-forward layer stores, read at an index, over blocks that are variables. -/
module

public import proofs.«01_k».proof.Proof.Gen.FwdIdeal.Skeleton
public import proofs.«01_k».proof.Proof.FwdScalars
public import Idealize.ShloMosaic.Lib.Pointwise

@[expose] public section

set_option maxRecDepth 16384

noncomputable section

namespace Cert.FwdIdeal.Work

open Cert.FwdIdeal Cert.FwdIdeal.Gen Idealize.ShloMosaic Idealize.ShloMosaic.TcCoe Idealize.SL.Sem

variable (O H : FVec Ideal S256x1024 .bf16) (WA WC WO : FVec Ideal S1024x1024 .bf16) (P Q P' Q' : FVec Ideal S256x512 .bf16)
  (A C D : FVec Ideal S256x1024 .f32) (X TG : FVec Ideal S256x1024 .f32) (G : FVec Ideal S1x1024 .f32) (U : FVec Ideal S256x1024 .bf16)
  (W : FVec Ideal S512x1024 .bf16) (HM : FVec Ideal S256x4096 .bf16) (W2 : FVec Ideal S4096x1024 .bf16)

/-- The float one, as the body writes it. -/
abbrev one : Ideal .f32 := Scalar.ofBits .f32 0x3F800000#32

/-- The zeros a product starts from, as the body writes them. -/
abbrev zer : FVec Ideal S256x1024 .f32 := constant S256x1024 .f32 0x00000000#32

/-- Two column strips of a gate's values side by side. -/
def gB : FVec Ideal S256x1024 .bf16 :=
  concatenate S256x1024 1 [⟨S256x512, P⟩, ⟨S256x512, Q⟩] concatenates_S256x512_S256x512_S256x1024_d1

/-- The two branches' rows after their output weights. -/
theorem pay5_at (r : Fin 256) (k : Fin 1024) : (show EReal from k0_pay5 (F := Ideal) O WA (ix2 r k)) = ∑ l : Fin 1024, (show EReal from O (ix2 r l)) * WA (ix2 l k) := by
  pointwise [k0_pay5]
theorem pay6_at (r : Fin 256) (k : Fin 1024) : (show EReal from k0_pay6 (F := Ideal) H WC (ix2 r k)) = ∑ l : Fin 1024, (show EReal from H (ix2 r l)) * WC (ix2 l k) := by
  pointwise [k0_pay6]

/-- The first branch's rows times its gate. -/
theorem pay7_at (r : Fin 256) (k : Fin 1024) : (show EReal from k0_pay7 (F := Ideal) O WA P Q (ix2 r k))
    = Ideal.logistic (gB P Q (ix2 r k)) * ∑ l : Fin 1024, (show EReal from O (ix2 r l)) * WA (ix2 l k) := by
  pointwise [k0_pay7, gB, pay5_at]
  simp only [zero_sub]
  rfl

/-- The two branches' gated rows added, in the narrower format. -/
theorem pay9_at (r : Fin 256) (k : Fin 1024) : (show EReal from k0_pay9 (F := Ideal) C D (k0_pay8 (F := Ideal) P' Q') one (ix2 r k))
    = D (ix2 r k) + Ideal.logistic (gB P' Q' (ix2 r k)) * C (ix2 r k) := by
  pointwise [k0_pay9, k0_pay8, gB]
  simp only [zero_sub]
  rfl

/-- The branches' rows in the narrower format. -/
theorem pay10_at (r : Fin 256) (k : Fin 1024) : (show EReal from k0_pay10 (F := Ideal) A (ix2 r k)) = A (ix2 r k) := by
  pointwise [k0_pay10]
theorem pay11_at (r : Fin 256) (k : Fin 1024) : (show EReal from k0_pay11 (F := Ideal) A (ix2 r k)) = A (ix2 r k) := by
  pointwise [k0_pay11]

/-- The rows after the mixing layer. -/
theorem pay12_at (A C D : FVec Ideal S256x1024 .f32) (r : Fin 256) (k : Fin 1024) : (show EReal from k0_pay12 (F := Ideal) C D A one X WO (ix2 r k))
    = X (ix2 r k) + ∑ l : Fin 1024, (show EReal from k0_pay9 (F := Ideal) C D A one (ix2 r l)) * WO (ix2 l k) := by
  pointwise [k0_pay12]

/-- The normed rows, in the narrower format. -/
theorem pay13_at (A C D : FVec Ideal S256x1024 .f32) (r : Fin 256) (k : Fin 1024) : (show EReal from k0_pay13 (F := Ideal) C D A one X WO G (ix2 r k))
    = k0_pay12 (F := Ideal) C D A one X WO (ix2 r k) * (Scalars.rs fun k => k0_pay12 (F := Ideal) C D A one X WO (ix2 r k)) * G (ix2 0 k) := by
  pointwise [k0_pay13]
  rfl

/-- A column strip of the hidden values. -/
def aS (U : FVec Ideal S256x1024 .bf16) (W : FVec Ideal S512x1024 .bf16) (r : Fin 256) (l : Fin 512) : EReal :=
  ∑ k : Fin 1024, U (ix2 r k) * W (ix2 l k)

/-- The strips of the hidden values, as the stores compute them, -/
theorem strip16 (r : Fin 256) (l : Fin 512) : (show EReal from k0_pay16 (F := Ideal) U (k0_pay14 (F := Ideal) W) (ix2 r l)) = aS U W r l := by
  pointwise [k0_pay16, k0_pay15, k0_pay14, aS]
theorem strip19 (r : Fin 256) (l : Fin 512) : (show EReal from k0_pay19 (F := Ideal) U W (ix2 r l)) = aS U W r l := by
  pointwise [k0_pay19, k0_pay18, k0_pay14, aS]
theorem strip22 (r : Fin 256) (l : Fin 512) : (show EReal from k0_pay22 (F := Ideal) U W (ix2 r l)) = aS U W r l := by
  pointwise [k0_pay22, k0_pay21, k0_pay14, aS]
theorem strip26 (r : Fin 256) (l : Fin 512) : (show EReal from k0_pay26 (F := Ideal) U W (ix2 r l)) = aS U W r l := by
  pointwise [k0_pay26, k0_pay25, k0_pay14, aS]
theorem strip29 (r : Fin 256) (l : Fin 512) : (show EReal from k0_pay29 (F := Ideal) U W (ix2 r l)) = aS U W r l := by
  pointwise [k0_pay29, k0_pay28, k0_pay14, aS]
theorem strip32 (r : Fin 256) (l : Fin 512) : (show EReal from k0_pay32 (F := Ideal) U W (ix2 r l)) = aS U W r l := by
  pointwise [k0_pay32, k0_pay31, k0_pay14, aS]
theorem strip36 (r : Fin 256) (l : Fin 512) : (show EReal from k0_pay36 (F := Ideal) U W (ix2 r l)) = aS U W r l := by
  pointwise [k0_pay36, k0_pay35, k0_pay14, aS]
theorem strip39 (r : Fin 256) (l : Fin 512) : (show EReal from k0_pay39 (F := Ideal) U W (ix2 r l)) = aS U W r l := by
  pointwise [k0_pay39, k0_pay38, k0_pay14, aS]

/-- and the squares of their positive parts. -/
theorem sq17 (r : Fin 256) (l : Fin 512) : (show EReal from k0_pay17 (F := Ideal) U (k0_pay14 (F := Ideal) W) (ix2 r l)) = max (aS U W r l) 0 * max (aS U W r l) 0 := by
  pointwise [k0_pay17, k0_pay15, k0_pay14, aS]
theorem sq20 (r : Fin 256) (l : Fin 512) : (show EReal from k0_pay20 (F := Ideal) U W (ix2 r l)) = max (aS U W r l) 0 * max (aS U W r l) 0 := by
  pointwise [k0_pay20, k0_pay18, k0_pay14, aS]
theorem sq23 (r : Fin 256) (l : Fin 512) : (show EReal from k0_pay24 (F := Ideal) (k0_pay23 (F := Ideal) U W) (ix2 r l)) = max (aS U W r l) 0 * max (aS U W r l) 0 := by
  pointwise [k0_pay23, k0_pay21, k0_pay14, aS, k0_pay24]
theorem sq27 (r : Fin 256) (l : Fin 512) : (show EReal from k0_pay27 (F := Ideal) U W (ix2 r l)) = max (aS U W r l) 0 * max (aS U W r l) 0 := by
  pointwise [k0_pay27, k0_pay25, k0_pay14, aS]
theorem sq30 (r : Fin 256) (l : Fin 512) : (show EReal from k0_pay30 (F := Ideal) U W (ix2 r l)) = max (aS U W r l) 0 * max (aS U W r l) 0 := by
  pointwise [k0_pay30, k0_pay28, k0_pay14, aS]
theorem sq33 (r : Fin 256) (l : Fin 512) : (show EReal from k0_pay34 (F := Ideal) (k0_pay33 (F := Ideal) U W) (ix2 r l)) = max (aS U W r l) 0 * max (aS U W r l) 0 := by
  pointwise [k0_pay33, k0_pay31, k0_pay14, aS, k0_pay34]
theorem sq37 (r : Fin 256) (l : Fin 512) : (show EReal from k0_pay37 (F := Ideal) U W (ix2 r l)) = max (aS U W r l) 0 * max (aS U W r l) 0 := by
  pointwise [k0_pay37, k0_pay35, k0_pay14, aS]
theorem sq40 (r : Fin 256) (l : Fin 512) : (show EReal from k0_pay40 (F := Ideal) U W (ix2 r l)) = max (aS U W r l) 0 * max (aS U W r l) 0 := by
  pointwise [k0_pay40, k0_pay38, k0_pay14, aS]

/-- The layer's result less the target. -/
theorem pay1_at (r : Fin 256) (k : Fin 1024) : k0_pay1 (F := Ideal) X HM (k0_pay41 (F := Ideal) W2) zer TG (ix2 r k)
    = X (ix2 r k) + (∑ f : Fin 4096, HM (ix2 r f) * W2 (ix2 f k)) - TG (ix2 r k) := by
  pointwise [k0_pay1, k0_pay41]

/-- The gradient of the loss, also in the narrower format. -/
theorem pay2_at (W2' : FVec Ideal S4096x1024 .bf16) (Z : FVec Ideal S256x1024 .f32) (r : Fin 256) (k : Fin 1024) : k0_pay2 (F := Ideal) X HM W2' Z TG (ix2 r k)
    = k0_pay1 (F := Ideal) X HM W2' Z TG (ix2 r k) * Ideal.ofBits .f32 0x3A800000#32 := by
  pointwise [k0_pay2]
theorem pay3_at (W2' : FVec Ideal S4096x1024 .bf16) (Z : FVec Ideal S256x1024 .f32) (r : Fin 256) (k : Fin 1024) : (show EReal from k0_pay3 (F := Ideal) X HM W2' Z TG (ix2 r k))
    = k0_pay2 (F := Ideal) X HM W2' Z TG (ix2 r k) := by
  pointwise [k0_pay3]

/-- The loss of the block's rows, spread over a block. -/
theorem pay4_at (W2' : FVec Ideal S4096x1024 .bf16) (Z : FVec Ideal S256x1024 .f32) (b : Fin 1) (i : Fin 8) (j : Fin 128) : k0_pay4 (F := Ideal) X HM W2' Z TG (ix3 b i j)
    = (∑ r : Fin 256, ∑ k : Fin 1024, k0_pay1 (F := Ideal) X HM W2' Z TG (ix2 r k) * k0_pay1 (F := Ideal) X HM W2' Z TG (ix2 r k)) * Ideal.ofBits .f32 0x3A000000#32 := by
  pointwise [k0_pay4]

end Cert.FwdIdeal.Work

end
-- ==== Proof.FwdRef.lean ====
/- The reference of the forward pass of the mixing layer and the feed-forward layer, cut into the stages its mathematics has, and each stage read at an index. -/
module

public import proofs.«01_k».proof.Proof.Gen.FwdRefIdeal.Run
public import proofs.«01_k».proof.Proof.FwdScalars
public import Idealize.ShloMosaic.Lib.Pointwise

@[expose] public section

set_option maxRecDepth 16384

noncomputable section

namespace Cert.FwdRefIdeal.Work

open Cert.FwdRefIdeal Cert.FwdRefIdeal.Gen Idealize.ShloMosaic Idealize.ShloMosaic.TcCoe Idealize.SL.Sem

/-- The logistic function. -/
def sgR (X : FVec Ideal S8192x1024 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf X)))

/-- The product of rows with a weight. -/
def fwdR (X : FVec Ideal S8192x1024 .f32) (W : FVec Ideal S1024x1024 .f32) : FVec Ideal S8192x1024 .f32 :=
  Host.dotGeneral dot_S8192x1024_S1024x1024_S8192x1024_1_0_0_1_n_n none X W

/-- The two gates' values, of the projected rows. -/
def gaR (PR : FVec Ideal S8192x5632 .f32) : FVec Ideal S8192x1024 .f32 :=
  extractStridedSlice S8192x1024 ![0, 0] (extractStridedSlice S8192x2048 ![0, 3584] PR slices_S8192x5632_S8192x2048_0_3584) slices_S8192x2048_S8192x1024_0_0
def gcR (PR : FVec Ideal S8192x5632 .f32) : FVec Ideal S8192x1024 .f32 :=
  extractStridedSlice S8192x1024 ![0, 1024] (extractStridedSlice S8192x2048 ![0, 3584] PR slices_S8192x5632_S8192x2048_0_3584) slices_S8192x2048_S8192x1024_0_1024

/-- The two branches' rows, gated and added. -/
def mgR (A C GA GC : FVec Ideal S8192x1024 .f32) : FVec Ideal S8192x1024 .f32 := addf (mulf (sgR GA) A) (mulf (sgR GC) C)

/-- The rows after the mixing layer. -/
def x1R (X M : FVec Ideal S8192x1024 .f32) (WO : FVec Ideal S1024x1024 .f32) : FVec Ideal S8192x1024 .f32 := addf X (fwdR M WO)

/-- The mean of the squares of each row plus the small constant. -/
def msR (X : FVec Ideal S8192x1024 .f32) : FVec Ideal S8192x1 .f32 :=
  addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The rows after the norm. -/
def uR (X : FVec Ideal S8192x1024 .f32) (G : FVec Ideal S1x1024 .f32) : FVec Ideal S8192x1024 .f32 :=
  mulf (mulf X (broadcastInDim S8192x1024 ![0, 1] bcast_S8192x1_S8192x1024_0_1 (Host.rsqrt (msR X)))) (broadcastInDim S8192x1024 ![0, 1] bcast_S1x1024_S8192x1024_0_1 G)

/-- The hidden values before the square of the positive part. -/
def aR (U : FVec Ideal S8192x1024 .f32) (W1 : FVec Ideal S1024x4096 .f32) : FVec Ideal S8192x4096 .f32 :=
  Host.dotGeneral dot_S8192x1024_S1024x4096_S8192x4096_1_0_0_1_n_n none U W1

/-- The positive part of the hidden values. -/
def hR (A : FVec Ideal S8192x4096 .f32) : FVec Ideal S8192x4096 .f32 :=
  maximumf A (broadcastInDim S8192x4096 ![] bcast_S_S8192x4096 (constant S_ .f32 0x00000000#32))

/-- The layer's result less the target. -/
def eR (X1 : FVec Ideal S8192x1024 .f32) (A : FVec Ideal S8192x4096 .f32) (W2 : FVec Ideal S4096x1024 .f32) (TG : FVec Ideal S8192x1024 .f32) : FVec Ideal S8192x1024 .f32 :=
  subf (addf X1 (Host.dotGeneral dot_S8192x4096_S4096x1024_S8192x1024_1_0_0_1_n_n none (mulf (hR A) (hR A)) W2)) TG

/-- The gradient of the loss at the layer's result. -/
def dyR (E : FVec Ideal S8192x1024 .f32) : FVec Ideal S8192x1024 .f32 :=
  mulf (broadcastInDim S8192x1024 ![0] bcast_S8192_S8192x1024_0 (Host.divf (mulf (broadcastInDim S8192 ![] bcast_S_S8192 (constant S_ .f32 0x3F000000#32)) (broadcastInDim S8192 ![] bcast_S_S8192 (constant S_ .f32 0x3F800000#32))) (broadcastInDim S8192 ![] bcast_S_S8192 (constant S_ .f32 0x44800000#32)))) (mulf (broadcastInDim S8192x1024 ![] bcast_S_S8192x1024 (constant S_ .f32 0x40000000#32)) E)

/-- The loss of each row: half the mean of the squares. -/
def ltR (E : FVec Ideal S8192x1024 .f32) : FVec Ideal S8192 .f32 :=
  mulf (broadcastInDim S8192 ![] bcast_S_S8192 (constant S_ .f32 0x3F000000#32)) (Host.divf (Host.reduceAdd (mulf E E) (constant S_ .f32 0x00000000#32) reducesTo_S8192x1024_S8192_d1 h_S_) (broadcastInDim S8192 ![] bcast_S_S8192 (constant S_ .f32 0x44800000#32)))

/-- The loss summed over groups of rows, each sum spread over a block. -/
def loR (E : FVec Ideal S8192x1024 .f32) : FVec Ideal S32x8x128 .f32 :=
  broadcastInDim S32x8x128 ![0, 1, 2] bcast_S32x1x1_S32x8x128_0_1_2 (broadcastInDim S32x1x1 ![0] bcast_S32_S32x1x1_0 (Host.reduceAdd (shapeCast _ (ltR E) shapeCasts_S8192_S32x256) (constant S_ .f32 0x00000000#32) reducesTo_S32x256_S32_d1 h_S_))

section
variable (m : (ℓ : Loc nD τ sig) → Buf (Elt Ideal) ℓ) (c : Dev nD)

/-- The reference's arguments. -/
abbrev aX : FVec Ideal S8192x1024 .f32 := m ((c.tc : Thread nD τ).loc main_arg0)
abbrev aO : FVec Ideal S8192x1024 .f32 := m ((c.tc : Thread nD τ).loc main_arg1)
abbrev aH : FVec Ideal S8192x1024 .f32 := m ((c.tc : Thread nD τ).loc main_arg2)
abbrev aPR : FVec Ideal S8192x5632 .f32 := m ((c.tc : Thread nD τ).loc main_arg3)
abbrev aWA : FVec Ideal S1024x1024 .f32 := m ((c.tc : Thread nD τ).loc main_arg4)
abbrev aWC : FVec Ideal S1024x1024 .f32 := m ((c.tc : Thread nD τ).loc main_arg5)
abbrev aWO : FVec Ideal S1024x1024 .f32 := m ((c.tc : Thread nD τ).loc main_arg6)
abbrev aG : FVec Ideal S1x1024 .f32 := m ((c.tc : Thread nD τ).loc main_arg7)
abbrev aW1 : FVec Ideal S1024x4096 .f32 := m ((c.tc : Thread nD τ).loc main_arg8)
abbrev aW2 : FVec Ideal S4096x1024 .f32 := m ((c.tc : Thread nD τ).loc main_arg9)
abbrev aTG : FVec Ideal S8192x1024 .f32 := m ((c.tc : Thread nD τ).loc main_arg10)

end

section
variable (X : FVec Ideal S8192x1024 .f32) (O : FVec Ideal S8192x1024 .f32) (H : FVec Ideal S8192x1024 .f32) (PR : FVec Ideal S8192x5632 .f32) (WA : FVec Ideal S1024x1024 .f32) (WC : FVec Ideal S1024x1024 .f32) (WO : FVec Ideal S1024x1024 .f32) (G : FVec Ideal S1x1024 .f32) (W1 : FVec Ideal S1024x4096 .f32) (W2 : FVec Ideal S4096x1024 .f32)
  (TG : FVec Ideal S8192x1024 .f32)

/-- The reference's stages, over its arguments: the merged rows, the rows after the mixing layer, the normed rows, the hidden values and
the layer's result less the target. -/
def MG : FVec Ideal S8192x1024 .f32 := mgR (fwdR O WA) (fwdR H WC) (gaR PR) (gcR PR)
def X1 : FVec Ideal S8192x1024 .f32 := x1R X (MG O H PR WA WC) WO
def U2 : FVec Ideal S8192x1024 .f32 := uR (X1 X O H PR WA WC WO) G
def AA : FVec Ideal S8192x4096 .f32 := aR (U2 X O H PR WA WC WO G) W1
def EE : FVec Ideal S8192x1024 .f32 := eR (X1 X O H PR WA WC WO) (AA X O H PR WA WC WO G W1) W2 TG

end

set_option maxHeartbeats 2000000 in
/-- The reference's run, its nine results by their stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = X1 (aX m c) (aO m c) (aH m c) (aPR m c) (aWA m c) (aWC m c) (aWO m c)
      ∧ r.2.mem ((c.tc : Thread nD τ).loc main_v59) = truncf .bf16 (fwdR (aO m c) (aWA m c)) bitsLt_bf16_f32
      ∧ r.2.mem ((c.tc : Thread nD τ).loc main_v60) = truncf .bf16 (fwdR (aH m c) (aWC m c)) bitsLt_bf16_f32
      ∧ r.2.mem ((c.tc : Thread nD τ).loc main_v61) = truncf .bf16 (MG (aO m c) (aH m c) (aPR m c) (aWA m c) (aWC m c)) bitsLt_bf16_f32
      ∧ r.2.mem ((c.tc : Thread nD τ).loc main_v62) = truncf .bf16 (AA (aX m c) (aO m c) (aH m c) (aPR m c) (aWA m c) (aWC m c) (aWO m c) (aG m c) (aW1 m c)) bitsLt_bf16_f32
      ∧ r.2.mem ((c.tc : Thread nD τ).loc main_v63) = truncf .bf16 (U2 (aX m c) (aO m c) (aH m c) (aPR m c) (aWA m c) (aWC m c) (aWO m c) (aG m c)) bitsLt_bf16_f32
      ∧ r.2.mem ((c.tc : Thread nD τ).loc main_v54) = dyR (EE (aX m c) (aO m c) (aH m c) (aPR m c) (aWA m c) (aWC m c) (aWO m c) (aG m c) (aW1 m c) (aW2 m c) (aTG m c))
      ∧ r.2.mem ((c.tc : Thread nD τ).loc main_v64) = truncf .bf16 (dyR (EE (aX m c) (aO m c) (aH m c) (aPR m c) (aWA m c) (aWC m c) (aWO m c) (aG m c) (aW1 m c) (aW2 m c) (aTG m c))) bitsLt_bf16_f32
      ∧ r.2.mem ((c.tc : Thread nD τ).loc main_v58) = loR (EE (aX m c) (aO m c) (aH m c) (aPR m c) (aWA m c) (aWC m c) (aWO m c) (aG m c) (aW1 m c) (aW2 m c) (aTG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Value.run m ρ)
  obtain ⟨h0, h1, h2, h3, h4, h5, h6, h7, h8, hk⟩ := h c
  refine ⟨h0.trans ?_, h1.trans ?_, h2.trans ?_, h3.trans ?_, h4.trans ?_, h5.trans ?_, h6.trans ?_, h7.trans ?_, h8.trans ?_, hk⟩
  · delta X1 x1R MG mgR fwdR sgR gaR gcR; rfl
  · delta fwdR; rfl
  · delta fwdR; rfl
  · delta MG mgR fwdR sgR gaR gcR; rfl
  · delta Value.res_main_v62 AA U2 X1 MG aR uR msR x1R mgR fwdR sgR gaR gcR; rfl
  · delta Value.res_main_v63 U2 X1 MG uR msR x1R mgR fwdR sgR gaR gcR; rfl
  · delta Value.res_main_v54 dyR EE AA U2 X1 MG eR hR aR uR msR x1R mgR fwdR sgR gaR gcR; rfl
  · delta Value.res_main_v64 dyR EE AA U2 X1 MG eR hR aR uR msR x1R mgR fwdR sgR gaR gcR; rfl
  · delta Value.res_main_v58 loR ltR EE AA U2 X1 MG eR hR aR uR msR x1R mgR fwdR sgR gaR gcR; rfl

variable (X A C GA GC M X1 U E TG : FVec Ideal S8192x1024 .f32) (W : FVec Ideal S1024x1024 .f32) (PR : FVec Ideal S8192x5632 .f32) (G : FVec Ideal S1x1024 .f32)
  (W1 : FVec Ideal S1024x4096 .f32) (W2 : FVec Ideal S4096x1024 .f32) (AA : FVec Ideal S8192x4096 .f32)

/-- The stages, read at an index. -/
theorem sgR_at (r : Fin 8192) (k : Fin 1024) : sgR X (ix2 r k) = Ideal.logistic (X (ix2 r k)) := by
  pointwise [sgR]
  rfl
theorem fwdR_at (r : Fin 8192) (k : Fin 1024) : fwdR X W (ix2 r k) = ∑ l : Fin 1024, X (ix2 r l) * W (ix2 l k) := by
  pointwise [fwdR]
theorem gaR_at (r : Fin 8192) (k : Fin 1024) : gaR PR (ix2 r k) = PR (ix2 r ⟨3584 + k.val, by omega⟩) := by
  pointwise [gaR]
theorem gcR_at (r : Fin 8192) (k : Fin 1024) : gcR PR (ix2 r k) = PR (ix2 r ⟨3584 + (1024 + k.val), by omega⟩) := by
  pointwise [gcR]
theorem mgR_at (r : Fin 8192) (k : Fin 1024) : mgR A C GA GC (ix2 r k)
    = Ideal.logistic (GA (ix2 r k)) * A (ix2 r k) + Ideal.logistic (GC (ix2 r k)) * C (ix2 r k) := by
  pointwise [mgR, sgR_at]
theorem x1R_at (r : Fin 8192) (k : Fin 1024) : x1R X M W (ix2 r k) = X (ix2 r k) + ∑ l : Fin 1024, M (ix2 r l) * W (ix2 l k) := by
  pointwise [x1R, fwdR_at]
theorem msR_at (r : Fin 8192) (z : Fin 1) : msR X (ix2 r z) = Scalars.ms fun k => X (ix2 r k) := by
  pointwise [msR, Scalars.ms]
theorem uR_at (r : Fin 8192) (k : Fin 1024) : uR X G (ix2 r k) = X (ix2 r k) * (Scalars.rs fun k => X (ix2 r k)) * G (ix2 0 k) := by
  pointwise [uR, msR_at]
  rfl
theorem aR_at (r : Fin 8192) (f : Fin 4096) : aR U W1 (ix2 r f) = ∑ k : Fin 1024, U (ix2 r k) * W1 (ix2 k f) := by
  pointwise [aR]
theorem hR_at (r : Fin 8192) (f : Fin 4096) : hR AA (ix2 r f) = max (AA (ix2 r f)) 0 := by
  pointwise [hR]
theorem eR_at (r : Fin 8192) (k : Fin 1024) : eR X1 AA W2 TG (ix2 r k)
    = X1 (ix2 r k) + (∑ f : Fin 4096, max (AA (ix2 r f)) 0 * max (AA (ix2 r f)) 0 * W2 (ix2 f k)) - TG (ix2 r k) := by
  pointwise [eR, hR_at]
theorem dyR_at (r : Fin 8192) (k : Fin 1024) : dyR E (ix2 r k) = E (ix2 r k) * Ideal.ofBits .f32 0x3A800000#32 := by
  rw [Scalars.loss_bwd]
  pointwise [dyR]
theorem ltR_at (r : Fin 8192) : ltR E (ix1 r) = Ideal.ofBits .f32 0x3F000000#32 * Ideal.div (∑ k : Fin 1024, E (ix2 r k) * E (ix2 r k)) (Ideal.ofBits .f32 0x44800000#32) := by
  pointwise [ltR]
theorem loR_at (b : Fin 32) (i : Fin 8) (j : Fin 128) : loR E (ix3 b i j)
    = (∑ r : Fin 256, ∑ k : Fin 1024, E (ix2 ⟨b.val * 256 + r.val, by omega⟩ k) * E (ix2 ⟨b.val * 256 + r.val, by omega⟩ k)) * Ideal.ofBits .f32 0x3A000000#32 := by
  rw [Scalars.loss_sum]
  pointwise [loR]
  refine Finset.sum_congr rfl fun r _ => ?_
  exact ltR_at E ⟨b.val * 256 + r.val, by omega⟩

end Cert.FwdRefIdeal.Work

end
-- ==== Proof.FwdValue.lean ====
/- What a point of the forward pass of the mixing layer and the feed-forward layer stores, and what the nine output arrays hold after the run. -/
module

public import proofs.«01_k».proof.Proof.Gen.FwdIdeal.Value
public import proofs.«01_k».proof.Proof.FwdPure
public import proofs.«01_k».proof.Proof.FwdRef
public import Idealize.ShloMosaic.Lib.Pipeline.ValueKit
public import Idealize.ShloMosaic.Lib.Pipeline.ReadBack
public import Idealize.ShloMosaic.Lib.Claim

@[expose] public section

set_option maxRecDepth 16384

noncomputable section

namespace Cert.FwdIdeal.Work

open Cert.FwdIdeal Cert.FwdIdeal.Gen Idealize.ShloMosaic Idealize.ShloMosaic.TcCoe Idealize.SL.Sem

open Idealize.ShloMosaic.Pipeline (Dat)

variable (m : (ℓ : Loc nD τ sig) → Buf (Elt Ideal) ℓ)

/-- Where each block lies: blocks of 256 rows, four column strips of the gates' values, and the whole arrays of the weights and of the scale. -/
theorem idx : ∀ t : Fin cfg0.N, win0_0.index t = ![t.val, 0] ∧ win0_1.index t = ![t.val, 0] ∧ win0_2.index t = ![t.val, 0]
    ∧ win0_3.index t = ![t.val, 7] ∧ win0_4.index t = ![t.val, 8] ∧ win0_5.index t = ![t.val, 9] ∧ win0_6.index t = ![t.val, 10]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0, 0] :=
  (by decide +kernel : ∀ t : Fin grid0.N, _)

/-- The arguments. -/
abbrev aX (c : Dev nD) : FVec Ideal S8192x1024 .f32 := m ((c : Thread nD τ).loc main_arg0)
abbrev aO (c : Dev nD) : FVec Ideal S8192x1024 .f32 := m ((c : Thread nD τ).loc main_arg1)
abbrev aH (c : Dev nD) : FVec Ideal S8192x1024 .f32 := m ((c : Thread nD τ).loc main_arg2)
abbrev aPR (c : Dev nD) : FVec Ideal S8192x5632 .f32 := m ((c : Thread nD τ).loc main_arg3)
abbrev aWA (c : Dev nD) : FVec Ideal S1024x1024 .f32 := m ((c : Thread nD τ).loc main_arg4)
abbrev aWC (c : Dev nD) : FVec Ideal S1024x1024 .f32 := m ((c : Thread nD τ).loc main_arg5)
abbrev aWO (c : Dev nD) : FVec Ideal S1024x1024 .f32 := m ((c : Thread nD τ).loc main_arg6)
abbrev aG (c : Dev nD) : FVec Ideal S1x1024 .f32 := m ((c : Thread nD τ).loc main_arg7)
abbrev aW1 (c : Dev nD) : FVec Ideal S1024x4096 .f32 := m ((c : Thread nD τ).loc main_arg8)
abbrev aW2 (c : Dev nD) : FVec Ideal S4096x1024 .f32 := m ((c : Thread nD τ).loc main_arg9)
abbrev aTG (c : Dev nD) : FVec Ideal S8192x1024 .f32 := m ((c : Thread nD τ).loc main_arg10)

theorem row_lt (t : Fin cfg0.N) (r : Fin 256) : t.val * 256 + r.val < 8192 := by
  have := t.isLt; have : cfg0.N = 32 := N_0; omega

/-- The row of the whole arrays that a row of a block is. -/
abbrev row (t : Fin cfg0.N) (r : Fin 256) : Fin 8192 := ⟨t.val * 256 + r.val, row_lt t r⟩

/-- The blocks a point reads, at an index of the arguments. -/
theorem blk0 (c : Dev nD) (t : Fin cfg0.N) (r : Fin 256) (k : Fin 1024) :
    (show EReal from iblk m c 0 t (ix2 r k)) = aX m c (ix2 (row t r) k) := by
  blk_point [iblk, V, idx t]
theorem blk1 (c : Dev nD) (t : Fin cfg0.N) (r : Fin 256) (k : Fin 1024) :
    (show EReal from iblk m c 1 t (ix2 r k)) = aO m c (ix2 (row t r) k) := by
  blk_simp [iblk]
  entry_read
  show aO m c _ = _
  blk_ext [idx t]
theorem blk2 (c : Dev nD) (t : Fin cfg0.N) (r : Fin 256) (k : Fin 1024) :
    (show EReal from iblk m c 2 t (ix2 r k)) = aH m c (ix2 (row t r) k) := by
  blk_simp [iblk]
  entry_read
  show aH m c _ = _
  blk_ext [idx t]
theorem blk3 (c : Dev nD) (t : Fin cfg0.N) (r : Fin 256) (l : Fin 512) :
    (show EReal from iblk m c 3 t (ix2 r l)) = aPR m c (ix2 (row t r) ⟨3584 + l.val, by omega⟩) := by
  blk_simp [iblk]
  entry_read
  show aPR m c _ = _
  blk_ext [idx t]
theorem blk4 (c : Dev nD) (t : Fin cfg0.N) (r : Fin 256) (l : Fin 512) :
    (show EReal from iblk m c 4 t (ix2 r l)) = aPR m c (ix2 (row t r) ⟨4096 + l.val, by omega⟩) := by
  blk_simp [iblk]
  entry_read
  show aPR m c _ = _
  blk_ext [idx t]
theorem blk5 (c : Dev nD) (t : Fin cfg0.N) (r : Fin 256) (l : Fin 512) :
    (show EReal from iblk m c 5 t (ix2 r l)) = aPR m c (ix2 (row t r) ⟨4608 + l.val, by omega⟩) := by
  blk_simp [iblk]
  entry_read
  show aPR m c _ = _
  blk_ext [idx t]
theorem blk6 (c : Dev nD) (t : Fin cfg0.N) (r : Fin 256) (l : Fin 512) :
    (show EReal from iblk m c 6 t (ix2 r l)) = aPR m c (ix2 (row t r) ⟨5120 + l.val, by omega⟩) := by
  blk_simp [iblk]
  entry_read
  show aPR m c _ = _
  blk_ext [idx t]
theorem blk7 (c : Dev nD) (t : Fin cfg0.N) (l k : Fin 1024) :
    (show EReal from iblk m c 7 t (ix2 l k)) = aWA m c (ix2 l k) := by
  blk_simp [iblk]
  entry_read
  show aWA m c _ = _
  blk_ext [idx t]
theorem blk8 (c : Dev nD) (t : Fin cfg0.N) (l k : Fin 1024) :
    (show EReal from iblk m c 8 t (ix2 l k)) = aWC m c (ix2 l k) := by
  blk_simp [iblk]
  entry_read
  show aWC m c _ = _
  blk_ext [idx t]
theorem blk9 (c : Dev nD) (t : Fin cfg0.N) (l k : Fin 1024) :
    (show EReal from iblk m c 9 t (ix2 l k)) = aWO m c (ix2 l k) := by
  blk_simp [iblk]
  entry_read
  show aWO m c _ = _
  blk_ext [idx t]
theorem blk10 (c : Dev nD) (t : Fin cfg0.N) (z : Fin 1) (k : Fin 1024) :
    (show EReal from iblk m c 10 t (ix2 z k)) = aG m c (ix2 z k) := by
  blk_point [iblk, V, idx t]
theorem blk11 (c : Dev nD) (t : Fin cfg0.N) (f : Fin 4096) (k : Fin 1024) :
    (show EReal from iblk m c 11 t (ix2 f k)) = aW1 m c (ix2 k f) := by
  blk_simp [iblk]
  entry_read
  refine Eq.trans (congrArg _ (show _ = (ix2 f k : S4096x1024.Idx) from by blk_ext [idx t])) ?_
  pointwise
theorem blk12 (c : Dev nD) (t : Fin cfg0.N) (f : Fin 4096) (k : Fin 1024) :
    (show EReal from iblk m c 12 t (ix2 f k)) = aW2 m c (ix2 f k) := by
  blk_simp [iblk]
  entry_read
  show aW2 m c _ = _
  blk_ext [idx t]
theorem blk13 (c : Dev nD) (t : Fin cfg0.N) (r : Fin 256) (k : Fin 1024) :
    (show EReal from iblk m c 13 t (ix2 r k)) = aTG m c (ix2 (row t r) k) := by
  blk_point [iblk, V, idx t]

/-- The reference's stages, over the arguments. -/
abbrev rMG (c : Dev nD) : FVec Ideal S8192x1024 .f32 := FwdRefIdeal.Work.MG (aO m c) (aH m c) (aPR m c) (aWA m c) (aWC m c)
abbrev rX1 (c : Dev nD) : FVec Ideal S8192x1024 .f32 := FwdRefIdeal.Work.X1 (aX m c) (aO m c) (aH m c) (aPR m c) (aWA m c) (aWC m c) (aWO m c)
abbrev rU2 (c : Dev nD) : FVec Ideal S8192x1024 .f32 := FwdRefIdeal.Work.U2 (aX m c) (aO m c) (aH m c) (aPR m c) (aWA m c) (aWC m c) (aWO m c) (aG m c)
abbrev rAA (c : Dev nD) : FVec Ideal S8192x4096 .f32 := FwdRefIdeal.Work.AA (aX m c) (aO m c) (aH m c) (aPR m c) (aWA m c) (aWC m c) (aWO m c) (aG m c) (aW1 m c)
abbrev rEE (c : Dev nD) : FVec Ideal S8192x1024 .f32 := FwdRefIdeal.Work.EE (aX m c) (aO m c) (aH m c) (aPR m c) (aWA m c) (aWC m c) (aWO m c) (aG m c) (aW1 m c) (aW2 m c) (aTG m c)

/-- The blocks a point stores: the branches' rows, the merged rows, the rows after the mixing layer, the normed rows, the hidden values, the
squares of their positive parts, and the layer's result less the target. -/
def atB (c : Dev nD) (t : Fin cfg0.N) : FVec Ideal S256x1024 .f32 := k0_pay5 (iblk m c 1 t) (iblk m c 7 t)
def cvB (c : Dev nD) (t : Fin cfg0.N) : FVec Ideal S256x1024 .f32 := k0_pay6 (iblk m c 2 t) (iblk m c 8 t)
def g7B (c : Dev nD) (t : Fin cfg0.N) : FVec Ideal S256x1024 .f32 := k0_pay7 (iblk m c 1 t) (iblk m c 7 t) (iblk m c 3 t) (iblk m c 4 t)
def g8B (c : Dev nD) (t : Fin cfg0.N) : FVec Ideal S256x1024 .f32 := k0_pay8 (iblk m c 5 t) (iblk m c 6 t)
def mgB (c : Dev nD) (t : Fin cfg0.N) : FVec Ideal S256x1024 .bf16 := k0_pay9 (cvB m c t) (g7B m c t) (g8B m c t) one
def x1B (c : Dev nD) (t : Fin cfg0.N) : FVec Ideal S256x1024 .f32 := k0_pay12 (cvB m c t) (g7B m c t) (g8B m c t) one (iblk m c 0 t) (iblk m c 9 t)
def u2B (c : Dev nD) (t : Fin cfg0.N) : FVec Ideal S256x1024 .bf16 := k0_pay13 (cvB m c t) (g7B m c t) (g8B m c t) one (iblk m c 0 t) (iblk m c 9 t) (iblk m c 10 t)
def aaB (U : FVec Ideal S256x1024 .bf16) (W : FVec Ideal S4096x1024 .bf16) : FVec Ideal S256x4096 .bf16 :=
  fun y => ∑ k : Fin 1024, U (ix2 (y 0) k) * W (ix2 (y 1) k)
def hmB (U : FVec Ideal S256x1024 .bf16) (W : FVec Ideal S4096x1024 .bf16) : FVec Ideal S256x4096 .bf16 :=
  fun y => max (aaB U W y) 0 * max (aaB U W y) 0
def eeB (c : Dev nD) (t : Fin cfg0.N) : FVec Ideal S256x1024 .f32 :=
  k0_pay1 (x1B m c t) (hmB (u2B m c t) (iblk m c 11 t)) (k0_pay41 (iblk m c 12 t)) zer (iblk m c 13 t)

/-- Each of these at an index is the reference's stage at the index of the whole array. -/
theorem at_at (c : Dev nD) (t : Fin cfg0.N) (r : Fin 256) (k : Fin 1024) :
    (show EReal from atB m c t (ix2 r k)) = FwdRefIdeal.Work.fwdR (aO m c) (aWA m c) (ix2 (row t r) k) := by
  refine (pay5_at _ _ r k).trans ?_
  rw [FwdRefIdeal.Work.fwdR_at]
  exact Finset.sum_congr rfl fun l _ => Ideal.mul_congr (blk1 m c t r l) (blk7 m c t l k)
theorem cv_at (c : Dev nD) (t : Fin cfg0.N) (r : Fin 256) (k : Fin 1024) :
    (show EReal from cvB m c t (ix2 r k)) = FwdRefIdeal.Work.fwdR (aH m c) (aWC m c) (ix2 (row t r) k) := by
  refine (pay6_at _ _ r k).trans ?_
  rw [FwdRefIdeal.Work.fwdR_at]
  exact Finset.sum_congr rfl fun l _ => Ideal.mul_congr (blk2 m c t r l) (blk8 m c t l k)
theorem ga_at (c : Dev nD) (t : Fin cfg0.N) (r : Fin 256) (k : Fin 1024) :
    (show EReal from gB (iblk m c 3 t) (iblk m c 4 t) (ix2 r k)) = FwdRefIdeal.Work.gaR (aPR m c) (ix2 (row t r) k) := by
  rw [FwdRefIdeal.Work.gaR_at]
  pointwise [gB]
  split
  · exact blk3 m c t r _
  · refine (blk4 m c t r _).trans (congrArg (fun q => aPR m c (ix2 (row t r) q)) (Fin.ext ?_))
    simp only []; omega
theorem gc_at (c : Dev nD) (t : Fin cfg0.N) (r : Fin 256) (k : Fin 1024) :
    (show EReal from gB (iblk m c 5 t) (iblk m c 6 t) (ix2 r k)) = FwdRefIdeal.Work.gcR (aPR m c) (ix2 (row t r) k) := by
  rw [FwdRefIdeal.Work.gcR_at]
  pointwise [gB]
  split
  · refine (blk5 m c t r _).trans (congrArg (fun q => aPR m c (ix2 (row t r) q)) (Fin.ext ?_))
    simp only []; omega
  · refine (blk6 m c t r _).trans (congrArg (fun q => aPR m c (ix2 (row t r) q)) (Fin.ext ?_))
    simp only []; omega
theorem mg_at (c : Dev nD) (t : Fin cfg0.N) (r : Fin 256) (k : Fin 1024) :
    (show EReal from mgB m c t (ix2 r k)) = rMG m c (ix2 (row t r) k) := by
  refine (pay9_at _ _ _ _ r k).trans ?_
  refine .trans ?_ (FwdRefIdeal.Work.mgR_at _ _ _ _ _ _).symm
  refine congrArg₂ (· + ·) ?_ ?_
  · refine (pay7_at _ _ _ _ r k).trans ?_
    exact Ideal.mul_congr (congrArg _ (ga_at m c t r k)) ((pay5_at _ _ r k).symm.trans (at_at m c t r k))
  · exact Ideal.mul_congr (congrArg _ (gc_at m c t r k)) (cv_at m c t r k)
theorem x1_at (c : Dev nD) (t : Fin cfg0.N) (r : Fin 256) (k : Fin 1024) :
    (show EReal from x1B m c t (ix2 r k)) = rX1 m c (ix2 (row t r) k) := by
  refine (pay12_at _ _ _ _ _ r k).trans ?_
  refine .trans ?_ (FwdRefIdeal.Work.x1R_at _ _ _ _ _).symm
  exact congrArg₂ (· + ·) (blk0 m c t r k) (Finset.sum_congr rfl fun l _ => Ideal.mul_congr (mg_at m c t r l) (blk9 m c t l k))
theorem u2_at (c : Dev nD) (t : Fin cfg0.N) (r : Fin 256) (k : Fin 1024) :
    (show EReal from u2B m c t (ix2 r k)) = rU2 m c (ix2 (row t r) k) := by
  refine (pay13_at _ _ _ _ _ _ r k).trans ?_
  refine .trans ?_ (FwdRefIdeal.Work.uR_at _ _ _ _).symm
  exact Ideal.mul_congr (Ideal.mul_congr (x1_at m c t r k) (congrArg Scalars.rs (funext fun k => x1_at m c t r k))) (blk10 m c t 0 k)
theorem aa_at (c : Dev nD) (t : Fin cfg0.N) (r : Fin 256) (f : Fin 4096) :
    (show EReal from aaB (u2B m c t) (iblk m c 11 t) (ix2 r f)) = rAA m c (ix2 (row t r) f) := by
  refine .trans ?_ (FwdRefIdeal.Work.aR_at _ _ _ _).symm
  exact Finset.sum_congr rfl fun k _ => Ideal.mul_congr (u2_at m c t r k) (blk11 m c t f k)
theorem ee_at (c : Dev nD) (t : Fin cfg0.N) (r : Fin 256) (k : Fin 1024) :
    (show EReal from eeB m c t (ix2 r k)) = rEE m c (ix2 (row t r) k) := by
  refine (pay1_at _ _ _ _ r k).trans ?_
  refine .trans ?_ (FwdRefIdeal.Work.eR_at _ _ _ _ _ _).symm
  refine congrArg₂ (· - ·) (congrArg₂ (· + ·) (x1_at m c t r k) (Finset.sum_congr rfl fun f _ => Ideal.mul_congr ?_ (blk12 m c t f k))) (blk13 m c t r k)
  exact Ideal.mul_congr (congrArg (max · 0) (aa_at m c t r f)) (congrArg (max · 0) (aa_at m c t r f))

/-- What a point stores in each output. -/
theorem block14 (c : Dev nD) (t : Fin cfg0.N) : (outsAt0 m c t).1 = x1B m c t := by
  frame_out
  rfl
theorem block15 (c : Dev nD) (t : Fin cfg0.N) : (outsAt0 m c t).2.1 = k0_pay10 (atB m c t) := by
  frame_out
  rfl
theorem block16 (c : Dev nD) (t : Fin cfg0.N) : (outsAt0 m c t).2.2.1 = k0_pay11 (cvB m c t) := by
  frame_out
  rfl
theorem block17 (c : Dev nD) (t : Fin cfg0.N) : (outsAt0 m c t).2.2.2.1 = mgB m c t := by
  frame_out
  rfl
theorem block19 (c : Dev nD) (t : Fin cfg0.N) : (outsAt0 m c t).2.2.2.2.2.1 = u2B m c t := by
  frame_out
  rfl
theorem block18 (c : Dev nD) (t : Fin cfg0.N) : (outsAt0 m c t).2.2.2.2.1 = aaB (u2B m c t) (iblk m c 11 t) := by
  funext y
  frame_out
  canon_tiles x h
  all_goals
    idx_vars x
    first
        | refine (strip39 _ _ _ _).trans ?_
        | refine (strip36 _ _ _ _).trans ?_
        | refine (strip32 _ _ _ _).trans ?_
        | refine (strip29 _ _ _ _).trans ?_
        | refine (strip26 _ _ _ _).trans ?_
        | refine (strip22 _ _ _ _).trans ?_
        | refine (strip19 _ _ _ _).trans ?_
        | refine (strip16 _ _ _ _).trans ?_
    pointwise [aaB, aS]
    blk_point []

/-- Reading a whole array through the rectangle that is all of it changes no index. -/
theorem whole_idx (j : S256x4096.Idx) : (Rect.unit ![0, 0] ![256, 4096] inb_S256x4096_S256x4096_0_0).idx j = j := by
  funext a
  refine Fin.ext ?_
  fin_cases a <;> simp [LoadRect.idx, Rect.unit]

/-- The gradient of the loss and the loss: the squares the point reads back are the ones it stored. -/
theorem block20 (c : Dev nD) (t : Fin cfg0.N) : (outsAt0 m c t).2.2.2.2.2.2.1 = k0_pay2 (x1B m c t) (hmB (u2B m c t) (iblk m c 11 t)) (k0_pay41 (iblk m c 12 t)) zer (iblk m c 13 t) := by
  frame_out
  refine congrArg (fun D => k0_pay2 (x1B m c t) D (k0_pay41 (iblk m c 12 t)) zer (iblk m c 13 t)) ?_
  funext y
  refine (congrFun (View.readCov_eq_canon' _ _ _) y).trans ?_
  refine (congrArg _ (whole_idx y)).trans ?_
  canon_tiles x h
  all_goals
    idx_vars x
    first
        | refine (sq40 _ _ _ _).trans ?_
        | refine (sq37 _ _ _ _).trans ?_
        | refine (sq33 _ _ _ _).trans ?_
        | refine (sq30 _ _ _ _).trans ?_
        | refine (sq27 _ _ _ _).trans ?_
        | refine (sq23 _ _ _ _).trans ?_
        | refine (sq20 _ _ _ _).trans ?_
        | refine (sq17 _ _ _ _).trans ?_
    pointwise [hmB, aaB, aS]
    blk_point []
theorem block21 (c : Dev nD) (t : Fin cfg0.N) : (outsAt0 m c t).2.2.2.2.2.2.2.1 = k0_pay3 (x1B m c t) (hmB (u2B m c t) (iblk m c 11 t)) (k0_pay41 (iblk m c 12 t)) zer (iblk m c 13 t) := by
  frame_out
  refine congrArg (fun D => k0_pay3 (x1B m c t) D (k0_pay41 (iblk m c 12 t)) zer (iblk m c 13 t)) ?_
  funext y
  refine (congrFun (View.readCov_eq_canon' _ _ _) y).trans ?_
  refine (congrArg _ (whole_idx y)).trans ?_
  canon_tiles x h
  all_goals
    idx_vars x
    first
        | refine (sq40 _ _ _ _).trans ?_
        | refine (sq37 _ _ _ _).trans ?_
        | refine (sq33 _ _ _ _).trans ?_
        | refine (sq30 _ _ _ _).trans ?_
        | refine (sq27 _ _ _ _).trans ?_
        | refine (sq23 _ _ _ _).trans ?_
        | refine (sq20 _ _ _ _).trans ?_
        | refine (sq17 _ _ _ _).trans ?_
    pointwise [hmB, aaB, aS]
    blk_point []
theorem block22 (c : Dev nD) (t : Fin cfg0.N) : (outsAt0 m c t).2.2.2.2.2.2.2.2 = k0_pay4 (x1B m c t) (hmB (u2B m c t) (iblk m c 11 t)) (k0_pay41 (iblk m c 12 t)) zer (iblk m c 13 t) := by
  frame_out
  refine congrArg (fun D => k0_pay4 (x1B m c t) D (k0_pay41 (iblk m c 12 t)) zer (iblk m c 13 t)) ?_
  funext y
  refine (congrFun (View.readCov_eq_canon' _ _ _) y).trans ?_
  refine (congrArg _ (whole_idx y)).trans ?_
  canon_tiles x h
  all_goals
    idx_vars x
    first
        | refine (sq40 _ _ _ _).trans ?_
        | refine (sq37 _ _ _ _).trans ?_
        | refine (sq33 _ _ _ _).trans ?_
        | refine (sq30 _ _ _ _).trans ?_
        | refine (sq27 _ _ _ _).trans ?_
        | refine (sq23 _ _ _ _).trans ?_
        | refine (sq20 _ _ _ _).trans ?_
        | refine (sq17 _ _ _ _).trans ?_
    pointwise [hmB, aaB, aS]
    blk_point []

/-- The output arrays after the run. -/
theorem final14 (c : Dev nD) : (dats m 0 c).arrAt 14 (cfgs 0).N = rX1 m c := by
  refine (dats m 0 c).arrAt_eq_of_covers 14 _ (by decide +kernel) fun t hf y => ?_
  blk_simp
  rw [after0_14, block14]
  idx_vars y
  refine (x1_at m c t y0 y1).trans ?_
  show rX1 m c _ = rX1 m c _
  blk_ext [idx t]
theorem final15 (c : Dev nD) : (dats m 0 c).arrAt 15 (cfgs 0).N = truncf .bf16 (FwdRefIdeal.Work.fwdR (aO m c) (aWA m c)) bitsLt_bf16_f32 := by
  refine (dats m 0 c).arrAt_eq_of_covers 15 _ (by decide +kernel) fun t hf y => ?_
  blk_simp
  rw [after0_15, block15]
  idx_vars y
  refine (pay10_at _ y0 y1).trans ?_
  refine (at_at m c t y0 y1).trans ?_
  show FwdRefIdeal.Work.fwdR (aO m c) (aWA m c) _ = FwdRefIdeal.Work.fwdR (aO m c) (aWA m c) _
  blk_ext [idx t]
theorem final16 (c : Dev nD) : (dats m 0 c).arrAt 16 (cfgs 0).N = truncf .bf16 (FwdRefIdeal.Work.fwdR (aH m c) (aWC m c)) bitsLt_bf16_f32 := by
  refine (dats m 0 c).arrAt_eq_of_covers 16 _ (by decide +kernel) fun t hf y => ?_
  blk_simp
  rw [after0_16, block16]
  idx_vars y
  refine (pay11_at _ y0 y1).trans ?_
  refine (cv_at m c t y0 y1).trans ?_
  show FwdRefIdeal.Work.fwdR (aH m c) (aWC m c) _ = FwdRefIdeal.Work.fwdR (aH m c) (aWC m c) _
  blk_ext [idx t]
theorem final17 (c : Dev nD) : (dats m 0 c).arrAt 17 (cfgs 0).N = truncf .bf16 (rMG m c) bitsLt_bf16_f32 := by
  refine (dats m 0 c).arrAt_eq_of_covers 17 _ (by decide +kernel) fun t hf y => ?_
  blk_simp
  rw [after0_17, block17]
  idx_vars y
  refine (mg_at m c t y0 y1).trans ?_
  show rMG m c _ = rMG m c _
  blk_ext [idx t]
theorem final18 (c : Dev nD) : (dats m 0 c).arrAt 18 (cfgs 0).N = truncf .bf16 (rAA m c) bitsLt_bf16_f32 := by
  refine (dats m 0 c).arrAt_eq_of_covers 18 _ (by decide +kernel) fun t hf y => ?_
  blk_simp
  rw [after0_18, block18]
  idx_vars y
  refine (aa_at m c t y0 y1).trans ?_
  show rAA m c _ = rAA m c _
  blk_ext [idx t]
theorem final19 (c : Dev nD) : (dats m 0 c).arrAt 19 (cfgs 0).N = truncf .bf16 (rU2 m c) bitsLt_bf16_f32 := by
  refine (dats m 0 c).arrAt_eq_of_covers 19 _ (by decide +kernel) fun t hf y => ?_
  blk_simp
  rw [after0_19, block19]
  idx_vars y
  refine (u2_at m c t y0 y1).trans ?_
  show rU2 m c _ = rU2 m c _
  blk_ext [idx t]
theorem dy_at (c : Dev nD) (t : Fin cfg0.N) (r : Fin 256) (k : Fin 1024) :
    (show EReal from k0_pay2 (F := Ideal) (x1B m c t) (hmB (u2B m c t) (iblk m c 11 t)) (k0_pay41 (iblk m c 12 t)) zer (iblk m c 13 t) (ix2 r k))
      = FwdRefIdeal.Work.dyR (rEE m c) (ix2 (row t r) k) := by
  refine (pay2_at _ _ _ _ _ r k).trans ?_
  refine .trans ?_ (FwdRefIdeal.Work.dyR_at _ _ _).symm
  exact Ideal.mul_congr (ee_at m c t r k) rfl
theorem final20 (c : Dev nD) : (dats m 0 c).arrAt 20 (cfgs 0).N = FwdRefIdeal.Work.dyR (rEE m c) := by
  refine (dats m 0 c).arrAt_eq_of_covers 20 _ (by decide +kernel) fun t hf y => ?_
  blk_simp
  rw [after0_20, block20]
  idx_vars y
  refine (dy_at m c t y0 y1).trans ?_
  show FwdRefIdeal.Work.dyR (rEE m c) _ = FwdRefIdeal.Work.dyR (rEE m c) _
  blk_ext [idx t]
theorem final21 (c : Dev nD) : (dats m 0 c).arrAt 21 (cfgs 0).N = truncf .bf16 (FwdRefIdeal.Work.dyR (rEE m c)) bitsLt_bf16_f32 := by
  refine (dats m 0 c).arrAt_eq_of_covers 21 _ (by decide +kernel) fun t hf y => ?_
  blk_simp
  rw [after0_21, block21]
  idx_vars y
  refine (pay3_at _ _ _ _ _ y0 y1).trans ?_
  refine (dy_at m c t y0 y1).trans ?_
  show FwdRefIdeal.Work.dyR (rEE m c) _ = FwdRefIdeal.Work.dyR (rEE m c) _
  blk_ext [idx t]
theorem final22 (c : Dev nD) : (dats m 0 c).arrAt 22 (cfgs 0).N = FwdRefIdeal.Work.loR (rEE m c) := by
  refine (dats m 0 c).arrAt_eq_of_covers 22 _ (by decide +kernel) fun t hf y => ?_
  blk_simp
  rw [after0_22, block22]
  idx_vars y
  refine (pay4_at _ _ _ _ _ y0 y1 y2).trans ?_
  have ht : t.val < 32 := lt_of_lt_of_eq t.isLt N_0
  refine Eq.trans ?_ ((FwdRefIdeal.Work.loR_at (rEE m c) ⟨t.val, ht⟩ y1 y2).symm.trans ?_)
  · exact Ideal.mul_congr (Finset.sum_congr rfl fun r _ => Finset.sum_congr rfl fun k _ => Ideal.mul_congr (ee_at m c t r k) (ee_at m c t r k)) rfl
  · show FwdRefIdeal.Work.loR (rEE m c) _ = FwdRefIdeal.Work.loR (rEE m c) _
    blk_ext [idx t]

end Cert.FwdIdeal.Work

end
-- ==== Proof.FwdClaim.lean ====
/- The claim that the forward pass of the mixing layer and the feed-forward layer and its reference compute the same results. -/
module

public import proofs.«01_k».proof.Defs
public import proofs.«01_k».proof.Proof.FwdValue
public import Idealize.ShloMosaic.Lib.Claim

@[expose] public section

set_option maxRecDepth 16384

noncomputable section

namespace Cert.Scalars

/-- Functions of several arguments take equal values at equal arguments. -/
theorem congr2 {α₀ α₁ β : Type} (f : α₀ → α₁ → β) {x₀ y₀ : α₀} {x₁ y₁ : α₁}
    (e₀ : x₀ = y₀) (e₁ : x₁ = y₁) :
    f x₀ x₁ = f y₀ y₁ := by
  subst e₀ e₁; rfl
theorem congr7 {α₀ α₁ α₂ α₃ α₄ α₅ α₆ β : Type} (f : α₀ → α₁ → α₂ → α₃ → α₄ → α₅ → α₆ → β) {x₀ y₀ : α₀} {x₁ y₁ : α₁} {x₂ y₂ : α₂} {x₃ y₃ : α₃} {x₄ y₄ : α₄} {x₅ y₅ : α₅} {x₆ y₆ : α₆}
    (e₀ : x₀ = y₀) (e₁ : x₁ = y₁) (e₂ : x₂ = y₂) (e₃ : x₃ = y₃) (e₄ : x₄ = y₄) (e₅ : x₅ = y₅) (e₆ : x₆ = y₆) :
    f x₀ x₁ x₂ x₃ x₄ x₅ x₆ = f y₀ y₁ y₂ y₃ y₄ y₅ y₆ := by
  subst e₀ e₁ e₂ e₃ e₄ e₅ e₆; rfl
theorem congr9 {α₀ α₁ α₂ α₃ α₄ α₅ α₆ α₇ α₈ β : Type} (f : α₀ → α₁ → α₂ → α₃ → α₄ → α₅ → α₆ → α₇ → α₈ → β) {x₀ y₀ : α₀} {x₁ y₁ : α₁} {x₂ y₂ : α₂} {x₃ y₃ : α₃} {x₄ y₄ : α₄} {x₅ y₅ : α₅} {x₆ y₆ : α₆} {x₇ y₇ : α₇} {x₈ y₈ : α₈}
    (e₀ : x₀ = y₀) (e₁ : x₁ = y₁) (e₂ : x₂ = y₂) (e₃ : x₃ = y₃) (e₄ : x₄ = y₄) (e₅ : x₅ = y₅) (e₆ : x₆ = y₆) (e₇ : x₇ = y₇) (e₈ : x₈ = y₈) :
    f x₀ x₁ x₂ x₃ x₄ x₅ x₆ x₇ x₈ = f y₀ y₁ y₂ y₃ y₄ y₅ y₆ y₇ y₈ := by
  subst e₀ e₁ e₂ e₃ e₄ e₅ e₆ e₇ e₈; rfl
theorem congr11 {α₀ α₁ α₂ α₃ α₄ α₅ α₆ α₇ α₈ α₉ α₁₀ β : Type} (f : α₀ → α₁ → α₂ → α₃ → α₄ → α₅ → α₆ → α₇ → α₈ → α₉ → α₁₀ → β) {x₀ y₀ : α₀} {x₁ y₁ : α₁} {x₂ y₂ : α₂} {x₃ y₃ : α₃} {x₄ y₄ : α₄} {x₅ y₅ : α₅} {x₆ y₆ : α₆} {x₇ y₇ : α₇} {x₈ y₈ : α₈} {x₉ y₉ : α₉} {x₁₀ y₁₀ : α₁₀}
    (e₀ : x₀ = y₀) (e₁ : x₁ = y₁) (e₂ : x₂ = y₂) (e₃ : x₃ = y₃) (e₄ : x₄ = y₄) (e₅ : x₅ = y₅) (e₆ : x₆ = y₆) (e₇ : x₇ = y₇) (e₈ : x₈ = y₈) (e₉ : x₉ = y₉) (e₁₀ : x₁₀ = y₁₀) :
    f x₀ x₁ x₂ x₃ x₄ x₅ x₆ x₇ x₈ x₉ x₁₀ = f y₀ y₁ y₂ y₃ y₄ y₅ y₆ y₇ y₈ y₉ y₁₀ := by
  subst e₀ e₁ e₂ e₃ e₄ e₅ e₆ e₇ e₈ e₉ e₁₀; rfl

end Cert.Scalars

namespace Cert.Proof

open Idealize.ShloMosaic Idealize.ShloMosaic.TcCoe Idealize.SL.Sem

set_option maxHeartbeats 2000000 in
/-- The forward pass computes its reference's nine results, at all arguments. -/
theorem fwd_algebraic : @Cert.algebraic_FwdIdeal_FwdRefIdeal Cert.FwdIdeal.Gen.facts Cert.FwdRefIdeal.Gen.facts := by
  intro m g m' g' hpre hagree
  refine ⟨fun c => Cert.FwdRefIdeal.Work.X1 (Cert.FwdIdeal.Work.aX m c) (Cert.FwdIdeal.Work.aO m c) (Cert.FwdIdeal.Work.aH m c) (Cert.FwdIdeal.Work.aPR m c) (Cert.FwdIdeal.Work.aWA m c) (Cert.FwdIdeal.Work.aWC m c) (Cert.FwdIdeal.Work.aWO m c),
    fun c => truncf .bf16 (Cert.FwdRefIdeal.Work.fwdR (Cert.FwdIdeal.Work.aO m c) (Cert.FwdIdeal.Work.aWA m c)) Cert.FwdRefIdeal.Gen.bitsLt_bf16_f32,
    fun c => truncf .bf16 (Cert.FwdRefIdeal.Work.fwdR (Cert.FwdIdeal.Work.aH m c) (Cert.FwdIdeal.Work.aWC m c)) Cert.FwdRefIdeal.Gen.bitsLt_bf16_f32,
    fun c => truncf .bf16 (Cert.FwdRefIdeal.Work.MG (Cert.FwdIdeal.Work.aO m c) (Cert.FwdIdeal.Work.aH m c) (Cert.FwdIdeal.Work.aPR m c) (Cert.FwdIdeal.Work.aWA m c) (Cert.FwdIdeal.Work.aWC m c)) Cert.FwdRefIdeal.Gen.bitsLt_bf16_f32,
    fun c => truncf .bf16 (Cert.FwdRefIdeal.Work.AA (Cert.FwdIdeal.Work.aX m c) (Cert.FwdIdeal.Work.aO m c) (Cert.FwdIdeal.Work.aH m c) (Cert.FwdIdeal.Work.aPR m c) (Cert.FwdIdeal.Work.aWA m c) (Cert.FwdIdeal.Work.aWC m c) (Cert.FwdIdeal.Work.aWO m c) (Cert.FwdIdeal.Work.aG m c) (Cert.FwdIdeal.Work.aW1 m c)) Cert.FwdRefIdeal.Gen.bitsLt_bf16_f32,
    fun c => truncf .bf16 (Cert.FwdRefIdeal.Work.U2 (Cert.FwdIdeal.Work.aX m c) (Cert.FwdIdeal.Work.aO m c) (Cert.FwdIdeal.Work.aH m c) (Cert.FwdIdeal.Work.aPR m c) (Cert.FwdIdeal.Work.aWA m c) (Cert.FwdIdeal.Work.aWC m c) (Cert.FwdIdeal.Work.aWO m c) (Cert.FwdIdeal.Work.aG m c)) Cert.FwdRefIdeal.Gen.bitsLt_bf16_f32,
    fun c => Cert.FwdRefIdeal.Work.dyR (Cert.FwdRefIdeal.Work.EE (Cert.FwdIdeal.Work.aX m c) (Cert.FwdIdeal.Work.aO m c) (Cert.FwdIdeal.Work.aH m c) (Cert.FwdIdeal.Work.aPR m c) (Cert.FwdIdeal.Work.aWA m c) (Cert.FwdIdeal.Work.aWC m c) (Cert.FwdIdeal.Work.aWO m c) (Cert.FwdIdeal.Work.aG m c) (Cert.FwdIdeal.Work.aW1 m c) (Cert.FwdIdeal.Work.aW2 m c) (Cert.FwdIdeal.Work.aTG m c)),
    fun c => truncf .bf16 (Cert.FwdRefIdeal.Work.dyR (Cert.FwdRefIdeal.Work.EE (Cert.FwdIdeal.Work.aX m c) (Cert.FwdIdeal.Work.aO m c) (Cert.FwdIdeal.Work.aH m c) (Cert.FwdIdeal.Work.aPR m c) (Cert.FwdIdeal.Work.aWA m c) (Cert.FwdIdeal.Work.aWC m c) (Cert.FwdIdeal.Work.aWO m c) (Cert.FwdIdeal.Work.aG m c) (Cert.FwdIdeal.Work.aW1 m c) (Cert.FwdIdeal.Work.aW2 m c) (Cert.FwdIdeal.Work.aTG m c))) Cert.FwdRefIdeal.Gen.bitsLt_bf16_f32,
    fun c => Cert.FwdRefIdeal.Work.loR (Cert.FwdRefIdeal.Work.EE (Cert.FwdIdeal.Work.aX m c) (Cert.FwdIdeal.Work.aO m c) (Cert.FwdIdeal.Work.aH m c) (Cert.FwdIdeal.Work.aPR m c) (Cert.FwdIdeal.Work.aWA m c) (Cert.FwdIdeal.Work.aWC m c) (Cert.FwdIdeal.Work.aWO m c) (Cert.FwdIdeal.Work.aG m c) (Cert.FwdIdeal.Work.aW1 m c) (Cert.FwdIdeal.Work.aW2 m c) (Cert.FwdIdeal.Work.aTG m c)),
    ?_, ?_⟩
  · refine (θ_run Cert.FwdIdeal.defs _ _).mono ?_ (θ_run_and (Cert.FwdIdeal.Gen.run_main m g) (Cert.FwdIdeal.Gen.unchanged m g))
    rintro r ⟨h, hk⟩ c
    exact ⟨((h c).1 14).trans (Cert.FwdIdeal.Work.final14 m c),
      ((h c).1 15).trans (Cert.FwdIdeal.Work.final15 m c),
      ((h c).1 16).trans (Cert.FwdIdeal.Work.final16 m c),
      ((h c).1 17).trans (Cert.FwdIdeal.Work.final17 m c),
      ((h c).1 18).trans (Cert.FwdIdeal.Work.final18 m c),
      ((h c).1 19).trans (Cert.FwdIdeal.Work.final19 m c),
      ((h c).1 20).trans (Cert.FwdIdeal.Work.final20 m c),
      ((h c).1 21).trans (Cert.FwdIdeal.Work.final21 m c),
      ((h c).1 22).trans (Cert.FwdIdeal.Work.final22 m c),
      hk c⟩
  · refine (θ_run Cert.FwdRefIdeal.defs _ _).mono ?_ (Cert.FwdRefIdeal.Work.run_named m' g')
    intro r h c
    obtain ⟨h0, h1, h2, h3, h4, h5, h6, h7, h8, hk⟩ := h c
    obtain ⟨e0, e1, e2, e3, e4, e5, e6, e7, e8, e9, e10⟩ := hagree c
    exact ⟨(h0).trans (Scalars.congr7 (fun a b c d e f g => Cert.FwdRefIdeal.Work.X1 a b c d e f g) e0 e1 e2 e3 e4 e5 e6),
      (h1).trans (Scalars.congr2 (fun a b => truncf .bf16 (Cert.FwdRefIdeal.Work.fwdR a b) Cert.FwdRefIdeal.Gen.bitsLt_bf16_f32) e1 e4),
      (h2).trans (Scalars.congr2 (fun a b => truncf .bf16 (Cert.FwdRefIdeal.Work.fwdR a b) Cert.FwdRefIdeal.Gen.bitsLt_bf16_f32) e2 e5),
      (h3).trans (Scalars.congr5 (fun a b c d e => truncf .bf16 (Cert.FwdRefIdeal.Work.MG a b c d e) Cert.FwdRefIdeal.Gen.bitsLt_bf16_f32) e1 e2 e3 e4 e5),
      (h4).trans (Scalars.congr9 (fun a b c d e f g h i => truncf .bf16 (Cert.FwdRefIdeal.Work.AA a b c d e f g h i) Cert.FwdRefIdeal.Gen.bitsLt_bf16_f32) e0 e1 e2 e3 e4 e5 e6 e7 e8),
      (h5).trans (Scalars.congr8 (fun a b c d e f g h => truncf .bf16 (Cert.FwdRefIdeal.Work.U2 a b c d e f g h) Cert.FwdRefIdeal.Gen.bitsLt_bf16_f32) e0 e1 e2 e3 e4 e5 e6 e7),
      (h6).trans (Scalars.congr11 (fun a b c d e f g h i j k => Cert.FwdRefIdeal.Work.dyR (Cert.FwdRefIdeal.Work.EE a b c d e f g h i j k)) e0 e1 e2 e3 e4 e5 e6 e7 e8 e9 e10),
      (h7).trans (Scalars.congr11 (fun a b c d e f g h i j k => truncf .bf16 (Cert.FwdRefIdeal.Work.dyR (Cert.FwdRefIdeal.Work.EE a b c d e f g h i j k)) Cert.FwdRefIdeal.Gen.bitsLt_bf16_f32) e0 e1 e2 e3 e4 e5 e6 e7 e8 e9 e10),
      (h8).trans (Scalars.congr11 (fun a b c d e f g h i j k => Cert.FwdRefIdeal.Work.loR (Cert.FwdRefIdeal.Work.EE a b c d e f g h i j k)) e0 e1 e2 e3 e4 e5 e6 e7 e8 e9 e10),
      hk⟩

end Cert.Proof

end
-- ==== Proof.ProjScalars.lean ====
/- Facts about single extended reals that the norm of each head, taken two heads at a time, is compared with. -/
module

public import proofs.«01_k».proof.Proof.Scalars

@[expose] public section

noncomputable section

namespace Cert.Scalars

open Idealize.ShloMosaic

/-- The words of the floats 64 and 1/64 read as these real numbers. -/
theorem ofBits_64 : Ideal.ofBits .f32 0x42800000#32 = ((64 : ℝ) : EReal) := by
  simp [Ideal.ofBits, Ideal.ieee, -EReal.coe_mul]; norm_num
theorem ofBits_1o64 : Ideal.ofBits .f32 0x3C800000#32 = ((1 / 64 : ℝ) : EReal) := by
  simp [Ideal.ofBits, Ideal.ieee, -EReal.coe_mul]; norm_num

/-- Dividing by 64 is multiplying with 1/64. -/
theorem div_64 (x : EReal) : Ideal.div x (Ideal.ofBits .f32 0x42800000#32) = x * Ideal.ofBits .f32 0x3C800000#32 := by
  rw [ofBits_64, ofBits_1o64, Ideal.div_coe (by norm_num)]

/-- The reciprocal root of a head: one over the root of the mean of its 64 squares plus the small constant. -/
def hs (x : Fin 64 → EReal) : EReal :=
  Ideal.rsqrt (Ideal.div (∑ j, x j * x j) (Ideal.ofBits .f32 0x42800000#32) + Ideal.ofBits .f32 0x358637BD#32)

/-- The bit that says whether a lane belongs to the first head of its pair. -/
abbrev low (l : Fin 128) : BitVec 1 := IntOp.cmpi .slt (BitVec.ofNat 32 l.val) 64#32

theorem low_eq : ∀ l : Fin 128, low l = if l.val < 64 then 1 else 0 := by decide +kernel

theorem sel_low {α : Type} (l : Fin 128) (a b : α) : Scalar.select (low l) a b = if l.val < 64 then a else b := by
  unfold Scalar.select
  rw [low_eq l]
  by_cases h : l.val < 64 <;> simp [h]

/-- The sum over the first head's lanes, and the sum over the second's. -/
theorem sum_low (f : Fin 128 → EReal) : ∑ k : Fin 128, Scalar.select (low k) (f k) 0 = ∑ j : Fin 64, f ⟨j.val, by omega⟩ := by
  simp only [sel_low]
  refine (Fin.sum_univ_add (a := 64) (b := 64) fun k : Fin (64 + 64) => if k.val < 64 then f k else 0).trans ?_
  have e1 : ∀ j : Fin 64, (if (Fin.castAdd 64 j).val < 64 then f (Fin.castAdd 64 j) else 0) = f ⟨j.val, by omega⟩ := fun j => if_pos j.isLt
  have e2 : ∀ j : Fin 64, (if (Fin.natAdd 64 j).val < 64 then f (Fin.natAdd 64 j) else 0) = (0 : EReal) := fun j => if_neg (by simp)
  rw [Finset.sum_congr rfl fun j _ => e1 j, Finset.sum_congr rfl fun j _ => e2 j, Finset.sum_const_zero, add_zero]
theorem sum_high (f : Fin 128 → EReal) : ∑ k : Fin 128, Scalar.select (low k) 0 (f k) = ∑ j : Fin 64, f ⟨64 + j.val, by omega⟩ := by
  simp only [sel_low]
  refine (Fin.sum_univ_add (a := 64) (b := 64) fun k : Fin (64 + 64) => if k.val < 64 then 0 else f k).trans ?_
  have e1 : ∀ j : Fin 64, (if (Fin.castAdd 64 j).val < 64 then 0 else f (Fin.castAdd 64 j)) = (0 : EReal) := fun j => if_pos j.isLt
  have e2 : ∀ j : Fin 64, (if (Fin.natAdd 64 j).val < 64 then 0 else f (Fin.natAdd 64 j)) = f ⟨64 + j.val, by omega⟩ := fun j => if_neg (by simp)
  rw [Finset.sum_congr rfl fun j _ => e1 j, Finset.sum_congr rfl fun j _ => e2 j, Finset.sum_const_zero, zero_add]

/-- The reciprocal root that a lane of a pair of heads is scaled with, as the kernel takes it: of the two means, the one of the lane's head. -/
def pr (p : Fin 128 → EReal) (l : Fin 128) : EReal :=
  Ideal.rsqrt (Scalar.select (low l) ((∑ k, Scalar.select (low k) (p k * p k) 0) * Ideal.ofBits .f32 0x3C800000#32)
    ((∑ k, Scalar.select (low k) 0 (p k * p k)) * Ideal.ofBits .f32 0x3C800000#32) + Ideal.ofBits .f32 0x358637BD#32)

/-- A lane of a pair of heads times that. -/
def nr (p : Fin 128 → EReal) (l : Fin 128) : EReal := p l * pr p l

/-- It is the reciprocal root of the lane's head. -/
theorem pr_eq (p : Fin 128 → EReal) (l : Fin 128) : pr p l = hs fun j => p ⟨l.val / 64 * 64 + j.val, by omega⟩ := by
  unfold pr hs
  rw [sum_low fun k => p k * p k, sum_high fun k => p k * p k, sel_low, div_64]
  by_cases h : l.val < 64
  · rw [if_pos h]
    have e : ∀ j : Fin 64, (⟨l.val / 64 * 64 + j.val, by omega⟩ : Fin 128) = ⟨j.val, by omega⟩ := fun j => Fin.ext (by show l.val / 64 * 64 + j.val = j.val; omega)
    simp only [e]
  · rw [if_neg h]
    have e : ∀ j : Fin 64, (⟨l.val / 64 * 64 + j.val, by omega⟩ : Fin 128) = ⟨64 + j.val, by omega⟩ := fun j => Fin.ext (by show l.val / 64 * 64 + j.val = 64 + j.val; omega)
    simp only [e]

end Cert.Scalars

end
-- ==== Proof.ProjPure.lean ====
/- What the body of the input projection stores, read at an index, over blocks that are variables. -/
module

public import proofs.«01_k».proof.Proof.Gen.ProjIdeal.Skeleton
public import proofs.«01_k».proof.Proof.ProjScalars
public import Idealize.ShloMosaic.Lib.Pointwise

@[expose] public section

set_option maxRecDepth 16384

noncomputable section

namespace Cert.ProjIdeal.Work

open Cert.ProjIdeal Cert.ProjIdeal.Gen Idealize.ShloMosaic Idealize.ShloMosaic.TcCoe Idealize.SL.Sem

variable (X : FVec Ideal S512x1024 .f32) (G : FVec Ideal S1x1024 .f32) (U : FVec Ideal S512x1024 .bf16) (W W' : FVec Ideal S1024x512 .bf16)
  (V : FVec Ideal S512x512 .f32) (E : FVec Ideal S1x128 .f32)

/-- The normed rows. -/
theorem pay3_at (r : Fin 512) (k : Fin 1024) : (show EReal from k0_pay3 (F := Ideal) X G (ix2 r k)) = X (ix2 r k) * (Scalars.rs fun k => X (ix2 r k)) * G (ix2 0 k) := by
  pointwise [k0_pay3]
  rfl
/-- The queries' gain, scaled. -/
theorem pay4_at (z : Fin 1) (l : Fin 128) : (show EReal from k0_pay4 (F := Ideal) E (ix2 z l)) = E (ix2 z l) * Ideal.ofBits .f32 0x3E000000#32 := by
  pointwise [k0_pay4]

/-- The column strips of the projected rows. -/
theorem pay5_at (r l : Fin 512) : (show EReal from k0_pay5 (F := Ideal) X G W (ix2 r l)) = ∑ k : Fin 1024, (show EReal from k0_pay3 (F := Ideal) X G (ix2 r k)) * W (ix2 k l) := by
  pointwise [k0_pay5]
theorem pay6_at (r l : Fin 512) : (show EReal from k0_pay6 (F := Ideal) X G W (ix2 r l)) = ∑ k : Fin 1024, (show EReal from k0_pay3 (F := Ideal) X G (ix2 r k)) * W (ix2 k l) := by
  pointwise [k0_pay6, k0_pay5]
theorem pay28_at (r l : Fin 512) : (show EReal from k0_pay28 (F := Ideal) U W (ix2 r l)) = ∑ k : Fin 1024, (show EReal from U (ix2 r k)) * W (ix2 k l) := by
  pointwise [k0_pay28]
theorem pay53_at (r l : Fin 512) : (show EReal from k0_pay53 (F := Ideal) U W (ix2 r l)) = ∑ k : Fin 1024, (show EReal from U (ix2 r k)) * W (ix2 k l) := by
  pointwise [k0_pay53]
theorem pay29_at (r l : Fin 512) : (show EReal from k0_pay29 (F := Ideal) U W (ix2 r l)) = ∑ k : Fin 1024, (show EReal from U (ix2 r k)) * W (ix2 k l) := by
  pointwise [k0_pay29, k0_pay28]
theorem pay54_at (r l : Fin 512) : (show EReal from k0_pay54 (F := Ideal) U W (ix2 r l)) = ∑ k : Fin 1024, (show EReal from U (ix2 r k)) * W (ix2 k l) := by
  pointwise [k0_pay54, k0_pay53]
theorem pay68_at (r l : Fin 512) : (show EReal from k0_pay68 (F := Ideal) U W (ix2 r l)) = ∑ k : Fin 1024, (show EReal from U (ix2 r k)) * W (ix2 k l) := by
  pointwise [k0_pay68, k0_pay67]
theorem pay70_at (r l : Fin 512) : (show EReal from k0_pay70 (F := Ideal) U W (ix2 r l)) = ∑ k : Fin 1024, (show EReal from U (ix2 r k)) * W (ix2 k l) := by
  pointwise [k0_pay70, k0_pay69]
theorem pay74_at (r l : Fin 512) : (show EReal from k0_pay74 (F := Ideal) U W (ix2 r l)) = ∑ k : Fin 1024, (show EReal from U (ix2 r k)) * W (ix2 k l) := by
  pointwise [k0_pay74, k0_pay73]
theorem pay76_at (r l : Fin 512) : (show EReal from k0_pay76 (F := Ideal) U W (ix2 r l)) = ∑ k : Fin 1024, (show EReal from U (ix2 r k)) * W (ix2 k l) := by
  pointwise [k0_pay76, k0_pay75]
theorem pay78_at (r l : Fin 512) : (show EReal from k0_pay78 (F := Ideal) U W (ix2 r l)) = ∑ k : Fin 1024, (show EReal from U (ix2 r k)) * W (ix2 k l) := by
  pointwise [k0_pay78]
theorem pay79_at (r l : Fin 512) : (show EReal from k0_pay79 (F := Ideal) U W (ix2 r l)) = ∑ k : Fin 1024, (show EReal from U (ix2 r k)) * W (ix2 k l) := by
  pointwise [k0_pay79]
theorem pay1_at (r l : Fin 512) : (show EReal from k0_pay1 (F := Ideal) U W (ix2 r l)) = ∑ k : Fin 1024, (show EReal from U (ix2 r k)) * W (ix2 k l) := by
  pointwise [k0_pay1]
theorem pay2_at (r l : Fin 512) : (show EReal from k0_pay2 (F := Ideal) U W (ix2 r l)) = ∑ k : Fin 1024, (show EReal from U (ix2 r k)) * W (ix2 k l) := by
  pointwise [k0_pay2]

/-- The value columns. -/
theorem pay66_at (r : Fin 512) (l : Fin 256) : (show EReal from k0_pay66 (F := Ideal) V (ix2 r l)) = V (ix2 r ⟨256 + l.val, by omega⟩) := by
  pointwise [k0_pay66]

/-- The gated columns times the logistic function of their gates. -/
theorem pay72_at (r l : Fin 512) : (show EReal from k0_pay72 (F := Ideal) (k0_pay69 U W) (k0_pay71 U W') (ix2 r l))
    = (show EReal from k0_pay69 (F := Ideal) U W (ix2 r l)) * Ideal.logistic (k0_pay67 (F := Ideal) U W' (ix2 r l)) := by
  pointwise [k0_pay72, k0_pay71]
  simp only [zero_sub]
  rfl
theorem pay77_at (r l : Fin 512) : (show EReal from k0_pay77 (F := Ideal) U W W' (ix2 r l))
    = (show EReal from k0_pay75 (F := Ideal) U W' (ix2 r l)) * Ideal.logistic (k0_pay73 (F := Ideal) U W (ix2 r l)) := by
  pointwise [k0_pay77]
  simp only [zero_sub]
  rfl
theorem pay67_at (r l : Fin 512) : (show EReal from k0_pay67 (F := Ideal) U W (ix2 r l)) = ∑ k : Fin 1024, (show EReal from U (ix2 r k)) * W (ix2 k l) := by
  pointwise [k0_pay67]
theorem pay69_at (r l : Fin 512) : (show EReal from k0_pay69 (F := Ideal) U W (ix2 r l)) = ∑ k : Fin 1024, (show EReal from U (ix2 r k)) * W (ix2 k l) := by
  pointwise [k0_pay69]
theorem pay73_at (r l : Fin 512) : (show EReal from k0_pay73 (F := Ideal) U W (ix2 r l)) = ∑ k : Fin 1024, (show EReal from U (ix2 r k)) * W (ix2 k l) := by
  pointwise [k0_pay73]
theorem pay75_at (r l : Fin 512) : (show EReal from k0_pay75 (F := Ideal) U W (ix2 r l)) = ∑ k : Fin 1024, (show EReal from U (ix2 r k)) * W (ix2 k l) := by
  pointwise [k0_pay75]

/-- A pair of heads after their norm: of the queries, -/
theorem pay11_at (r : Fin 512) (l : Fin 128) : (show EReal from k0_pay11 (F := Ideal) E (k0_pay7 X G W) (k0_pay8 X G W) (k0_pay9 X G W) k0_pay10 (ix2 r l))
    = Scalars.nr (fun k => k0_pay5 (F := Ideal) X G W (ix2 r ⟨k.val, by omega⟩)) l * E (ix2 0 l) := by
  pointwise [k0_pay11, k0_pay7, k0_pay8, k0_pay9, k0_pay10]
  rfl
theorem pay16_at (r : Fin 512) (l : Fin 128) : (show EReal from k0_pay16 (F := Ideal) E (k0_pay12 V) (k0_pay13 V) (k0_pay14 V) k0_pay15 (ix2 r l))
    = Scalars.nr (fun k => V (ix2 r ⟨128 + k.val, by omega⟩)) l * E (ix2 0 l) := by
  pointwise [k0_pay16, k0_pay12, k0_pay13, k0_pay14, k0_pay15]
  rfl
theorem pay21_at (r : Fin 512) (l : Fin 128) : (show EReal from k0_pay21 (F := Ideal) E (k0_pay17 V) (k0_pay19 V) (k0_pay20 V) (ix2 r l))
    = Scalars.nr (fun k => V (ix2 r ⟨256 + k.val, by omega⟩)) l * E (ix2 0 l) := by
  pointwise [k0_pay21, k0_pay17, k0_pay18, k0_pay19, k0_pay20]
  rfl
theorem pay27_at (r : Fin 512) (l : Fin 128) : (show EReal from k0_pay27 (F := Ideal) E (k0_pay22 V) (k0_pay24 V) (k0_pay25 V) k0_pay26 (ix2 r l))
    = Scalars.nr (fun k => V (ix2 r ⟨384 + k.val, by omega⟩)) l * E (ix2 0 l) := by
  pointwise [k0_pay27, k0_pay22, k0_pay23, k0_pay24, k0_pay25, k0_pay26]
  rfl
theorem pay35_at (r : Fin 512) (l : Fin 128) : (show EReal from k0_pay35 (F := Ideal) E (k0_pay30 U W) (k0_pay31 U W) (k0_pay32 U W) k0_pay33 k0_pay34 (ix2 r l))
    = Scalars.nr (fun k => k0_pay28 (F := Ideal) U W (ix2 r ⟨k.val, by omega⟩)) l * E (ix2 0 l) := by
  pointwise [k0_pay35, k0_pay30, k0_pay31, k0_pay32, k0_pay33, k0_pay34]
  rfl
theorem pay40_at (r : Fin 512) (l : Fin 128) : (show EReal from k0_pay40 (F := Ideal) E (k0_pay36 V) (k0_pay38 V) (k0_pay39 V) (Scalar.ofBits .f32 0x3C800000#32) (ix2 r l))
    = Scalars.nr (fun k => V (ix2 r ⟨128 + k.val, by omega⟩)) l * E (ix2 0 l) := by
  pointwise [k0_pay40, k0_pay36, k0_pay37, k0_pay38, k0_pay39]
  rfl
theorem pay46_at (r : Fin 512) (l : Fin 128) : (show EReal from k0_pay46 (F := Ideal) E (k0_pay41 V) (k0_pay43 V) (k0_pay44 V) (iota .tc S1x128 32 [1] iota_S1x128_d1_w32) k0_pay45 (ix2 r l))
    = Scalars.nr (fun k => V (ix2 r ⟨256 + k.val, by omega⟩)) l * E (ix2 0 l) := by
  pointwise [k0_pay46, k0_pay41, k0_pay42, k0_pay43, k0_pay44, k0_pay45]
  rfl
theorem pay52_at (r : Fin 512) (l : Fin 128) : (show EReal from k0_pay52 (F := Ideal) E (k0_pay47 V) (k0_pay49 V) k0_pay50 (k0_pay51 V) (ix2 r l))
    = Scalars.nr (fun k => V (ix2 r ⟨384 + k.val, by omega⟩)) l * E (ix2 0 l) := by
  pointwise [k0_pay52, k0_pay47, k0_pay48, k0_pay49, k0_pay50, k0_pay51]
  rfl

/-- and of the keys. -/
theorem pay59_at (r : Fin 512) (l : Fin 128) : (show EReal from k0_pay59 (F := Ideal) (k0_pay55 U W) (k0_pay57 U W) (k0_pay58 U W) (iota .tc S1x128 32 [1] iota_S1x128_d1_w32) 64#32 E (ix2 r l))
    = Scalars.nr (fun k => k0_pay53 (F := Ideal) U W (ix2 r ⟨k.val, by omega⟩)) l * E (ix2 0 l) := by
  pointwise [k0_pay59, k0_pay55, k0_pay56, k0_pay57, k0_pay58]
  rfl
theorem pay65_at (r : Fin 512) (l : Fin 128) : (show EReal from k0_pay65 (F := Ideal) (k0_pay60 V) (k0_pay62 V) (k0_pay63 V) k0_pay64 E (ix2 r l))
    = Scalars.nr (fun k => V (ix2 r ⟨128 + k.val, by omega⟩)) l * E (ix2 0 l) := by
  pointwise [k0_pay65, k0_pay60, k0_pay61, k0_pay62, k0_pay63, k0_pay64]
  rfl

end Cert.ProjIdeal.Work

end
-- ==== Proof.ProjRef.lean ====
/- The reference of the forward pass of the input projection, cut into the stages its mathematics has, and each stage read at an index. -/
module

public import proofs.«01_k».proof.Proof.Gen.ProjRefIdeal.Run
public import proofs.«01_k».proof.Proof.ProjScalars
public import Idealize.ShloMosaic.Lib.Pointwise

@[expose] public section

set_option maxRecDepth 16384

noncomputable section

namespace Cert.ProjRefIdeal.Work

open Cert.ProjRefIdeal Cert.ProjRefIdeal.Gen Idealize.ShloMosaic Idealize.ShloMosaic.TcCoe Idealize.SL.Sem

/-- The logistic function. -/
def sgR (X : FVec Ideal S8192x1024 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf X)))

/-- The rows after the norm. -/
def uR (X : FVec Ideal S8192x1024 .f32) (G : FVec Ideal S1x1024 .f32) : FVec Ideal S8192x1024 .f32 :=
  mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 G)

/-- The projected rows. -/
def prR (U : FVec Ideal S8192x1024 .f32) (W : FVec Ideal S1024x5632 .f32) : FVec Ideal S8192x5632 .f32 :=
  Host.dotGeneral dot_S8192x1024_S1024x5632_S8192x5632_1_0_0_1_n_n none U W

/-- The query columns, by heads, -/
def qsR (PR : FVec Ideal S8192x5632 .f32) : FVec Ideal S8192x16x64 .f32 :=
  shapeCast _ (extractStridedSlice S8192x1024 ![0, 0] PR slices_S8192x5632_S8192x1024_0_0) shapeCasts_S8192x1024_S8192x16x64

/-- the reciprocal root of each head, -/
def qhR (Q : FVec Ideal S8192x16x64 .f32) : FVec Ideal S8192x16x1 .f32 :=
  Host.rsqrt (addf (Host.divf (broadcastInDim S8192x16x1 ![0, 1] bcast_S8192x16_S8192x16x1_0_1 (Host.reduceAdd (mulf Q Q) (constant S_ .f32 0x00000000#32) reducesTo_S8192x16x64_S8192x16_d2 h_S_)) (broadcastInDim S8192x16x1 ![] bcast_S_S8192x16x1 (constant S_ .f32 0x42800000#32))) (broadcastInDim S8192x16x1 ![] bcast_S_S8192x16x1 (constant S_ .f32 0x358637BD#32)))

/-- and the heads after their norm. -/
def qnR (PR : FVec Ideal S8192x5632 .f32) (G : FVec Ideal S1x64 .f32) : FVec Ideal S8192x1024 .f32 :=
  shapeCast _ (mulf (mulf (mulf (qsR PR) (broadcastInDim S8192x16x64 ![0, 1, 2] bcast_S8192x16x1_S8192x16x64_0_1_2 (qhR (qsR PR)))) (broadcastInDim S8192x16x64 ![0, 1, 2] bcast_S1x1x64_S8192x16x64_0_1_2 (broadcastInDim S1x1x64 ![1, 2] bcast_S1x64_S1x1x64_1_2 G))) (broadcastInDim S8192x16x64 ![] bcast_S_S8192x16x64 (constant S_ .f32 0x3E000000#32))) shapeCasts_S8192x16x64_S8192x1024

/-- The key columns, by heads, -/
def ksR (PR : FVec Ideal S8192x5632 .f32) : FVec Ideal S8192x4x64 .f32 :=
  shapeCast _ (extractStridedSlice S8192x256 ![0, 1024] PR slices_S8192x5632_S8192x256_0_1024) shapeCasts_S8192x256_S8192x4x64

/-- the reciprocal root of each head, -/
def khR (Q : FVec Ideal S8192x4x64 .f32) : FVec Ideal S8192x4x1 .f32 :=
  Host.rsqrt (addf (Host.divf (broadcastInDim S8192x4x1 ![0, 1] bcast_S8192x4_S8192x4x1_0_1 (Host.reduceAdd (mulf Q Q) (constant S_ .f32 0x00000000#32) reducesTo_S8192x4x64_S8192x4_d2 h_S_)) (broadcastInDim S8192x4x1 ![] bcast_S_S8192x4x1 (constant S_ .f32 0x42800000#32))) (broadcastInDim S8192x4x1 ![] bcast_S_S8192x4x1 (constant S_ .f32 0x358637BD#32)))

/-- and the heads after their norm. -/
def knR (PR : FVec Ideal S8192x5632 .f32) (G : FVec Ideal S1x64 .f32) : FVec Ideal S8192x256 .f32 :=
  shapeCast _ (mulf (mulf (ksR PR) (broadcastInDim S8192x4x64 ![0, 1, 2] bcast_S8192x4x1_S8192x4x64_0_1_2 (khR (ksR PR)))) (broadcastInDim S8192x4x64 ![0, 1, 2] bcast_S1x1x64_S8192x4x64_0_1_2 (broadcastInDim S1x1x64 ![1, 2] bcast_S1x64_S1x1x64_1_2 G))) shapeCasts_S8192x4x64_S8192x256

/-- The value columns. -/
def vR (PR : FVec Ideal S8192x5632 .f32) : FVec Ideal S8192x256 .f32 := extractStridedSlice S8192x256 ![0, 1280] PR slices_S8192x5632_S8192x256_0_1280

/-- The gated columns times the logistic function of their gates. -/
def h0R (PR : FVec Ideal S8192x5632 .f32) : FVec Ideal S8192x1024 .f32 :=
  mulf (extractStridedSlice S8192x1024 ![0, 0] (extractStridedSlice S8192x2048 ![0, 1536] PR slices_S8192x5632_S8192x2048_0_1536) slices_S8192x2048_S8192x1024_0_0)
    (sgR (extractStridedSlice S8192x1024 ![0, 1024] (extractStridedSlice S8192x2048 ![0, 1536] PR slices_S8192x5632_S8192x2048_0_1536) slices_S8192x2048_S8192x1024_0_1024))

section
variable (m : (ℓ : Loc nD τ sig) → Buf (Elt Ideal) ℓ) (c : Dev nD)

/-- The reference's arguments. -/
abbrev aX : FVec Ideal S8192x1024 .f32 := m ((c.tc : Thread nD τ).loc main_arg0)
abbrev aG : FVec Ideal S1x1024 .f32 := m ((c.tc : Thread nD τ).loc main_arg1)
abbrev aW : FVec Ideal S1024x5632 .f32 := m ((c.tc : Thread nD τ).loc main_arg2)
abbrev aQG : FVec Ideal S1x64 .f32 := m ((c.tc : Thread nD τ).loc main_arg3)
abbrev aKG : FVec Ideal S1x64 .f32 := m ((c.tc : Thread nD τ).loc main_arg4)

end

/-- The projected rows, over the arguments. -/
def PR (X : FVec Ideal S8192x1024 .f32) (G : FVec Ideal S1x1024 .f32) (W : FVec Ideal S1024x5632 .f32) : FVec Ideal S8192x5632 .f32 := prR (uR X G) W

set_option maxHeartbeats 2000000 in
/-- The reference's run, its six results by their stages. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = truncf .bf16 (PR (aX m c) (aG m c) (aW m c)) bitsLt_bf16_f32
      ∧ r.2.mem ((c.tc : Thread nD τ).loc main_v56) = truncf .bf16 (uR (aX m c) (aG m c)) bitsLt_bf16_f32
      ∧ r.2.mem ((c.tc : Thread nD τ).loc main_v58) = truncf .bf16 (qnR (PR (aX m c) (aG m c) (aW m c)) (aQG m c)) bitsLt_bf16_f32
      ∧ r.2.mem ((c.tc : Thread nD τ).loc main_v60) = truncf .bf16 (knR (PR (aX m c) (aG m c) (aW m c)) (aKG m c)) bitsLt_bf16_f32
      ∧ r.2.mem ((c.tc : Thread nD τ).loc main_v62) = truncf .bf16 (vR (PR (aX m c) (aG m c) (aW m c))) bitsLt_bf16_f32
      ∧ r.2.mem ((c.tc : Thread nD τ).loc main_v54) = h0R (PR (aX m c) (aG m c) (aW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, h4, h5, hk⟩ := h c
  refine ⟨h0.trans ?_, h1.trans ?_, h2.trans ?_, h3.trans ?_, h4.trans ?_, h5.trans ?_, hk⟩
  · delta PR prR uR; rfl
  · delta uR; rfl
  · delta qnR qhR qsR PR prR uR; rfl
  · delta knR khR ksR PR prR uR; rfl
  · delta vR PR prR uR; rfl
  · delta h0R sgR PR prR uR; rfl

theorem uR_at (X : FVec Ideal S8192x1024 .f32) (G : FVec Ideal S1x1024 .f32) (R : Fin 8192) (k : Fin 1024) : uR X G (ix2 R k) = X (ix2 R k) * (Scalars.rs fun k => X (ix2 R k)) * G (ix2 0 k) := by
  pointwise [uR]
  rfl
theorem prR_at (U : FVec Ideal S8192x1024 .f32) (W : FVec Ideal S1024x5632 .f32) (R : Fin 8192) (n : Fin 5632) : prR U W (ix2 R n) = ∑ k : Fin 1024, U (ix2 R k) * W (ix2 k n) := by
  pointwise [prR]
theorem vR_at (P : FVec Ideal S8192x5632 .f32) (R : Fin 8192) (k : Fin 256) : vR P (ix2 R k) = P (ix2 R ⟨1280 + k.val, by omega⟩) := by
  pointwise [vR]
theorem h0R_at (P : FVec Ideal S8192x5632 .f32) (R : Fin 8192) (k : Fin 1024) :
    h0R P (ix2 R k) = P (ix2 R ⟨1536 + k.val, by omega⟩) * Ideal.logistic (P (ix2 R ⟨1536 + (1024 + k.val), by omega⟩)) := by
  pointwise [h0R, sgR]
  rfl
theorem qnR_at (P : FVec Ideal S8192x5632 .f32) (G : FVec Ideal S1x64 .f32) (R : Fin 8192) (k : Fin 1024) :
    qnR P G (ix2 R k) = P (ix2 R ⟨k.val, by omega⟩) * (Scalars.hs fun j => P (ix2 R ⟨k.val / 64 * 64 + j.val, by omega⟩)) * G (ix2 0 ⟨k.val % 64, by omega⟩) * Ideal.ofBits .f32 0x3E000000#32 := by
  pointwise [qnR, qhR, qsR]
  rfl
theorem knR_at (P : FVec Ideal S8192x5632 .f32) (G : FVec Ideal S1x64 .f32) (R : Fin 8192) (k : Fin 256) :
    knR P G (ix2 R k) = P (ix2 R ⟨1024 + k.val, by omega⟩) * (Scalars.hs fun j => P (ix2 R ⟨1024 + (k.val / 64 * 64 + j.val), by omega⟩)) * G (ix2 0 ⟨k.val % 64, by omega⟩) := by
  pointwise [knR, khR, ksR]
  rfl

end Cert.ProjRefIdeal.Work

end
-- ==== Proof.ProjValue.lean ====
/- What a point of the input projection stores, and what the six output arrays hold after the run. -/
module

public import proofs.«01_k».proof.Proof.Gen.ProjIdeal.Value
public import proofs.«01_k».proof.Proof.ProjPure
public import proofs.«01_k».proof.Proof.ProjRef
public import Idealize.ShloMosaic.Lib.Pipeline.ValueKit
public import Idealize.ShloMosaic.Lib.Pipeline.ReadBack
public import Idealize.ShloMosaic.Lib.Claim

@[expose] public section

set_option maxRecDepth 16384

noncomputable section

namespace Cert.ProjIdeal.Work

open Cert.ProjIdeal Cert.ProjIdeal.Gen Idealize.ShloMosaic Idealize.ShloMosaic.TcCoe Idealize.SL.Sem

open Idealize.ShloMosaic.Pipeline (Dat)

section
variable (b0 : FVec Ideal S512x1024 .f32) (b1 : FVec Ideal S1x1024 .f32) (b2 : FVec Ideal S1024x5632 .bf16) (b3 b4 : FVec Ideal S1x128 .f32)

/-- A block's projected rows. -/
def prB : FVec Ideal S512x5632 .bf16 := fun y => ∑ k : Fin 1024, (show EReal from k0_pay3 (F := Ideal) b0 b1 (ix2 (y 0) k)) * b2 (ix2 k (y 1))

/-- A column of a block's rows, times the reciprocal root of the column's head. -/
def nrm (P : FVec Ideal S512x5632 .bf16) (r : Fin 512) (n : ℕ) (hn : n < 1280) : EReal :=
  (show EReal from P (ix2 r ⟨n, by omega⟩)) * Scalars.hs fun j => P (ix2 r ⟨n / 64 * 64 + j.val, by omega⟩)

/-- A pair of heads, as the kernel norms it, head by head. -/
theorem nrm_tile (P : FVec Ideal S512x5632 .bf16) (r : Fin 512) (o : ℕ) (ho : o % 64 = 0) (hb : o + 128 ≤ 1280) (p : Fin 128 → EReal)
    (hp : ∀ k : Fin 128, p k = P (ix2 r ⟨o + k.val, by omega⟩)) (l : Fin 128) : p l * Scalars.pr p l = nrm P r (o + l.val) (by omega) := by
  rw [Scalars.pr_eq, nrm, hp l]
  refine congrArg (_ * ·) (congrArg Scalars.hs (funext fun j => (hp _).trans ?_))
  refine congrArg (fun q => P (ix2 r q)) (Fin.ext ?_)
  show o + (l.val / 64 * 64 + j.val) = (o + l.val) / 64 * 64 + j.val
  omega

/-- The same with a gain behind it. -/
theorem q_tile (P : FVec Ideal S512x5632 .bf16) (r : Fin 512) (o : ℕ) (ho : o % 64 = 0) (hb : o + 128 ≤ 1280) (p : Fin 128 → EReal)
    (hp : ∀ k : Fin 128, p k = P (ix2 r ⟨o + k.val, by omega⟩)) (l : Fin 128) (e : EReal) :
    Scalars.nr p l * e = nrm P r (o + l.val) (by omega) * e := by
  rw [Scalars.nr, nrm_tile P r o ho hb p hp l]

/-- The blocks a point stores: the heads of the queries after their norm, those of the keys, the values, and the gated columns. -/
def qnB : FVec Ideal S512x1024 .bf16 := fun y =>
  nrm (prB b0 b1 b2) (y 0) (y 1).val (by have := (y 1).isLt; change _ < 1024 at this; omega) * k0_pay4 (F := Ideal) b3 (ix2 0 ⟨(y 1).val % 128, by omega⟩)
def knB : FVec Ideal S512x256 .bf16 := fun y =>
  nrm (prB b0 b1 b2) (y 0) (1024 + (y 1).val) (by have := (y 1).isLt; change _ < 256 at this; omega) * b4 (ix2 0 ⟨(y 1).val % 128, by omega⟩)
def vB : FVec Ideal S512x256 .bf16 := fun y => prB b0 b1 b2 (ix2 (y 0) ⟨1280 + (y 1).val, by have := (y 1).isLt; change _ < 256 at this; omega⟩)
def h0B : FVec Ideal S512x1024 .f32 := fun y =>
  (show EReal from prB b0 b1 b2 (ix2 (y 0) ⟨1536 + (y 1).val, by have := (y 1).isLt; change _ < 1024 at this; omega⟩))
    * Ideal.logistic (prB b0 b1 b2 (ix2 (y 0) ⟨1536 + (1024 + (y 1).val), by have := (y 1).isLt; change _ < 1024 at this; omega⟩))

/-- A lane of a pair of heads lies in the stored block at the lane's column. -/
theorem qn_of (y : S512x1024.Idx) (r : Fin 512) (n : ℕ) (hn : n < 1280) (l : Fin 128) (e0 : (y 0).val = r.val) (e1 : (y 1).val = n) (el : n % 128 = l.val) :
    nrm (prB b0 b1 b2) r n hn * (show EReal from k0_pay4 (F := Ideal) b3 (ix2 0 l)) = qnB b0 b1 b2 b3 y := by
  subst e1
  obtain rfl : y 0 = r := Fin.ext e0
  exact Ideal.mul_congr rfl (congrArg (fun q => k0_pay4 (F := Ideal) b3 (ix2 0 q)) (Fin.ext el.symm))
theorem kn_of (y : S512x256.Idx) (r : Fin 512) (n : ℕ) (hn : n < 1280) (l : Fin 128) (e0 : (y 0).val = r.val) (e1 : 1024 + (y 1).val = n) (el : (y 1).val % 128 = l.val) :
    nrm (prB b0 b1 b2) r n hn * (show EReal from b4 (ix2 0 l)) = knB b0 b1 b2 b4 y := by
  subst e1
  obtain rfl : y 0 = r := Fin.ext e0
  exact Ideal.mul_congr rfl (congrArg (fun q => b4 (ix2 0 q)) (Fin.ext el.symm))

/-- The values of the body that several stores share. -/
theorem u_eq : k0_pay80 (F := Ideal) b0 b1 b2 b3 b4 = k0_pay3 (F := Ideal) b0 b1 := by
  unfold k0_pay80 r0_0 r0_1
  simp (disch := decide) only [View.ld_unit_lit']
theorem g_eq : k0_pay81 (F := Ideal) b0 b1 b2 b3 b4 = k0_pay4 (F := Ideal) b3 := by
  unfold k0_pay81 r0_2
  simp (disch := decide) only [View.ld_unit_lit']
theorem v82_at (r n : Fin 512) : (show EReal from k0_pay82 (F := Ideal) b0 b1 b2 b3 b4 (ix2 r n)) = prB b0 b1 b2 (ix2 r ⟨n.val, by omega⟩) := by
  unfold k0_pay82 r0_0 r0_1
  simp (disch := decide) only [View.ld_unit_lit']
  refine (pay5_at _ _ _ _ _).trans ?_
  pointwise [prB]
theorem v83_at (r n : Fin 512) : (show EReal from k0_pay83 (F := Ideal) b0 b1 b2 b3 b4 (ix2 r n)) = prB b0 b1 b2 (ix2 r ⟨512 + n.val, by omega⟩) := by
  unfold k0_pay83
  rw [u_eq]
  refine (pay28_at _ _ _ _).trans ?_
  pointwise [prB]
theorem v84_at (r n : Fin 512) : (show EReal from k0_pay84 (F := Ideal) b0 b1 b2 b3 b4 (ix2 r n)) = prB b0 b1 b2 (ix2 r ⟨1024 + n.val, by omega⟩) := by
  unfold k0_pay84
  rw [u_eq]
  refine (pay53_at _ _ _ _).trans ?_
  pointwise [prB]

/-- What a point stores in each output, over its blocks. -/
theorem block6 : out0_6 (F := Ideal) b0 b1 b2 b3 b4 = k0_pay3 (F := Ideal) b0 b1 := by
  frame_out
theorem block5 : out0_5 (F := Ideal) b0 b1 b2 b3 b4 = prB b0 b1 b2 := by
  funext y
  unfold_out out0_5
  canon_tiles x h
  all_goals
    idx_vars x
    first
      | refine (pay6_at _ _ _ _ _).trans ?_
      | refine (pay29_at _ _ _ _).trans ?_
      | refine (pay54_at _ _ _ _).trans ?_
      | refine (pay68_at _ _ _ _).trans ?_
      | refine (pay70_at _ _ _ _).trans ?_
      | refine (pay74_at _ _ _ _).trans ?_
      | refine (pay76_at _ _ _ _).trans ?_
      | refine (pay78_at _ _ _ _).trans ?_
      | refine (pay79_at _ _ _ _).trans ?_
      | refine (pay1_at _ _ _ _).trans ?_
      | refine (pay2_at _ _ _ _).trans ?_
    pointwise [prB]
    blk_point []
theorem block9 : out0_9 (F := Ideal) b0 b1 b2 b3 b4 = vB b0 b1 b2 := by
  frame_out
  funext y
  idx_vars y
  refine (pay66_at _ _ _).trans ?_
  refine (v84_at _ _ _ _ _ _ _).trans ?_
  refine congrArg (fun q => prB b0 b1 b2 (ix2 y0 q)) (Fin.ext ?_)
  show 1024 + (256 + y1.val) = 1280 + y1.val
  omega
theorem block7 : out0_7 (F := Ideal) b0 b1 b2 b3 b4 = qnB b0 b1 b2 b3 := by
  funext y
  frame_out
  rw [g_eq]
  canon_tiles x h
  all_goals idx_vars x
  case piece0 =>
    refine (pay52_at _ _ x0 x1).trans ?_
    refine (q_tile (prB b0 b1 b2) x0 896 (by decide) (by decide) _ (fun k => ?_) x1 _).trans ?_
    · refine (v83_at _ _ _ _ _ _ _).trans (congrArg (fun q => prB b0 b1 b2 (ix2 x0 q)) (Fin.ext ?_))
      show 512 + (384 + k.val) = 896 + k.val
      omega
    · exact qn_of _ _ _ _ y x0 _ _ x1 h0 (by omega) (by omega)
  case piece1 =>
    refine (pay46_at _ _ x0 x1).trans ?_
    refine (q_tile (prB b0 b1 b2) x0 768 (by decide) (by decide) _ (fun k => ?_) x1 _).trans ?_
    · refine (v83_at _ _ _ _ _ _ _).trans (congrArg (fun q => prB b0 b1 b2 (ix2 x0 q)) (Fin.ext ?_))
      show 512 + (256 + k.val) = 768 + k.val
      omega
    · exact qn_of _ _ _ _ y x0 _ _ x1 h0 (by omega) (by omega)
  case piece2 =>
    refine (pay40_at _ _ x0 x1).trans ?_
    refine (q_tile (prB b0 b1 b2) x0 640 (by decide) (by decide) _ (fun k => ?_) x1 _).trans ?_
    · refine (v83_at _ _ _ _ _ _ _).trans (congrArg (fun q => prB b0 b1 b2 (ix2 x0 q)) (Fin.ext ?_))
      show 512 + (128 + k.val) = 640 + k.val
      omega
    · exact qn_of _ _ _ _ y x0 _ _ x1 h0 (by omega) (by omega)
  case piece3 =>
    refine (pay35_at _ _ _ x0 x1).trans ?_
    refine (q_tile (prB b0 b1 b2) x0 512 (by decide) (by decide) _ (fun k => ?_) x1 _).trans ?_
    · rw [u_eq]
      refine (pay28_at _ _ _ _).trans ?_
      pointwise [prB]
    · exact qn_of _ _ _ _ y x0 _ _ x1 h0 (by omega) (by omega)
  case piece4 =>
    refine (pay27_at _ _ x0 x1).trans ?_
    refine (q_tile (prB b0 b1 b2) x0 384 (by decide) (by decide) _ (fun k => ?_) x1 _).trans ?_
    · refine (v82_at _ _ _ _ _ _ _).trans (congrArg (fun q => prB b0 b1 b2 (ix2 x0 q)) (Fin.ext ?_))
      show (384 + k.val) = 384 + k.val
      omega
    · exact qn_of _ _ _ _ y x0 _ _ x1 h0 (by omega) (by omega)
  case piece5 =>
    refine (pay21_at _ _ x0 x1).trans ?_
    refine (q_tile (prB b0 b1 b2) x0 256 (by decide) (by decide) _ (fun k => ?_) x1 _).trans ?_
    · refine (v82_at _ _ _ _ _ _ _).trans (congrArg (fun q => prB b0 b1 b2 (ix2 x0 q)) (Fin.ext ?_))
      show (256 + k.val) = 256 + k.val
      omega
    · exact qn_of _ _ _ _ y x0 _ _ x1 h0 (by omega) (by omega)
  case piece6 =>
    refine (pay16_at _ _ x0 x1).trans ?_
    refine (q_tile (prB b0 b1 b2) x0 128 (by decide) (by decide) _ (fun k => ?_) x1 _).trans ?_
    · refine (v82_at _ _ _ _ _ _ _).trans (congrArg (fun q => prB b0 b1 b2 (ix2 x0 q)) (Fin.ext ?_))
      show (128 + k.val) = 128 + k.val
      omega
    · exact qn_of _ _ _ _ y x0 _ _ x1 h0 (by omega) (by omega)
  case piece7 =>
    refine (pay11_at _ _ _ _ x0 x1).trans ?_
    refine (q_tile (prB b0 b1 b2) x0 0 (by decide) (by decide) _ (fun k => ?_) x1 _).trans ?_
    · refine (pay5_at _ _ _ _ _).trans ?_
      pointwise [prB]
    · exact qn_of _ _ _ _ y x0 _ _ x1 h0 (by omega) (by omega)
theorem block8 : out0_8 (F := Ideal) b0 b1 b2 b3 b4 = knB b0 b1 b2 b4 := by
  funext y
  frame_out
  canon_tiles x h
  all_goals idx_vars x
  case piece0 =>
    refine (pay65_at _ _ x0 x1).trans ?_
    refine (q_tile (prB b0 b1 b2) x0 1152 (by decide) (by decide) _ (fun k => ?_) x1 _).trans ?_
    · refine (v84_at _ _ _ _ _ _ _).trans (congrArg (fun q => prB b0 b1 b2 (ix2 x0 q)) (Fin.ext ?_))
      show 1024 + (128 + k.val) = 1152 + k.val
      omega
    · exact kn_of _ _ _ _ y x0 _ _ x1 h0 (by omega) (by omega)
  case piece1 =>
    refine (pay59_at _ _ _ x0 x1).trans ?_
    refine (q_tile (prB b0 b1 b2) x0 1024 (by decide) (by decide) _ (fun k => ?_) x1 _).trans ?_
    · rw [u_eq]
      refine (pay53_at _ _ _ _).trans ?_
      pointwise [prB]
    · exact kn_of _ _ _ _ y x0 _ _ x1 h0 (by omega) (by omega)
theorem block10 : out0_10 (F := Ideal) b0 b1 b2 b3 b4 = h0B b0 b1 b2 := by
  funext y
  frame_out
  rw [u_eq]
  canon_tiles x h
  all_goals idx_vars x
  case piece0 =>
    refine (pay77_at _ _ _ _ _).trans ?_
    refine Ideal.mul_congr ((pay75_at _ _ _ _).trans ?_) (congrArg Ideal.logistic ((pay73_at _ _ _ _).trans ?_))
    all_goals
      pointwise [prB]
      blk_point []
  case piece1 =>
    refine (pay72_at _ _ _ _ _).trans ?_
    refine Ideal.mul_congr ((pay69_at _ _ _ _).trans ?_) (congrArg Ideal.logistic ((pay67_at _ _ _ _).trans ?_))
    all_goals
      pointwise [prB]
      blk_point []
end

variable (m : (ℓ : Loc nD τ sig) → Buf (Elt Ideal) ℓ)

/-- Where each block lies: blocks of 512 rows, and the whole arrays of the gains and of the weight. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The arguments. -/
abbrev aX (c : Dev nD) : FVec Ideal S8192x1024 .f32 := m ((c : Thread nD τ).loc main_arg0)
abbrev aG (c : Dev nD) : FVec Ideal S1x1024 .f32 := m ((c : Thread nD τ).loc main_arg1)
abbrev aW (c : Dev nD) : FVec Ideal S1024x5632 .f32 := m ((c : Thread nD τ).loc main_arg2)
abbrev aQG (c : Dev nD) : FVec Ideal S1x64 .f32 := m ((c : Thread nD τ).loc main_arg3)
abbrev aKG (c : Dev nD) : FVec Ideal S1x64 .f32 := m ((c : Thread nD τ).loc main_arg4)

/-- The rows of a point's block are rows of the whole arrays. -/
theorem row_lt (t : Fin cfg0.N) (r : Fin 512) : t.val * 512 + r.val < 8192 := by
  have := t.isLt; have : cfg0.N = 16 := N_0; omega

/-- The row of the whole arrays that a row of a block is. -/
abbrev row (t : Fin cfg0.N) (r : Fin 512) : Fin 8192 := ⟨t.val * 512 + r.val, row_lt t r⟩

/-- The blocks a point reads, at an index of the arguments. -/
theorem blk0 (c : Dev nD) (t : Fin cfg0.N) (r : Fin 512) (k : Fin 1024) :
    (show EReal from iblk m c 0 t (ix2 r k)) = aX m c (ix2 (row t r) k) := by
  blk_point [iblk, V, idx t]
theorem blk1 (c : Dev nD) (t : Fin cfg0.N) (z : Fin 1) (k : Fin 1024) :
    (show EReal from iblk m c 1 t (ix2 z k)) = aG m c (ix2 z k) := by
  blk_point [iblk, V, idx t]
theorem blk2 (c : Dev nD) (t : Fin cfg0.N) (k : Fin 1024) (n : Fin 5632) :
    (show EReal from iblk m c 2 t (ix2 k n)) = aW m c (ix2 k n) := by
  blk_simp [iblk]
  entry_read
  show aW m c _ = _
  blk_ext [idx t]
theorem blk3 (c : Dev nD) (t : Fin cfg0.N) (l : Fin 128) :
    (show EReal from iblk m c 3 t (ix2 0 l)) = aQG m c (ix2 0 ⟨l.val % 64, by omega⟩) := by
  blk_simp [iblk]
  entry_read
  refine Eq.trans (congrArg _ (show _ = (ix2 0 l : S1x128.Idx) from by blk_ext [idx t])) ?_
  pointwise
theorem blk4 (c : Dev nD) (t : Fin cfg0.N) (l : Fin 128) :
    (show EReal from iblk m c 4 t (ix2 0 l)) = aKG m c (ix2 0 ⟨l.val % 64, by omega⟩) := by
  blk_simp [iblk]
  entry_read
  refine Eq.trans (congrArg _ (show _ = (ix2 0 l : S1x128.Idx) from by blk_ext [idx t])) ?_
  pointwise

/-- The reference's stages, over the arguments. -/
abbrev rU (c : Dev nD) : FVec Ideal S8192x1024 .f32 := ProjRefIdeal.Work.uR (aX m c) (aG m c)
abbrev rP (c : Dev nD) : FVec Ideal S8192x5632 .f32 := ProjRefIdeal.Work.PR (aX m c) (aG m c) (aW m c)

/-- What a point stores, at an index, is the reference's stage at the index of the whole array. -/
theorem u_at (c : Dev nD) (t : Fin cfg0.N) (r : Fin 512) (k : Fin 1024) :
    (show EReal from k0_pay3 (F := Ideal) (iblk m c 0 t) (iblk m c 1 t) (ix2 r k)) = rU m c (ix2 (row t r) k) := by
  refine (pay3_at _ _ r k).trans ?_
  refine .trans ?_ (ProjRefIdeal.Work.uR_at _ _ _ _).symm
  exact Ideal.mul_congr (Ideal.mul_congr (blk0 m c t r k) (congrArg Scalars.rs (funext fun k => blk0 m c t r k))) (blk1 m c t 0 k)
theorem p_at (c : Dev nD) (t : Fin cfg0.N) (r : Fin 512) (n : Fin 5632) :
    (show EReal from prB (iblk m c 0 t) (iblk m c 1 t) (iblk m c 2 t) (ix2 r n)) = rP m c (ix2 (row t r) n) := by
  refine .trans ?_ (ProjRefIdeal.Work.prR_at _ _ _ _).symm
  exact Finset.sum_congr rfl fun k _ => Ideal.mul_congr (u_at m c t r k) (blk2 m c t k n)
theorem nrm_at (c : Dev nD) (t : Fin cfg0.N) (r : Fin 512) (n : ℕ) (hn : n < 1280) :
    nrm (prB (iblk m c 0 t) (iblk m c 1 t) (iblk m c 2 t)) r n hn
      = (show EReal from rP m c (ix2 (row t r) ⟨n, by omega⟩)) * Scalars.hs fun j => rP m c (ix2 (row t r) ⟨n / 64 * 64 + j.val, by omega⟩) :=
  Ideal.mul_congr (p_at m c t r _) (congrArg Scalars.hs (funext fun j => p_at m c t r _))
theorem qn_at (c : Dev nD) (t : Fin cfg0.N) (r : Fin 512) (k : Fin 1024) :
    (show EReal from qnB (iblk m c 0 t) (iblk m c 1 t) (iblk m c 2 t) (iblk m c 3 t) (ix2 r k)) = ProjRefIdeal.Work.qnR (rP m c) (aQG m c) (ix2 (row t r) k) := by
  refine .trans ?_ (ProjRefIdeal.Work.qnR_at _ _ _ _).symm
  refine .trans ?_ (mul_assoc _ _ _).symm
  refine Ideal.mul_congr (nrm_at m c t r k.val (by omega)) ((pay4_at _ 0 _).trans (Ideal.mul_congr ((blk3 m c t _).trans ?_) rfl))
  refine congrArg (fun q => aQG m c (ix2 0 q)) (Fin.ext ?_)
  show k.val % 128 % 64 = k.val % 64
  omega
theorem kn_at (c : Dev nD) (t : Fin cfg0.N) (r : Fin 512) (k : Fin 256) :
    (show EReal from knB (iblk m c 0 t) (iblk m c 1 t) (iblk m c 2 t) (iblk m c 4 t) (ix2 r k)) = ProjRefIdeal.Work.knR (rP m c) (aKG m c) (ix2 (row t r) k) := by
  refine .trans ?_ (ProjRefIdeal.Work.knR_at _ _ _ _).symm
  refine Ideal.mul_congr ((nrm_at m c t r (1024 + k.val) (by omega)).trans (Ideal.mul_congr rfl (congrArg Scalars.hs (funext fun j => ?_)))) ((blk4 m c t _).trans ?_)
  · refine congrArg (fun q => rP m c (ix2 (row t r) q)) (Fin.ext ?_)
    show (1024 + k.val) / 64 * 64 + j.val = 1024 + (k.val / 64 * 64 + j.val)
    omega
  · refine congrArg (fun q => aKG m c (ix2 0 q)) (Fin.ext ?_)
    show k.val % 128 % 64 = k.val % 64
    omega
theorem v_at (c : Dev nD) (t : Fin cfg0.N) (r : Fin 512) (k : Fin 256) :
    (show EReal from vB (iblk m c 0 t) (iblk m c 1 t) (iblk m c 2 t) (ix2 r k)) = ProjRefIdeal.Work.vR (rP m c) (ix2 (row t r) k) := by
  refine .trans ?_ (ProjRefIdeal.Work.vR_at _ _ _).symm
  exact p_at m c t r _
theorem g_at (c : Dev nD) (t : Fin cfg0.N) (r : Fin 512) (k : Fin 1024) :
    (show EReal from h0B (iblk m c 0 t) (iblk m c 1 t) (iblk m c 2 t) (ix2 r k)) = ProjRefIdeal.Work.h0R (rP m c) (ix2 (row t r) k) := by
  refine .trans ?_ (ProjRefIdeal.Work.h0R_at _ _ _).symm
  exact Ideal.mul_congr (p_at m c t r _) (congrArg Ideal.logistic (p_at m c t r _))

/-- The output arrays after the run. -/
theorem final5 (c : Dev nD) : (dats m 0 c).arrAt 5 (cfgs 0).N = truncf .bf16 (rP m c) bitsLt_bf16_f32 := by
  refine (dats m 0 c).arrAt_eq_of_covers 5 _ (by decide +kernel) fun t hf y => ?_
  blk_simp
  rw [after0_5, block5]
  idx_vars y
  refine (p_at m c t y0 y1).trans ?_
  show rP m c _ = rP m c _
  blk_ext [idx t]
theorem final6 (c : Dev nD) : (dats m 0 c).arrAt 6 (cfgs 0).N = truncf .bf16 (rU m c) bitsLt_bf16_f32 := by
  refine (dats m 0 c).arrAt_eq_of_covers 6 _ (by decide +kernel) fun t hf y => ?_
  blk_simp
  rw [after0_6, block6]
  idx_vars y
  refine (u_at m c t y0 y1).trans ?_
  show rU m c _ = rU m c _
  blk_ext [idx t]
theorem final7 (c : Dev nD) : (dats m 0 c).arrAt 7 (cfgs 0).N = truncf .bf16 (ProjRefIdeal.Work.qnR (rP m c) (aQG m c)) bitsLt_bf16_f32 := by
  refine (dats m 0 c).arrAt_eq_of_covers 7 _ (by decide +kernel) fun t hf y => ?_
  blk_simp
  rw [after0_7, block7]
  idx_vars y
  refine (qn_at m c t y0 y1).trans ?_
  show ProjRefIdeal.Work.qnR (rP m c) (aQG m c) _ = ProjRefIdeal.Work.qnR (rP m c) (aQG m c) _
  blk_ext [idx t]
theorem final8 (c : Dev nD) : (dats m 0 c).arrAt 8 (cfgs 0).N = truncf .bf16 (ProjRefIdeal.Work.knR (rP m c) (aKG m c)) bitsLt_bf16_f32 := by
  refine (dats m 0 c).arrAt_eq_of_covers 8 _ (by decide +kernel) fun t hf y => ?_
  blk_simp
  rw [after0_8, block8]
  idx_vars y
  refine (kn_at m c t y0 y1).trans ?_
  show ProjRefIdeal.Work.knR (rP m c) (aKG m c) _ = ProjRefIdeal.Work.knR (rP m c) (aKG m c) _
  blk_ext [idx t]
theorem final9 (c : Dev nD) : (dats m 0 c).arrAt 9 (cfgs 0).N = truncf .bf16 (ProjRefIdeal.Work.vR (rP m c)) bitsLt_bf16_f32 := by
  refine (dats m 0 c).arrAt_eq_of_covers 9 _ (by decide +kernel) fun t hf y => ?_
  blk_simp
  rw [after0_9, block9]
  idx_vars y
  refine (v_at m c t y0 y1).trans ?_
  show ProjRefIdeal.Work.vR (rP m c) _ = ProjRefIdeal.Work.vR (rP m c) _
  blk_ext [idx t]
theorem final10 (c : Dev nD) : (dats m 0 c).arrAt 10 (cfgs 0).N = ProjRefIdeal.Work.h0R (rP m c) := by
  refine (dats m 0 c).arrAt_eq_of_covers 10 _ (by decide +kernel) fun t hf y => ?_
  blk_simp
  rw [after0_10, block10]
  idx_vars y
  refine (g_at m c t y0 y1).trans ?_
  show ProjRefIdeal.Work.h0R (rP m c) _ = ProjRefIdeal.Work.h0R (rP m c) _
  blk_ext [idx t]

end Cert.ProjIdeal.Work

end
-- ==== Proof.ProjClaim.lean ====
/- The claim that the input projection and its reference compute the same results. -/
module

public import proofs.«01_k».proof.Defs
public import proofs.«01_k».proof.Proof.ProjValue
public import proofs.«01_k».proof.Proof.MixScalars
public import Idealize.ShloMosaic.Lib.Claim

@[expose] public section

set_option maxRecDepth 16384

noncomputable section

namespace Cert.Proof

open Idealize.ShloMosaic Idealize.ShloMosaic.TcCoe Idealize.SL.Sem

set_option maxHeartbeats 2000000 in
/-- The input projection computes its reference's six results, at all arguments. -/
theorem proj_algebraic : @Cert.algebraic_ProjIdeal_ProjRefIdeal Cert.ProjIdeal.Gen.facts Cert.ProjRefIdeal.Gen.facts := by
  intro m g m' g' hpre hagree
  refine ⟨fun c => truncf .bf16 (Cert.ProjRefIdeal.Work.PR (Cert.ProjIdeal.Work.aX m c) (Cert.ProjIdeal.Work.aG m c) (Cert.ProjIdeal.Work.aW m c)) Cert.ProjRefIdeal.Gen.bitsLt_bf16_f32,
    fun c => truncf .bf16 (Cert.ProjRefIdeal.Work.uR (Cert.ProjIdeal.Work.aX m c) (Cert.ProjIdeal.Work.aG m c)) Cert.ProjRefIdeal.Gen.bitsLt_bf16_f32,
    fun c => truncf .bf16 (Cert.ProjRefIdeal.Work.qnR (Cert.ProjRefIdeal.Work.PR (Cert.ProjIdeal.Work.aX m c) (Cert.ProjIdeal.Work.aG m c) (Cert.ProjIdeal.Work.aW m c)) (Cert.ProjIdeal.Work.aQG m c)) Cert.ProjRefIdeal.Gen.bitsLt_bf16_f32,
    fun c => truncf .bf16 (Cert.ProjRefIdeal.Work.knR (Cert.ProjRefIdeal.Work.PR (Cert.ProjIdeal.Work.aX m c) (Cert.ProjIdeal.Work.aG m c) (Cert.ProjIdeal.Work.aW m c)) (Cert.ProjIdeal.Work.aKG m c)) Cert.ProjRefIdeal.Gen.bitsLt_bf16_f32,
    fun c => truncf .bf16 (Cert.ProjRefIdeal.Work.vR (Cert.ProjRefIdeal.Work.PR (Cert.ProjIdeal.Work.aX m c) (Cert.ProjIdeal.Work.aG m c) (Cert.ProjIdeal.Work.aW m c))) Cert.ProjRefIdeal.Gen.bitsLt_bf16_f32,
    fun c => Cert.ProjRefIdeal.Work.h0R (Cert.ProjRefIdeal.Work.PR (Cert.ProjIdeal.Work.aX m c) (Cert.ProjIdeal.Work.aG m c) (Cert.ProjIdeal.Work.aW m c)),
    ?_, ?_⟩
  · refine (θ_run Cert.ProjIdeal.defs _ _).mono ?_ (θ_run_and (Cert.ProjIdeal.Gen.run_main m g) (Cert.ProjIdeal.Gen.unchanged m g))
    rintro r ⟨h, hk⟩ c
    exact ⟨((h c).1 5).trans (Cert.ProjIdeal.Work.final5 m c),
      ((h c).1 6).trans (Cert.ProjIdeal.Work.final6 m c),
      ((h c).1 7).trans (Cert.ProjIdeal.Work.final7 m c),
      ((h c).1 8).trans (Cert.ProjIdeal.Work.final8 m c),
      ((h c).1 9).trans (Cert.ProjIdeal.Work.final9 m c),
      ((h c).1 10).trans (Cert.ProjIdeal.Work.final10 m c),
      hk c⟩
  · refine (θ_run Cert.ProjRefIdeal.defs _ _).mono ?_ (Cert.ProjRefIdeal.Work.run_named m' g')
    intro r h c
    obtain ⟨h0, h1, h2, h3, h4, h5, hk⟩ := h c
    obtain ⟨e0, e1, e2, e3, e4⟩ := hagree c
    exact ⟨(h0).trans (Scalars.congr3 (fun a b d => truncf .bf16 (Cert.ProjRefIdeal.Work.PR a b d) Cert.ProjRefIdeal.Gen.bitsLt_bf16_f32) e0 e1 e2),
      (h1).trans (congrArg₂ (fun a b => truncf .bf16 (Cert.ProjRefIdeal.Work.uR a b) Cert.ProjRefIdeal.Gen.bitsLt_bf16_f32) e0 e1),
      (h2).trans (Scalars.congr4 (fun a b d e => truncf .bf16 (Cert.ProjRefIdeal.Work.qnR (Cert.ProjRefIdeal.Work.PR a b d) e) Cert.ProjRefIdeal.Gen.bitsLt_bf16_f32) e0 e1 e2 e3),
      (h3).trans (Scalars.congr4 (fun a b d e => truncf .bf16 (Cert.ProjRefIdeal.Work.knR (Cert.ProjRefIdeal.Work.PR a b d) e) Cert.ProjRefIdeal.Gen.bitsLt_bf16_f32) e0 e1 e2 e4),
      (h4).trans (Scalars.congr3 (fun a b d => truncf .bf16 (Cert.ProjRefIdeal.Work.vR (Cert.ProjRefIdeal.Work.PR a b d)) Cert.ProjRefIdeal.Gen.bitsLt_bf16_f32) e0 e1 e2),
      (h5).trans (Scalars.congr3 (fun a b d => Cert.ProjRefIdeal.Work.h0R (Cert.ProjRefIdeal.Work.PR a b d)) e0 e1 e2),
      hk⟩

end Cert.Proof

end
-- ==== Proof.lean ====
/- The certificate's proof: the frames of the forward calls and of the gradients (of the mixing layer, of the feed-forward layer, of the input projection and of the
   weights) and of their references, and the claims that each computes its reference's results. -/
module

public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.WFf2
public import proofs.«01_k».proof.Proof.Gen.WFf2.Frame
public import proofs.«01_k».proof.Proof.Gen.WFf2Ideal
public import proofs.«01_k».proof.Proof.Gen.WFf2Ideal.Frame
public import proofs.«01_k».proof.Proof.Gen.WFf2Ideal.Value
public import proofs.«01_k».proof.Proof.Gen.WFf2RefIdeal
public import proofs.«01_k».proof.Proof.Gen.WFf2RefIdeal.Run
public import proofs.«01_k».proof.Proof.Gen.WFf1
public import proofs.«01_k».proof.Proof.Gen.WFf1.Frame
public import proofs.«01_k».proof.Proof.Gen.WFf1Ideal
public import proofs.«01_k».proof.Proof.Gen.WFf1Ideal.Frame
public import proofs.«01_k».proof.Proof.Gen.WFf1Ideal.Value
public import proofs.«01_k».proof.Proof.Gen.WFf1RefIdeal
public import proofs.«01_k».proof.Proof.Gen.WFf1RefIdeal.Run
public import proofs.«01_k».proof.Proof.Gen.WOut
public import proofs.«01_k».proof.Proof.Gen.WOut.Frame
public import proofs.«01_k».proof.Proof.Gen.WOutIdeal
public import proofs.«01_k».proof.Proof.Gen.WOutIdeal.Frame
public import proofs.«01_k».proof.Proof.Gen.WOutIdeal.Value
public import proofs.«01_k».proof.Proof.Gen.WOutRefIdeal
public import proofs.«01_k».proof.Proof.Gen.WOutRefIdeal.Run
public import proofs.«01_k».proof.Proof.Gen.WGlu
public import proofs.«01_k».proof.Proof.Gen.WGlu.Frame
public import proofs.«01_k».proof.Proof.Gen.WGluIdeal
public import proofs.«01_k».proof.Proof.Gen.WGluIdeal.Frame
public import proofs.«01_k».proof.Proof.Gen.WGluIdeal.Value
public import proofs.«01_k».proof.Proof.Gen.WGluRefIdeal
public import proofs.«01_k».proof.Proof.Gen.WGluRefIdeal.Run
public import proofs.«01_k».proof.Proof.Gen.WQkv
public import proofs.«01_k».proof.Proof.Gen.WQkv.Frame
public import proofs.«01_k».proof.Proof.Gen.WQkvIdeal
public import proofs.«01_k».proof.Proof.Gen.WQkvIdeal.Frame
public import proofs.«01_k».proof.Proof.Gen.WQkvIdeal.Value
public import proofs.«01_k».proof.Proof.Gen.WQkvRefIdeal
public import proofs.«01_k».proof.Proof.Gen.WQkvRefIdeal.Run
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Pre_mix_finite
public import proofs.«01_k».proof.Proof.MixClaim
public import proofs.«01_k».proof.Proof.FfnClaim
public import proofs.«01_k».proof.Proof.InClaim
public import proofs.«01_k».proof.Proof.WFf2Claim
public import proofs.«01_k».proof.Proof.WFf1Claim
public import proofs.«01_k».proof.Proof.WOutClaim
public import proofs.«01_k».proof.Proof.WGluClaim
public import proofs.«01_k».proof.Proof.WQkvClaim
public import proofs.«01_k».proof.Proof.FwdClaim
public import proofs.«01_k».proof.Proof.ProjClaim
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference of the mixing layer's gradient runs to its end and leaves its arguments as they were. -/
theorem mix_ref_frame : @Cert.quiescent_MixRefIdeal Cert.MixRefIdeal.Gen.facts := fun m ρ _ =>
  (θ_run Cert.MixRefIdeal.defs _ _).mono (fun r h => ⟨fun c => (h c).2.2.2.2.2.2.2.2, sem_eq_zero_of_no_sems (by decide) r.2⟩)
    (Cert.MixRefIdeal.Value.run (F := Ideal) m ρ)

/-- The reference of the feed-forward gradient runs to its end and leaves its arguments as they were. -/
theorem ffn_ref_frame : @Cert.quiescent_FfnRefIdeal Cert.FfnRefIdeal.Gen.facts := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)

/-- The reference of the input projection's gradient runs to its end and leaves its arguments as they were. -/
theorem in_ref_frame : @Cert.quiescent_InRefIdeal Cert.InRefIdeal.Gen.facts := fun m ρ _ =>
  (θ_run Cert.InRefIdeal.defs _ _).mono (fun r h => ⟨fun c => (h c).2.2, sem_eq_zero_of_no_sems (by decide) r.2⟩)
    (Cert.InRefIdeal.Value.run (F := Ideal) m ρ)

/-- The reference of the second feed-forward weight's gradient runs to its end and leaves its arguments as they were. -/
theorem wff2_ref_frame : @Cert.quiescent_WFf2RefIdeal Cert.WFf2RefIdeal.Gen.facts := fun m ρ _ =>
  (θ_run Cert.WFf2RefIdeal.defs _ _).mono (fun r h => ⟨fun c => (h c).2, sem_eq_zero_of_no_sems (by decide) r.2⟩)
    (Cert.WFf2RefIdeal.Value.run (F := Ideal) m ρ)

/-- The reference of the first feed-forward weight's gradient runs to its end and leaves its arguments as they were. -/
theorem wff1_ref_frame : @Cert.quiescent_WFf1RefIdeal Cert.WFf1RefIdeal.Gen.facts := fun m ρ _ =>
  (θ_run Cert.WFf1RefIdeal.defs _ _).mono (fun r h => ⟨fun c => (h c).2, sem_eq_zero_of_no_sems (by decide) r.2⟩)
    (Cert.WFf1RefIdeal.Value.run (F := Ideal) m ρ)

/-- The reference of the output weight's gradient runs to its end and leaves its arguments as they were. -/
theorem wout_ref_frame : @Cert.quiescent_WOutRefIdeal Cert.WOutRefIdeal.Gen.facts := fun m ρ _ =>
  (θ_run Cert.WOutRefIdeal.defs _ _).mono (fun r h => ⟨fun c => (h c).2, sem_eq_zero_of_no_sems (by decide) r.2⟩)
    (Cert.WOutRefIdeal.Value.run (F := Ideal) m ρ)

/-- The reference of the gradient of the input weight's gated and gate columns runs to its end and leaves its arguments as they were. -/
theorem wglu_ref_frame : @Cert.quiescent_WGluRefIdeal Cert.WGluRefIdeal.Gen.facts := fun m ρ _ =>
  (θ_run Cert.WGluRefIdeal.defs _ _).mono (fun r h => ⟨fun c => (h c).2, sem_eq_zero_of_no_sems (by decide) r.2⟩)
    (Cert.WGluRefIdeal.Value.run (F := Ideal) m ρ)

/-- The reference of the gradient of the input weight's query, key and value columns runs to its end and leaves its arguments as they were. -/
theorem wqkv_ref_frame : @Cert.quiescent_WQkvRefIdeal Cert.WQkvRefIdeal.Gen.facts := fun m ρ _ =>
  (θ_run Cert.WQkvRefIdeal.defs _ _).mono (fun r h => ⟨fun c => (h c).2, sem_eq_zero_of_no_sems (by decide) r.2⟩)
    (Cert.WQkvRefIdeal.Value.run (F := Ideal) m ρ)

/-- The reference of the forward pass of the mixing and feed-forward layers runs to its end and leaves its arguments as they were. -/
theorem fwd_ref_frame : @Cert.quiescent_FwdRefIdeal Cert.FwdRefIdeal.Gen.facts := fun m ρ _ =>
  (θ_run Cert.FwdRefIdeal.defs _ _).mono (fun r h => ⟨fun c => (h c).2.2.2.2.2.2.2.2.2, sem_eq_zero_of_no_sems (by decide) r.2⟩)
    (Cert.FwdRefIdeal.Value.run (F := Ideal) m ρ)

/-- The reference of the forward pass of the input projection runs to its end and leaves its arguments as they were. -/
theorem proj_ref_frame : @Cert.quiescent_ProjRefIdeal Cert.ProjRefIdeal.Gen.facts := fun m ρ _ =>
  (θ_run Cert.ProjRefIdeal.defs _ _).mono (fun r h => ⟨fun c => (h c).2.2.2.2.2.2, sem_eq_zero_of_no_sems (by decide) r.2⟩)
    (Cert.ProjRefIdeal.Value.run (F := Ideal) m ρ)

/-- All the claims. -/
theorem claim : Cert.Claim := ⟨Cert.Mix.Gen.facts, Cert.MixIdeal.Gen.facts, Cert.MixRefIdeal.Gen.facts,
  Cert.Ffn.Gen.facts, Cert.FfnIdeal.Gen.facts, Cert.FfnRefIdeal.Gen.facts,
  Cert.In.Gen.facts, Cert.InIdeal.Gen.facts, Cert.InRefIdeal.Gen.facts,
  Cert.WFf2.Gen.facts, Cert.WFf2Ideal.Gen.facts, Cert.WFf2RefIdeal.Gen.facts,
  Cert.WFf1.Gen.facts, Cert.WFf1Ideal.Gen.facts, Cert.WFf1RefIdeal.Gen.facts,
  Cert.WOut.Gen.facts, Cert.WOutIdeal.Gen.facts, Cert.WOutRefIdeal.Gen.facts,
  Cert.WGlu.Gen.facts, Cert.WGluIdeal.Gen.facts, Cert.WGluRefIdeal.Gen.facts,
  Cert.WQkv.Gen.facts, Cert.WQkvIdeal.Gen.facts, Cert.WQkvRefIdeal.Gen.facts,
  Cert.Fwd.Gen.facts, Cert.FwdIdeal.Gen.facts, Cert.FwdRefIdeal.Gen.facts,
  Cert.Proj.Gen.facts, Cert.ProjIdeal.Gen.facts, Cert.ProjRefIdeal.Gen.facts,
  Cert.Pre_mix_finite.Gen.facts,
  fun m ρ _ => Cert.Mix.Gen.frame m ρ, fun m ρ _ => Cert.MixIdeal.Gen.frame m ρ, fun m ρ _ => Cert.MixIdeal.Gen.frame m ρ,
  mix_ref_frame, fun m ρ _ => mix_ref_frame m ρ trivial,
  fun m ρ _ => Cert.Ffn.Gen.frame m ρ, fun m ρ _ => Cert.FfnIdeal.Gen.frame m ρ, ffn_ref_frame,
  fun m ρ _ => Cert.In.Gen.frame m ρ, fun m ρ _ => Cert.InIdeal.Gen.frame m ρ, in_ref_frame,
  fun m ρ _ => Cert.WFf2.Gen.frame m ρ, fun m ρ _ => Cert.WFf2Ideal.Gen.frame m ρ, wff2_ref_frame,
  fun m ρ _ => Cert.WFf1.Gen.frame m ρ, fun m ρ _ => Cert.WFf1Ideal.Gen.frame m ρ, wff1_ref_frame,
  fun m ρ _ => Cert.WOut.Gen.frame m ρ, fun m ρ _ => Cert.WOutIdeal.Gen.frame m ρ, wout_ref_frame,
  fun m ρ _ => Cert.WGlu.Gen.frame m ρ, fun m ρ _ => Cert.WGluIdeal.Gen.frame m ρ, wglu_ref_frame,
  fun m ρ _ => Cert.WQkv.Gen.frame m ρ, fun m ρ _ => Cert.WQkvIdeal.Gen.frame m ρ, wqkv_ref_frame,
  fun m ρ _ => Cert.Fwd.Gen.frame m ρ, fun m ρ _ => Cert.FwdIdeal.Gen.frame m ρ, fwd_ref_frame,
  fun m ρ _ => Cert.Proj.Gen.frame m ρ, fun m ρ _ => Cert.ProjIdeal.Gen.frame m ρ, proj_ref_frame,
  trivial, mix_algebraic, trivial, ffn_algebraic, trivial, in_algebraic, trivial, wff2_algebraic, trivial, wff1_algebraic, trivial, wout_algebraic, trivial, wglu_algebraic, trivial, wqkv_algebraic, trivial, fwd_algebraic, trivial, proj_algebraic⟩

end Cert.Proof

end
